-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite9 [hPre_finite9 : Cert.Pre_finite9.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite9.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).1 = (fun _ => 1#1)
    ∧ (Cert.Pre_finite9.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite9 [hPre_finite9 : Cert.Pre_finite9.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite9.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).1 = (fun _ => 1#1)
    ∧ (Cert.Pre_finite9.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite9 [hKernel13Ideal : Cert.Kernel13Ideal.Facts] [hPre_finite9 : Cert.Pre_finite9.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite9 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite9 [hReference13Ideal : Cert.Reference13Ideal.Facts] [hPre_finite9 : Cert.Pre_finite9.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite9 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)) (v4 : (c : Dev Cert.Kernel2Ideal.nD) → Buf (Elt Ideal) ((c.tc : Thread Cert.Kernel2Ideal.nD Cert.Kernel2Ideal.τ).loc Cert.Kernel2Ideal.main_v1_4)) (v5 : (c : Dev Cert.Kernel2Ideal.nD) → Buf (Elt Ideal) ((c.tc : Thread Cert.Kernel2Ideal.nD Cert.Kernel2Ideal.τ).loc Cert.Kernel2Ideal.main_v1_5)) (v6 : (c : Dev Cert.Kernel2Ideal.nD) → Buf (Elt Ideal) ((c.tc : Thread Cert.Kernel2Ideal.nD Cert.Kernel2Ideal.τ).loc Cert.Kernel2Ideal.main_v1_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_v1_4) = v4 c
          ∧ r.2.mem ((c.tc : Thread Cert.Kernel2Ideal.nD Cert.Kernel2Ideal.τ).loc Cert.Kernel2Ideal.main_v1_5) = v5 c
          ∧ r.2.mem ((c.tc : Thread Cert.Kernel2Ideal.nD Cert.Kernel2Ideal.τ).loc Cert.Kernel2Ideal.main_v1_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_v19) = v4 c
          ∧ r.2.mem ((c.tc : Thread Cert.Reference2Ideal.nD Cert.Reference2Ideal.τ).loc Cert.Reference2Ideal.main_v20) = v5 c
          ∧ r.2.mem ((c.tc : Thread Cert.Reference2Ideal.nD Cert.Reference2Ideal.τ).loc Cert.Reference2Ideal.main_v21) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v13_3)) (v4 : (c : Dev Cert.Kernel4Ideal.nD) → Buf (Elt Ideal) ((c.tc : Thread Cert.Kernel4Ideal.nD Cert.Kernel4Ideal.τ).loc Cert.Kernel4Ideal.main_v13_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v13_3) = v3 c
          ∧ r.2.mem ((c.tc : Thread Cert.Kernel4Ideal.nD Cert.Kernel4Ideal.τ).loc Cert.Kernel4Ideal.main_v13_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v114) = v0 c
          ∧ r.2.mem ((c.tc : Thread Cert.Reference4Ideal.nD Cert.Reference4Ideal.τ).loc Cert.Reference4Ideal.main_v115) = v1 c
          ∧ r.2.mem ((c.tc : Thread Cert.Reference4Ideal.nD Cert.Reference4Ideal.τ).loc Cert.Reference4Ideal.main_v116) = v2 c
          ∧ r.2.mem ((c.tc : Thread Cert.Reference4Ideal.nD Cert.Reference4Ideal.τ).loc Cert.Reference4Ideal.main_v66) = v3 c
          ∧ r.2.mem ((c.tc : Thread Cert.Reference4Ideal.nD Cert.Reference4Ideal.τ).loc Cert.Reference4Ideal.main_v117) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)) (v3 : (c : Dev Cert.Kernel5Ideal.nD) → Buf (Elt Ideal) ((c.tc : Thread Cert.Kernel5Ideal.nD Cert.Kernel5Ideal.τ).loc Cert.Kernel5Ideal.main_v1_3)) (v4 : (c : Dev Cert.Kernel5Ideal.nD) → Buf (Elt Ideal) ((c.tc : Thread Cert.Kernel5Ideal.nD Cert.Kernel5Ideal.τ).loc Cert.Kernel5Ideal.main_v1_4)) (v5 : (c : Dev Cert.Kernel5Ideal.nD) → Buf (Elt Ideal) ((c.tc : Thread Cert.Kernel5Ideal.nD Cert.Kernel5Ideal.τ).loc Cert.Kernel5Ideal.main_v1_5)) (v6 : (c : Dev Cert.Kernel5Ideal.nD) → Buf (Elt Ideal) ((c.tc : Thread Cert.Kernel5Ideal.nD Cert.Kernel5Ideal.τ).loc Cert.Kernel5Ideal.main_v1_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_v1_3) = v3 c
          ∧ r.2.mem ((c.tc : Thread Cert.Kernel5Ideal.nD Cert.Kernel5Ideal.τ).loc Cert.Kernel5Ideal.main_v1_4) = v4 c
          ∧ r.2.mem ((c.tc : Thread Cert.Kernel5Ideal.nD Cert.Kernel5Ideal.τ).loc Cert.Kernel5Ideal.main_v1_5) = v5 c
          ∧ r.2.mem ((c.tc : Thread Cert.Kernel5Ideal.nD Cert.Kernel5Ideal.τ).loc Cert.Kernel5Ideal.main_v1_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_v17) = v2 c
          ∧ r.2.mem ((c.tc : Thread Cert.Reference5Ideal.nD Cert.Reference5Ideal.τ).loc Cert.Reference5Ideal.main_v18) = v3 c
          ∧ r.2.mem ((c.tc : Thread Cert.Reference5Ideal.nD Cert.Reference5Ideal.τ).loc Cert.Reference5Ideal.main_v19) = v4 c
          ∧ r.2.mem ((c.tc : Thread Cert.Reference5Ideal.nD Cert.Reference5Ideal.τ).loc Cert.Reference5Ideal.main_v20) = v5 c
          ∧ r.2.mem ((c.tc : Thread Cert.Reference5Ideal.nD Cert.Reference5Ideal.τ).loc Cert.Reference5Ideal.main_v21) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v68) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite9 [hKernel13Ideal : Cert.Kernel13Ideal.Facts] [hReference13Ideal : Cert.Reference13Ideal.Facts] [hPre_finite9 : Cert.Pre_finite9.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite9 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite9 : Cert.Pre_finite9.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite9 (hKernel13Ideal := hKernel13Ideal) (hPre_finite9 := hPre_finite9)
    ∧ quiescent_Reference13Ideal (hReference13Ideal := hReference13Ideal)
    ∧ quiescent_Reference13Ideal_pre_finite9 (hReference13Ideal := hReference13Ideal) (hPre_finite9 := hPre_finite9)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite9 (hKernel13Ideal := hKernel13Ideal) (hReference13Ideal := hReference13Ideal) (hPre_finite9 := hPre_finite9)
-- ==== Pre_finite9.lean ====
abbrev S32x1024 : Shape := ⟨2, ![32, 1024]⟩
abbrev S2x32x256x4x256 : Shape := ⟨5, ![2, 32, 256, 4, 256]⟩
abbrev S_ : Shape := ⟨0, ![]⟩

class Facts : Prop where
  bcast_S_S32x1024 : S_.BroadcastsInDim S32x1024 (![] : Fin 0 → Fin S32x1024.rank)
  bcast_S_S2x32x256x4x256 : S_.BroadcastsInDim S2x32x256x4x256 (![] : Fin 0 → Fin S2x32x256x4x256.rank)

variable [Facts]

def fn {F : FTy → Type} [FloatOps F] (main_arg0 : FVec F S32x1024 .f32) (main_arg1 : FVec F S2x32x256x4x256 .f32) (main_arg2 : FVec F S2x32x256x4x256 .f32) : IVec S32x1024 1 × IVec S2x32x256x4x256 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_v3 : FVec F S2x32x256x4x256 .f32 := Host.absf main_arg1
  let main_cst_0 : FVec F S_ .f32 := constant S_ .f32 0x7F800000#32
  let main_v4 : FVec F S2x32x256x4x256 .f32 := broadcastInDim S2x32x256x4x256 ![] bcast_S_S2x32x256x4x256 main_cst_0
  let main_v5 : IVec S2x32x256x4x256 1 := cmpf .olt main_v3 main_v4
  (main_v2, main_v5)
-- ==== Kernel.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S256x1024 : Shape := ⟨2, ![256, 1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1024x2816 : Shape := ⟨2, ![1024, 2816]⟩
abbrev S512 : Shape := ⟨1, ![512]⟩
abbrev S512x1 : Shape := ⟨2, ![512, 1]⟩
abbrev S256x256 : Shape := ⟨2, ![256, 256]⟩
abbrev S512x2816 : Shape := ⟨2, ![512, 2816]⟩

abbrev nBuf : Space → Nat
  | .hbm => 18
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .bf16⟩
  | .hbm, ⟨5, _⟩ => ⟨S1024, .f32⟩
  | .hbm, ⟨6, _⟩ => ⟨S1024x1024, .bf16⟩
  | .hbm, ⟨7, _⟩ => ⟨S256x1024, .bf16⟩
  | .hbm, ⟨8, _⟩ => ⟨S256x1024, .bf16⟩
  | .hbm, ⟨9, _⟩ => ⟨S1024x1024, .bf16⟩
  | .hbm, ⟨10, _⟩ => ⟨S1024, .f32⟩
  | .hbm, ⟨11, _⟩ => ⟨S1024x5632, .bf16⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | .local _ .vmem, ⟨19, _⟩ => ⟨S2816x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S256x1024 : Shape := ⟨2, ![256, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩
abbrev S16384x5632 : Shape := ⟨2, ![16384, 5632]⟩
abbrev S16384x2816 : Shape := ⟨2, ![16384, 2816]⟩

abbrev nBuf : Space → Nat
  | .hbm => 117
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .bf16⟩
  | .hbm, ⟨5, _⟩ => ⟨S1024, .f32⟩
  | .hbm, ⟨6, _⟩ => ⟨S1024x1024, .bf16⟩
  | .hbm, ⟨7, _⟩ => ⟨S256x1024, .bf16⟩
  | .hbm, ⟨8, _⟩ => ⟨S256x1024, .bf16⟩
  | .hbm, ⟨9, _⟩ => ⟨S1024x1024, .bf16⟩
  | .hbm, ⟨10, _⟩ => ⟨S1024, .f32⟩
  | .hbm, ⟨11, _⟩ => ⟨S1024x5632, .bf16⟩
  | .hbm, ⟨12, _⟩ => ⟨S2816x1024, .bf16⟩
  | .hbm, ⟨13, _⟩ => ⟨S1024, .f32⟩
  | .hbm, ⟨14, _⟩ => ⟨S16384x512, .f32⟩
  | .hbm, ⟨15, _⟩ => ⟨S16384x256, .f32⟩
  | .hbm, ⟨16, _⟩ => ⟨S16384x256, .f32⟩
  | .hbm, ⟨17, _⟩ => ⟨S16384x1024, .f32⟩
  | .hbm, ⟨18, _⟩ => ⟨S1024x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S16384x1024, .f32⟩
  | .hbm, ⟨39, _⟩ => ⟨S16384x4x256, .f32⟩
  | .hbm, ⟨40, _⟩ => ⟨S256x1024, .f32⟩
  | .hbm, ⟨41, _⟩ => ⟨S256x4x256, .f32⟩
  | .hbm, ⟨42, _⟩ => ⟨S256x1024, .f32⟩
  | .hbm, ⟨43, _⟩ => ⟨S256x4x256, .f32⟩
  | .hbm, ⟨44, _⟩ => ⟨S4x16384x256, .f32⟩
  | .hbm, ⟨45, _⟩ => ⟨S_, .f32⟩
  | .hbm, ⟨46, _⟩ => ⟨S4x16384x256, .f32⟩
  | .hbm, ⟨47, _⟩ => ⟨S4x16384x256, .f32⟩
  | .hbm, ⟨48, _⟩ => ⟨S_, .f32⟩
  | .hbm, ⟨49, _⟩ => ⟨S4x16384, .f32⟩
  | .hbm, ⟨50, _⟩ => ⟨S_, .f32⟩
  | .hbm, ⟨51, _⟩ => ⟨S4x16384, .f32⟩
  | .hbm, ⟨52, _⟩ => ⟨S4x16384, .f32⟩
  | .hbm, ⟨53, _⟩ => ⟨S4x16384x1, .f32⟩
  | .hbm, ⟨54, _⟩ => ⟨S4x16384x256, .f32⟩
  | .hbm, ⟨55, _⟩ => ⟨S4x16384x256, .f32⟩
  | .hbm, ⟨56, _⟩ => ⟨S4x16384x256, .f32⟩
  | .hbm, ⟨57, _⟩ => ⟨S_, .f32⟩
  | .hbm, ⟨58, _⟩ => ⟨S4x16384, .f32⟩
  | .hbm, ⟨59, _⟩ => ⟨S4x16384x1, .f32⟩
  | .hbm, ⟨60, _⟩ => ⟨S4x16384x256, .f32⟩
  | .hbm, ⟨61, _⟩ => ⟨S4x16384x256, .f32⟩
  | .hbm, ⟨62, _⟩ => ⟨S4x256x16384, .f32⟩
  | .hbm, ⟨63, _⟩ => ⟨S16384x4x256, .f32⟩
  | .hbm, ⟨64, _⟩ => ⟨S16384x1024, .f32⟩
  | .hbm, ⟨65, _⟩ => ⟨S1024x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S1024x5632, .f32⟩
  | .hbm, ⟨85, _⟩ => ⟨S16384x5632, .f32⟩
  | .hbm, ⟨86, _⟩ => ⟨S16384x2816, .f32⟩
  | .hbm, ⟨87, _⟩ => ⟨S16384x2816, .f32⟩
  | .hbm, ⟨88, _⟩ => ⟨S16384x2816, .f32⟩
  | .hbm, ⟨89, _⟩ => ⟨S16384x2816, .f32⟩
  | .hbm, ⟨90, _⟩ => ⟨S_, .f32⟩
  | .hbm, ⟨91, _⟩ => ⟨S16384x2816, .f32⟩
  | .hbm, ⟨92, _⟩ => ⟨S16384x2816, .f32⟩
  | .hbm, ⟨93, _⟩ => ⟨S_, .f32⟩
  | .hbm, ⟨94, _⟩ => ⟨S16384x2816, .f32⟩
  | .hbm, ⟨95, _⟩ => ⟨S16384x2816, .f32⟩
  | .hbm, ⟨96, _⟩ => ⟨S16384x2816, .f32⟩
  | .hbm, ⟨97, _⟩ => ⟨S16384x2816, .f32⟩
  | .hbm, ⟨98, _⟩ => ⟨S2816x1024, .f32⟩
  | .hbm, ⟨99, _⟩ => ⟨S16384x1024, .f32⟩
  | .hbm, ⟨100, _⟩ => ⟨S16384x1024, .f32⟩
  | .hbm, ⟨101, _⟩ => ⟨S16384x1024, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S16384x1024, .f32⟩
  | .hbm, ⟨113, _⟩ => ⟨S16384x1024, .f32⟩
  | .hbm, ⟨114, _⟩ => ⟨S1x1024, .f32⟩
  | .hbm, ⟨115, _⟩ => ⟨S16384x1024, .f32⟩
  | .hbm, ⟨116, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_9 : Ref sig .tc := ⟨.hbm, 102, rfl⟩
abbrev main_v70 : Ref sig .tc := ⟨.hbm, 103, rfl⟩
abbrev main_v71 : Ref sig .tc := ⟨.hbm, 104, rfl⟩
abbrev main_cst_10 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2688 : Shape := ⟨2, ![1024, 2688]⟩
abbrev S1x1024 : Shape := ⟨2, ![1, 1024]⟩
abbrev S16384x512 : Shape := ⟨2, ![16384, 512]⟩
abbrev S16384x128 : Shape := ⟨2, ![16384, 128]⟩
abbrev S16384x256 : Shape := ⟨2, ![16384, 256]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S1024x128 : Shape := ⟨2, ![1024, 128]⟩
abbrev S1024x256 : Shape := ⟨2, ![1024, 256]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2688, .bf16⟩
  | .hbm, ⟨3, _⟩ => ⟨S1x1024, .f32⟩
  | .hbm, ⟨4, _⟩ => ⟨S16384x512, .f32⟩
  | .hbm, ⟨5, _⟩ => ⟨S16384x1024, .f32⟩
  | .hbm, ⟨6, _⟩ => ⟨S16384x128, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1024 : Shape := ⟨1, ![1024]⟩
abbrev S1024x2688 : Shape := ⟨2, ![1024, 2688]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2688 : Shape := ⟨2, ![16384, 2688]⟩
abbrev S16384x512 : Shape := ⟨2, ![16384, 512]⟩
abbrev S16384x128 : Shape := ⟨2, ![16384, 128]⟩
abbrev S16384x256 : Shape := ⟨2, ![16384, 256]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2688, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x2688, .f32⟩
  | .hbm, ⟨20, _⟩ => ⟨S16384x2688, .f32⟩
  | .hbm, ⟨21, _⟩ => ⟨S16384x512, .f32⟩
  | .hbm, ⟨22, _⟩ => ⟨S16384x1024, .f32⟩
  | .hbm, ⟨23, _⟩ => ⟨S16384x128, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel3.lean ====
abbrev S256x1024 : Shape := ⟨2, ![256, 1024]⟩
abbrev S1024 : Shape := ⟨1, ![1024]⟩
abbrev S1024x2048 : Shape := ⟨2, ![1024, 2048]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .bf16⟩
  | .hbm, ⟨3, _⟩ => ⟨S1x1024, .f32⟩
  | .hbm, ⟨4, _⟩ => ⟨S256x1024, .f32⟩
  | .hbm, ⟨5, _⟩ => ⟨S256x1024, .f32⟩
  | .hbm, ⟨6, _⟩ => ⟨S256x1024, .bf16⟩
  | .hbm, ⟨7, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference3Ideal.lean ====
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S1024x2048, .f32⟩
  | .hbm, ⟨20, _⟩ => ⟨S256x2048, .f32⟩
  | .hbm, ⟨21, _⟩ => ⟨S256x1024, .f32⟩
  | .hbm, ⟨22, _⟩ => ⟨S256x1024, .f32⟩
  | .hbm, ⟨23, _⟩ => ⟨S256x1024, .bf16⟩
  | .hbm, ⟨24, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S32x512 : Shape := ⟨2, ![32, 512]⟩
abbrev S32x1024 : Shape := ⟨2, ![32, 1024]⟩
abbrev S32x128 : Shape := ⟨2, ![32, 128]⟩
abbrev S32x256 : Shape := ⟨2, ![32, 256]⟩
abbrev S32x3x1024 : Shape := ⟨3, ![32, 3, 1024]⟩
abbrev S32x8x64x128 : Shape := ⟨4, ![32, 8, 64, 128]⟩
abbrev S32x15x256 : Shape := ⟨3, ![32, 15, 256]⟩
abbrev S4x1024 : Shape := ⟨2, ![4, 1024]⟩
abbrev S1x1024 : Shape := ⟨2, ![1, 1024]⟩
abbrev S1x128 : Shape := ⟨2, ![1, 128]⟩
abbrev S1x512 : Shape := ⟨2, ![1, 512]⟩
abbrev S256x256 : Shape := ⟨2, ![256, 256]⟩
abbrev S1x256 : Shape := ⟨2, ![1, 256]⟩
abbrev S128 : Shape := ⟨1, ![128]⟩
abbrev S128x1 : Shape := ⟨2, ![128, 1]⟩
abbrev S512 : Shape := ⟨1, ![512]⟩
abbrev S_ : Shape := ⟨0, ![]⟩
abbrev S128x512 : Shape := ⟨2, ![128, 512]⟩
abbrev S32x1x512 : Shape := ⟨3, ![32, 1, 512]⟩
abbrev S32x1x1024 : Shape := ⟨3, ![32, 1, 1024]⟩
abbrev S32x1x128 : Shape := ⟨3, ![32, 1, 128]⟩
abbrev S32x1x256 : Shape := ⟨3, ![32, 1, 256]⟩
abbrev S2x1x512 : Shape := ⟨3, ![2, 1, 512]⟩
abbrev S2x1x1024 : Shape := ⟨3, ![2, 1, 1024]⟩
abbrev S2x1x128 : Shape := ⟨3, ![2, 1, 128]⟩
abbrev S2x1x256 : Shape := ⟨3, ![2, 1, 256]⟩
abbrev S2x3x1024 : Shape := ⟨3, ![2, 3, 1024]⟩
abbrev S2x8x64x128 : Shape := ⟨4, ![2, 8, 64, 128]⟩
abbrev S2x15x256 : Shape := ⟨3, ![2, 15, 256]⟩
abbrev S1x1x1024 : Shape := ⟨3, ![1, 1, 1024]⟩
abbrev S1x3x1024 : Shape := ⟨3, ![1, 3, 1024]⟩
abbrev S3x1024 : Shape := ⟨2, ![3, 1024]⟩
abbrev S1x1x128 : Shape := ⟨3, ![1, 1, 128]⟩
abbrev S8x128 : Shape := ⟨2, ![8, 128]⟩
abbrev S16x128 : Shape := ⟨2, ![16, 128]⟩
abbrev S16x512 : Shape := ⟨2, ![16, 512]⟩
abbrev S1x8x64x128 : Shape := ⟨4, ![1, 8, 64, 128]⟩
abbrev S8x64x128 : Shape := ⟨3, ![8, 64, 128]⟩
abbrev S1x64x128 : Shape := ⟨3, ![1, 64, 128]⟩
abbrev S64x128 : Shape := ⟨2, ![64, 128]⟩
abbrev S128x128 : Shape := ⟨2, ![128, 128]⟩
abbrev S1x1x512 : Shape := ⟨3, ![1, 1, 512]⟩
abbrev S1 : Shape := ⟨1, ![1]⟩
abbrev S1x1 : Shape := ⟨2, ![1, 1]⟩
abbrev S1x1x256 : Shape := ⟨3, ![1, 1, 256]⟩
abbrev S1x15x256 : Shape := ⟨3, ![1, 15, 256]⟩
abbrev S15x256 : Shape := ⟨2, ![15, 256]⟩
abbrev S256 : Shape := ⟨1, ![256]⟩
abbrev S8x256 : Shape := ⟨2, ![8, 256]⟩
abbrev S14x256 : Shape := ⟨2, ![14, 256]⟩

abbrev nBuf : Space → Nat
  | .hbm => 50
  | .vmem => 33
  | .smem => 0
  | _ => 0

abbrev bufTy : (tb : Table) → Fin (tcTables nBuf tb) → BufTy
  | .hbm, ⟨0, _⟩ => ⟨S32x512, .f32⟩
  | .hbm, ⟨1, _⟩ => ⟨S32x1024, .f32⟩
  | .hbm, ⟨2, _⟩ => ⟨S32x128, .f32⟩
  | .hbm, ⟨3, _⟩ => ⟨S32x256, .f32⟩
  | .hbm, ⟨4, _⟩ => ⟨S32x3x1024, .f32⟩
  | .hbm, ⟨5, _⟩ => ⟨S32x8x64x128, .f32⟩
  | .hbm, ⟨6, _⟩ => ⟨S32x15x256, .f32⟩
  | .hbm, ⟨7, _⟩ => ⟨S4x1024, .f32⟩
  | .hbm, ⟨8, _⟩ => ⟨S1x1024, .f32⟩
  | .hbm, ⟨9, _⟩ => ⟨S1x128, .f32⟩
  | .hbm, ⟨10, _⟩ => ⟨S1x128, .f32⟩
  | .hbm, ⟨11, _⟩ => ⟨S1x512, .f32⟩
  | .hbm, ⟨12, _⟩ => ⟨S1x512, .f32⟩
  | .hbm, ⟨13, _⟩ => ⟨S256x256, .bf16⟩
  | .hbm, ⟨14, _⟩ => ⟨S1x256, .f32⟩
  | .hbm, ⟨15, _⟩ => ⟨S128, .i32⟩
  | .hbm, ⟨16, _⟩ => ⟨S128x1, .i32⟩
  | .hbm, ⟨17, _⟩ => ⟨S512, .i32⟩
  | .hbm, ⟨18, _⟩ => ⟨S1x512, .i32⟩
  | .hbm, ⟨19, _⟩ => ⟨S_, .i32⟩
  | .hbm, ⟨20, _⟩ => ⟨S_, .i32⟩
  | .hbm, ⟨21, _⟩ => ⟨S1x512, .i32⟩
  | .hbm, ⟨22, _⟩ => ⟨S1x512, .i32⟩
  | .hbm, ⟨23, _⟩ => ⟨S1x512, .i32⟩
  | .hbm, ⟨24, _⟩ => ⟨S_, .i32⟩
  | .hbm, ⟨25, _⟩ => ⟨S1x512, .i32⟩
  | .hbm, ⟨26, _⟩ => ⟨S1x512, .i1⟩
  | .hbm, ⟨27, _⟩ => ⟨S1x512, .i32⟩
  | .hbm, ⟨28, _⟩ => ⟨S1x512, .i32⟩
  | .hbm, ⟨29, _⟩ => ⟨S_, .i32⟩
  | .hbm, ⟨30, _⟩ => ⟨S1x512, .i32⟩
  | .hbm, ⟨31, _⟩ => ⟨S1x512, .i1⟩
  | .hbm, ⟨32, _⟩ => ⟨S1x512, .i1⟩
  | .hbm, ⟨33, _⟩ => ⟨S_, .i32⟩
  | .hbm, ⟨34, _⟩ => ⟨S1x512, .i32⟩
  | .hbm, ⟨35, _⟩ => ⟨S1x512, .i32⟩
  | .hbm, ⟨36, _⟩ => ⟨S1x512, .i32⟩
  | .hbm, ⟨37, _⟩ => ⟨S128x512, .i32⟩
  | .hbm, ⟨38, _⟩ => ⟨S128x512, .i32⟩
  | .hbm, ⟨39, _⟩ => ⟨S128x512, .i1⟩
  | .hbm, ⟨40, _⟩ => ⟨S128x512, .f32⟩
  | .hbm, ⟨41, _⟩ => ⟨S32x1x512, .f32⟩
  | .hbm, ⟨42, _⟩ => ⟨S32x1x1024, .f32⟩
  | .hbm, ⟨43, _⟩ => ⟨S32x1x128, .f32⟩
  | .hbm, ⟨44, _⟩ => ⟨S32x1x256, .f32⟩
  | .hbm, ⟨45, _⟩ => ⟨S32x1x512, .f32⟩
  | .hbm, ⟨46, _⟩ => ⟨S32x1x256, .f32⟩
  | .hbm, ⟨47, _⟩ => ⟨S32x3x1024, .f32⟩
  | .hbm, ⟨48, _⟩ => ⟨S32x8x64x128, .f32⟩
  | .hbm, ⟨49, _⟩ => ⟨S32x15x256, .f32⟩
  | .local _ .vmem, ⟨0, _⟩ => ⟨S2x1x512, .f32⟩
  | .local _ .vmem, ⟨1, _⟩ => ⟨S2x1x512, .f32⟩
  | .local _ .vmem, ⟨2, _⟩ => ⟨S2x1x1024, .f32⟩
  | .local _ .vmem, ⟨3, _⟩ => ⟨S2x1x1024, .f32⟩
  | .local _ .vmem, ⟨4, _⟩ => ⟨S2x1x128, .f32⟩
  | .local _ .vmem, ⟨5, _⟩ => ⟨S2x1x128, .f32⟩
  | .local _ .vmem, ⟨6, _⟩ => ⟨S2x1x256, .f32⟩
  | .local _ .vmem, ⟨7, _⟩ => ⟨S2x1x256, .f32⟩
  | .local _ .vmem, ⟨8, _⟩ => ⟨S2x3x1024, .f32⟩
  | .local _ .vmem, ⟨9, _⟩ => ⟨S2x3x1024, .f32⟩
  | .local _ .vmem, ⟨10, _⟩ => ⟨S2x8x64x128, .f32⟩
  | .local _ .vmem, ⟨11, _⟩ => ⟨S2x8x64x128, .f32⟩
  | .local _ .vmem, ⟨12, _⟩ => ⟨S2x15x256, .f32⟩
  | .local _ .vmem, ⟨13, _⟩ => ⟨S2x15x256, .f32⟩
  | .local _ .vmem, ⟨14, _⟩ => ⟨S4x1024, .f32⟩
  | .local _ .vmem, ⟨15, _⟩ => ⟨S1x1024, .f32⟩
  | .local _ .vmem, ⟨16, _⟩ => ⟨S1x128, .f32⟩
  | .local _ .vmem, ⟨17, _⟩ => ⟨S1x128, .f32⟩
  | .local _ .vmem, ⟨18, _⟩ => ⟨S1x512, .f32⟩
  | .local _ .vmem, ⟨19, _⟩ => ⟨S1x512, .f32⟩
  | .local _ .vmem, ⟨20, _⟩ => ⟨S256x256, .bf16⟩
  | .local _ .vmem, ⟨21, _⟩ => ⟨S1x256, .f32⟩
  | .local _ .vmem, ⟨22, _⟩ => ⟨S128x512, .f32⟩
  | .local _ .vmem, ⟨23, _⟩ => ⟨S2x1x512, .f32⟩
  | .local _ .vmem, ⟨24, _⟩ => ⟨S2x1x512, .f32⟩
  | .local _ .vmem, ⟨25, _⟩ => ⟨S2x1x256, .f32⟩
  | .local _ .vmem, ⟨26, _⟩ => ⟨S2x1x256, .f32⟩
  | .local _ .vmem, ⟨27, _⟩ => ⟨S2x3x1024, .f32⟩
  | .local _ .vmem, ⟨28, _⟩ => ⟨S2x3x1024, .f32⟩
  | .local _ .vmem, ⟨29, _⟩ => ⟨S2x8x64x128, .f32⟩
  | .local _ .vmem, ⟨30, _⟩ => ⟨S2x8x64x128, .f32⟩
  | .local _ .vmem, ⟨31, _⟩ => ⟨S2x15x256, .f32⟩
  | .local _ .vmem, ⟨32, _⟩ => ⟨S2x15x256, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13_0 : Ref sig .tc := ⟨.hbm, 45, rfl⟩
abbrev main_v13_1 : Ref sig .tc := ⟨.hbm, 46, rfl⟩
abbrev main_v13_2 : Ref sig .tc := ⟨.hbm, 47, rfl⟩
abbrev main_v13_3 : Ref sig .tc := ⟨.hbm, 48, rfl⟩
abbrev main_v13_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x15x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x3x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x8x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x15x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S32x512 : Shape := ⟨2, ![32, 512]⟩
abbrev S32x1024 : Shape := ⟨2, ![32, 1024]⟩
abbrev S32x128 : Shape := ⟨2, ![32, 128]⟩
abbrev S32x256 : Shape := ⟨2, ![32, 256]⟩
abbrev S32x3x1024 : Shape := ⟨3, ![32, 3, 1024]⟩
abbrev S32x8x64x128 : Shape := ⟨4, ![32, 8, 64, 128]⟩
abbrev S32x15x256 : Shape := ⟨3, ![32, 15, 256]⟩
abbrev S4x1024 : Shape := ⟨2, ![4, 1024]⟩
abbrev S1x1024 : Shape := ⟨2, ![1, 1024]⟩
abbrev S1x128 : Shape := ⟨2, ![1, 128]⟩
abbrev S1x512 : Shape := ⟨2, ![1, 512]⟩
abbrev S256x256 : Shape := ⟨2, ![256, 256]⟩
abbrev S1x256 : Shape := ⟨2, ![1, 256]⟩
abbrev S32x1x1024 : Shape := ⟨3, ![32, 1, 1024]⟩
abbrev S32x4x1024 : Shape := ⟨3, ![32, 4, 1024]⟩
abbrev S1024 : Shape := ⟨1, ![1024]⟩
abbrev S_ : Shape := ⟨0, ![]⟩
abbrev S32x8x64 : Shape := ⟨3, ![32, 8, 64]⟩
abbrev S32x2x128 : Shape := ⟨3, ![32, 2, 128]⟩
abbrev S32x2x4x128 : Shape := ⟨4, ![32, 2, 4, 128]⟩
abbrev S32x8x128 : Shape := ⟨3, ![32, 8, 128]⟩
abbrev S32x8 : Shape := ⟨2, ![32, 8]⟩
abbrev S1x8 : Shape := ⟨2, ![1, 8]⟩
abbrev S32x8x1x1 : Shape := ⟨4, ![32, 8, 1, 1]⟩
abbrev S32x8x1 : Shape := ⟨3, ![32, 8, 1]⟩
abbrev S32x8x64x1 : Shape := ⟨4, ![32, 8, 64, 1]⟩
abbrev S32x8x1x128 : Shape := ⟨4, ![32, 8, 1, 128]⟩
abbrev S32x2x256 : Shape := ⟨3, ![32, 2, 256]⟩
abbrev S2x256 : Shape := ⟨2, ![2, 256]⟩
abbrev S32x2 : Shape := ⟨2, ![32, 2]⟩
abbrev S32x2x1 : Shape := ⟨3, ![32, 2, 1]⟩
abbrev S1x2x256 : Shape := ⟨3, ![1, 2, 256]⟩
abbrev S32x1x256 : Shape := ⟨3, ![32, 1, 256]⟩
abbrev S32x16x256 : Shape := ⟨3, ![32, 16, 256]⟩
abbrev S32x2x64 : Shape := ⟨3, ![32, 2, 64]⟩
abbrev S32x64 : Shape := ⟨2, ![32, 64]⟩
abbrev S32x4x64 : Shape := ⟨3, ![32, 4, 64]⟩
abbrev S32x16x64 : Shape := ⟨3, ![32, 16, 64]⟩
abbrev S32x1x512 : Shape := ⟨3, ![32, 1, 512]⟩

abbrev nBuf : Space → Nat
  | .hbm => 173
  | .vmem => 0
  | .smem => 0
  | _ => 0

abbrev hbmTy0_0 (i : Nat) : BufTy := match i % 128 with
  | 0 => ⟨S32x512, .f32⟩
  | 1 => ⟨S32x1024, .f32⟩
  | 2 => ⟨S32x128, .f32⟩
  | 3 => ⟨S32x256, .f32⟩
  | 4 => ⟨S32x3x1024, .f32⟩
  | 5 => ⟨S32x8x64x128, .f32⟩
  | 6 => ⟨S32x15x256, .f32⟩
  | 7 => ⟨S4x1024, .f32⟩
  | 8 => ⟨S1x1024, .f32⟩
  | 9 => ⟨S1x128, .f32⟩
  | 10 => ⟨S1x128, .f32⟩
  | 11 => ⟨S1x512, .f32⟩
  | 12 => ⟨S1x512, .f32⟩
  | 13 => ⟨S256x256, .bf16⟩
  | 14 => ⟨S1x256, .f32⟩
  | 15 => ⟨S32x1x1024, .f32⟩
  | 16 => ⟨S32x4x1024, .f32⟩
  | 17 => ⟨S32x1x1024, .f32⟩
  | 18 => ⟨S32x1024, .f32⟩
  | 19 => ⟨S1x1024, .f32⟩
  | 20 => ⟨S1024, .f32⟩
  | 21 => ⟨S1x1024, .f32⟩
  | 22 => ⟨S32x1024, .f32⟩
  | 23 => ⟨S32x1024, .f32⟩
  | 24 => ⟨S32x1024, .f32⟩
  | 25 => ⟨S32x1024, .f32⟩
  | 26 => ⟨S32x1x1024, .f32⟩
  | 27 => ⟨S32x1024, .f32⟩
  | 28 => ⟨S1x1024, .f32⟩
  | 29 => ⟨S1024, .f32⟩
  | 30 => ⟨S1x1024, .f32⟩
  | 31 => ⟨S32x1024, .f32⟩
  | 32 => ⟨S32x1024, .f32⟩
  | 33 => ⟨S32x1024, .f32⟩
  | 34 => ⟨S32x1x1024, .f32⟩
  | 35 => ⟨S32x1024, .f32⟩
  | 36 => ⟨S1x1024, .f32⟩
  | 37 => ⟨S1024, .f32⟩
  | 38 => ⟨S1x1024, .f32⟩
  | 39 => ⟨S32x1024, .f32⟩
  | 40 => ⟨S32x1024, .f32⟩
  | 41 => ⟨S32x1024, .f32⟩
  | 42 => ⟨S32x1x1024, .f32⟩
  | 43 => ⟨S32x1024, .f32⟩
  | 44 => ⟨S1x1024, .f32⟩
  | 45 => ⟨S1024, .f32⟩
  | 46 => ⟨S1x1024, .f32⟩
  | 47 => ⟨S32x1024, .f32⟩
  | 48 => ⟨S32x1024, .f32⟩
  | 49 => ⟨S32x1024, .f32⟩
  | 50 => ⟨S32x1024, .f32⟩
  | 51 => ⟨S32x1024, .f32⟩
  | 52 => ⟨S_, .f32⟩
  | 53 => ⟨S32x1024, .f32⟩
  | 54 => ⟨S32x1024, .f32⟩
  | 55 => ⟨S_, .f32⟩
  | 56 => ⟨S32x1024, .f32⟩
  | 57 => ⟨S32x1024, .f32⟩
  | 58 => ⟨S32x1024, .f32⟩
  | 59 => ⟨S32x512, .f32⟩
  | 60 => ⟨S32x256, .f32⟩
  | 61 => ⟨S32x256, .f32⟩
  | 62 => ⟨S32x8x64, .f32⟩
  | 63 => ⟨S32x2x128, .f32⟩
  | 64 => ⟨S32x2x4x128, .f32⟩
  | 65 => ⟨S32x8x128, .f32⟩
  | 66 => ⟨S32x2x128, .f32⟩
  | 67 => ⟨S32x2x4x128, .f32⟩
  | 68 => ⟨S32x8x128, .f32⟩
  | 69 => ⟨S32x8, .f32⟩
  | 70 => ⟨S1x8, .f32⟩
  | 71 => ⟨S32x8, .f32⟩
  | 72 => ⟨S32x8, .f32⟩
  | 73 => ⟨S_, .f32⟩
  | 74 => ⟨S32x8, .f32⟩
  | 75 => ⟨S32x8, .f32⟩
  | 76 => ⟨S32x8, .f32⟩
  | 77 => ⟨S32x8, .f32⟩
  | 78 => ⟨S32x8, .i1⟩
  | 79 => ⟨S32x8, .f32⟩
  | 80 => ⟨S32x8, .f32⟩
  | 81 => ⟨S32x8, .f32⟩
  | 82 => ⟨S32x8, .f32⟩
  | 83 => ⟨S32x8, .f32⟩
  | 84 => ⟨S32x8, .f32⟩
  | 85 => ⟨S32x8, .f32⟩
  | 86 => ⟨S32x8, .f32⟩
  | 87 => ⟨S1x8, .f32⟩
  | 88 => ⟨S32x8, .f32⟩
  | 89 => ⟨S32x8, .f32⟩
  | 90 => ⟨S32x8, .f32⟩
  | 91 => ⟨S32x8x1x1, .f32⟩
  | 92 => ⟨S32x8x64x128, .f32⟩
  | 93 => ⟨S32x8x64x128, .f32⟩
  | 94 => ⟨S32x8x1, .f32⟩
  | 95 => ⟨S32x8x64, .f32⟩
  | 96 => ⟨S32x8x64, .f32⟩
  | 97 => ⟨S32x8x64x1, .f32⟩
  | 98 => ⟨S32x8x1x128, .f32⟩
  | 99 => ⟨S32x8x64x128, .f32⟩
  | 100 => ⟨S32x8x64x128, .f32⟩
  | 101 => ⟨S32x8x64x128, .f32⟩
  | 102 => ⟨S32x8x64x128, .f32⟩
  | 103 => ⟨S32x8x64, .f32⟩
  | 104 => ⟨S32x512, .f32⟩
  | 105 => ⟨S32x512, .f32⟩
  | 106 => ⟨S32x512, .f32⟩
  | 107 => ⟨S32x512, .f32⟩
  | 108 => ⟨S32x512, .f32⟩
  | 109 => ⟨S32x512, .f32⟩
  | 110 => ⟨S_, .f32⟩
  | 111 => ⟨S32x512, .f32⟩
  | 112 => ⟨S32x512, .f32⟩
  | 113 => ⟨S_, .f32⟩
  | 114 => ⟨S32x512, .f32⟩
  | 115 => ⟨S32x512, .f32⟩
  | 116 => ⟨S32x512, .f32⟩
  | 117 => ⟨S32x512, .f32⟩
  | 118 => ⟨S32x2x256, .f32⟩
  | 119 => ⟨S2x256, .f32⟩
  | 120 => ⟨S32x2x256, .f32⟩
  | 121 => ⟨S_, .f32⟩
  | 122 => ⟨S32x2, .f32⟩
  | 123 => ⟨S32x2x1, .f32⟩
  | 124 => ⟨S_, .f32⟩
  | 125 => ⟨S32x2x1, .f32⟩
  | 126 => ⟨S32x2x1, .f32⟩
  | 127 => ⟨S_, .f32⟩
  | _ => ⟨S32x512, .f32⟩

abbrev hbmTy0_1 (i : Nat) : BufTy := match i % 128 with
  | 0 => ⟨S32x2x1, .f32⟩
  | 1 => ⟨S32x2x1, .f32⟩
  | 2 => ⟨S32x2x1, .f32⟩
  | 3 => ⟨S32x2x256, .f32⟩
  | 4 => ⟨S32x2x256, .f32⟩
  | 5 => ⟨S1x2x256, .f32⟩
  | 6 => ⟨S32x2x256, .f32⟩
  | 7 => ⟨S32x2x256, .f32⟩
  | 8 => ⟨S32x512, .f32⟩
  | 9 => ⟨S32x1x256, .f32⟩
  | 10 => ⟨S32x16x256, .f32⟩
  | 11 => ⟨S32x2x64, .f32⟩
  | 12 => ⟨S_, .f32⟩
  | 13 => ⟨S32x64, .f32⟩
  | 14 => ⟨S_, .f32⟩
  | 15 => ⟨S32x64, .f32⟩
  | 16 => ⟨S32x64, .f32⟩
  | 17 => ⟨S32x4x64, .f32⟩
  | 18 => ⟨S_, .f32⟩
  | 19 => ⟨S32x64, .f32⟩
  | 20 => ⟨S_, .f32⟩
  | 21 => ⟨S32x64, .f32⟩
  | 22 => ⟨S32x64, .f32⟩
  | 23 => ⟨S32x8x64, .f32⟩
  | 24 => ⟨S_, .f32⟩
  | 25 => ⟨S32x64, .f32⟩
  | 26 => ⟨S_, .f32⟩
  | 27 => ⟨S32x64, .f32⟩
  | 28 => ⟨S32x64, .f32⟩
  | 29 => ⟨S32x16x64, .f32⟩
  | 30 => ⟨S_, .f32⟩
  | 31 => ⟨S32x64, .f32⟩
  | 32 => ⟨S_, .f32⟩
  | 33 => ⟨S32x64, .f32⟩
  | 34 => ⟨S32x64, .f32⟩
  | 35 => ⟨S32x256, .f32⟩
  | 36 => ⟨S32x256, .f32⟩
  | 37 => ⟨S256x256, .f32⟩
  | 38 => ⟨S32x256, .f32⟩
  | 39 => ⟨S32x256, .f32⟩
  | 40 => ⟨S32x256, .f32⟩
  | 41 => ⟨S32x1x512, .f32⟩
  | 42 => ⟨S32x1x256, .f32⟩
  | 43 => ⟨S32x3x1024, .f32⟩
  | 44 => ⟨S32x15x256, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_call2_v5 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst : Ref sig .tc := ⟨.hbm, 121, rfl⟩
abbrev main_v77 : Ref sig .tc := ⟨.hbm, 122, rfl⟩
abbrev main_v78 : Ref sig .tc := ⟨.hbm, 123, rfl⟩
abbrev main_cst_0 : Ref sig .tc := ⟨.hbm, 124, rfl⟩
abbrev main_v79 : Ref sig .tc := ⟨.hbm, 125, rfl⟩
abbrev main_v80 : Ref sig .tc := ⟨.hbm, 126, rfl⟩
abbrev main_cst_1 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_2 : Ref sig .tc := ⟨.hbm, 140, rfl⟩
abbrev main_v93 : Ref sig .tc := ⟨.hbm, 141, rfl⟩
abbrev main_cst_3 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_4 : Ref sig .tc := ⟨.hbm, 146, rfl⟩
abbrev main_v97 : Ref sig .tc := ⟨.hbm, 147, rfl⟩
abbrev main_cst_5 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_6 : Ref sig .tc := ⟨.hbm, 152, rfl⟩
abbrev main_v101 : Ref sig .tc := ⟨.hbm, 153, rfl⟩
abbrev main_cst_7 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_8 : Ref sig .tc := ⟨.hbm, 158, rfl⟩
abbrev main_v105 : Ref sig .tc := ⟨.hbm, 159, rfl⟩
abbrev main_cst_9 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩

abbrev nD : Nat := 1
abbrev τ : Topo := Topo.v7x

variable {F : FTy → Type} [FloatOps F]
-- ==== Kernel5.lean ====
abbrev S32x1024 : Shape := ⟨2, ![32, 1024]⟩
abbrev S1024 : Shape := ⟨1, ![1024]⟩
abbrev S1024x2688 : Shape := ⟨2, ![1024, 2688]⟩
abbrev S1x1024 : Shape := ⟨2, ![1, 1024]⟩
abbrev S32x512 : Shape := ⟨2, ![32, 512]⟩
abbrev S32x128 : Shape := ⟨2, ![32, 128]⟩
abbrev S32x256 : Shape := ⟨2, ![32, 256]⟩
abbrev S32 : Shape := ⟨1, ![32]⟩
abbrev S32x1 : Shape := ⟨2, ![32, 1]⟩
abbrev S1024x512 : Shape := ⟨2, ![1024, 512]⟩
abbrev S1024x1024 : Shape := ⟨2, ![1024, 1024]⟩
abbrev S1024x128 : Shape := ⟨2, ![1024, 128]⟩
abbrev S1024x256 : Shape := ⟨2, ![1024, 256]⟩

abbrev nBuf : Space → Nat
  | .hbm => 11
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2688, .bf16⟩
  | .hbm, ⟨3, _⟩ => ⟨S1x1024, .f32⟩
  | .hbm, ⟨4, _⟩ => ⟨S32x512, .f32⟩
  | .hbm, ⟨5, _⟩ => ⟨S32x1024, .f32⟩
  | .hbm, ⟨6, _⟩ => ⟨S32x128, .f32⟩
  | .hbm, ⟨7, _⟩ => ⟨S32x256, .f32⟩
  | .hbm, ⟨8, _⟩ => ⟨S32x256, .f32⟩
  | .hbm, ⟨9, _⟩ => ⟨S32x256, .f32⟩
  | .hbm, ⟨10, _⟩ => ⟨S32x256, .f32⟩
  | .local _ .vmem, ⟨0, _⟩ => ⟨S32x1024, .f32⟩
  | .local _ .vmem, ⟨1, _⟩ => ⟨S1x1024, .f32⟩
  | .local _ .vmem, ⟨2, _⟩ => ⟨S1024x2688, .bf16⟩
  | .local _ .vmem, ⟨3, _⟩ => ⟨S32x512, .f32⟩
  | .local _ .vmem, ⟨4, _⟩ => ⟨S32x1024, .f32⟩
  | .local _ .vmem, ⟨5, _⟩ => ⟨S32x128, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S32x1024 : Shape := ⟨2, ![32, 1024]⟩
abbrev S1024 : Shape := ⟨1, ![1024]⟩
abbrev S1024x2688 : Shape := ⟨2, ![1024, 2688]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2688 : Shape := ⟨2, ![32, 2688]⟩
abbrev S32x512 : Shape := ⟨2, ![32, 512]⟩
abbrev S32x128 : Shape := ⟨2, ![32, 128]⟩
abbrev S32x256 : Shape := ⟨2, ![32, 256]⟩

abbrev nBuf : Space → Nat
  | .hbm => 28
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2688, .bf16⟩
  | .hbm, ⟨3, _⟩ => ⟨S32x1024, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x1024, .f32⟩
  | .hbm, ⟨15, _⟩ => ⟨S32x1024, .f32⟩
  | .hbm, ⟨16, _⟩ => ⟨S1x1024, .f32⟩
  | .hbm, ⟨17, _⟩ => ⟨S32x1024, .f32⟩
  | .hbm, ⟨18, _⟩ => ⟨S32x1024, .f32⟩
  | .hbm, ⟨19, _⟩ => ⟨S1024x2688, .f32⟩
  | .hbm, ⟨20, _⟩ => ⟨S32x2688, .f32⟩
  | .hbm, ⟨21, _⟩ => ⟨S32x512, .f32⟩
  | .hbm, ⟨22, _⟩ => ⟨S32x1024, .f32⟩
  | .hbm, ⟨23, _⟩ => ⟨S32x128, .f32⟩
  | .hbm, ⟨24, _⟩ => ⟨S32x256, .f32⟩
  | .hbm, ⟨25, _⟩ => ⟨S32x256, .f32⟩
  | .hbm, ⟨26, _⟩ => ⟨S32x256, .f32⟩
  | .hbm, ⟨27, _⟩ => ⟨S32x256, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel6.lean ====
abbrev S32x1024 : Shape := ⟨2, ![32, 1024]⟩
abbrev S32x512 : Shape := ⟨2, ![32, 512]⟩
abbrev S32x256 : Shape := ⟨2, ![32, 256]⟩
abbrev S1024x1024 : Shape := ⟨2, ![1024, 1024]⟩
abbrev S512x1024 : Shape := ⟨2, ![512, 1024]⟩
abbrev S256x1024 : Shape := ⟨2, ![256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x256, .f32⟩
  | .hbm, ⟨3, _⟩ => ⟨S32x256, .f32⟩
  | .hbm, ⟨4, _⟩ => ⟨S1024x1024, .bf16⟩
  | .hbm, ⟨5, _⟩ => ⟨S32x1024, .f32⟩
  | .local _ .vmem, ⟨0, _⟩ => ⟨S32x1024, .f32⟩
  | .local _ .vmem, ⟨1, _⟩ => ⟨S32x512, .f32⟩
  | .local _ .vmem, ⟨2, _⟩ => ⟨S32x256, .f32⟩
  | .local _ .vmem, ⟨3, _⟩ => ⟨S32x256, .f32⟩
  | .local _ .vmem, ⟨4, _⟩ => ⟨S512x1024, .bf16⟩
  | .local _ .vmem, ⟨5, _⟩ => ⟨S256x1024, .bf16⟩
  | .local _ .vmem, ⟨6, _⟩ => ⟨S256x1024, .bf16⟩
  | .local _ .vmem, ⟨7, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S32x1024 : Shape := ⟨2, ![32, 1024]⟩
abbrev S32x512 : Shape := ⟨2, ![32, 512]⟩
abbrev S32x256 : Shape := ⟨2, ![32, 256]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x256, .f32⟩
  | .hbm, ⟨3, _⟩ => ⟨S32x256, .f32⟩
  | .hbm, ⟨4, _⟩ => ⟨S1024x1024, .bf16⟩
  | .hbm, ⟨5, _⟩ => ⟨S32x1024, .f32⟩
  | .hbm, ⟨6, _⟩ => ⟨S1024x1024, .f32⟩
  | .hbm, ⟨7, _⟩ => ⟨S32x1024, .f32⟩
  | .hbm, ⟨8, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel7.lean ====
abbrev S32x1024 : Shape := ⟨2, ![32, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S32 : Shape := ⟨1, ![32]⟩
abbrev S32x1 : Shape := ⟨2, ![32, 1]⟩
abbrev S32x2816 : Shape := ⟨2, ![32, 2816]⟩

abbrev nBuf : Space → Nat
  | .hbm => 8
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S32x1024, .f32⟩
  | .local _ .vmem, ⟨7, _⟩ => ⟨S32x1024, .bf16⟩
  | .local _ .vmem, ⟨8, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_14 : BitVec 32 := 0#32
  let v19 : BitVec 1 := Scalar.cmpi .eq arg1 c0_i32_14
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference7Ideal.lean ====
abbrev S32x1024 : Shape := ⟨2, ![32, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x5632 : Shape := ⟨2, ![32, 5632]⟩
abbrev S32x2816 : Shape := ⟨2, ![32, 2816]⟩

abbrev nBuf : Space → Nat
  | .hbm => 54
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S1024x5632, .f32⟩
  | .hbm, ⟨22, _⟩ => ⟨S32x5632, .f32⟩
  | .hbm, ⟨23, _⟩ => ⟨S32x2816, .f32⟩
  | .hbm, ⟨24, _⟩ => ⟨S32x2816, .f32⟩
  | .hbm, ⟨25, _⟩ => ⟨S32x2816, .f32⟩
  | .hbm, ⟨26, _⟩ => ⟨S32x2816, .f32⟩
  | .hbm, ⟨27, _⟩ => ⟨S_, .f32⟩
  | .hbm, ⟨28, _⟩ => ⟨S32x2816, .f32⟩
  | .hbm, ⟨29, _⟩ => ⟨S32x2816, .f32⟩
  | .hbm, ⟨30, _⟩ => ⟨S_, .f32⟩
  | .hbm, ⟨31, _⟩ => ⟨S32x2816, .f32⟩
  | .hbm, ⟨32, _⟩ => ⟨S32x2816, .f32⟩
  | .hbm, ⟨33, _⟩ => ⟨S32x2816, .f32⟩
  | .hbm, ⟨34, _⟩ => ⟨S32x2816, .f32⟩
  | .hbm, ⟨35, _⟩ => ⟨S2816x1024, .f32⟩
  | .hbm, ⟨36, _⟩ => ⟨S32x1024, .f32⟩
  | .hbm, ⟨37, _⟩ => ⟨S32x1024, .f32⟩
  | .hbm, ⟨38, _⟩ => ⟨S32x1024, .f32⟩
  | .hbm, ⟨39, _⟩ => ⟨S_, .f32⟩
  | .hbm, ⟨40, _⟩ => ⟨S32, .f32⟩
  | .hbm, ⟨41, _⟩ => ⟨S32x1, .f32⟩
  | .hbm, ⟨42, _⟩ => ⟨S_, .f32⟩
  | .hbm, ⟨43, _⟩ => ⟨S32x1, .f32⟩
  | .hbm, ⟨44, _⟩ => ⟨S32x1, .f32⟩
  | .hbm, ⟨45, _⟩ => ⟨S_, .f32⟩
  | .hbm, ⟨46, _⟩ => ⟨S32x1, .f32⟩
  | .hbm, ⟨47, _⟩ => ⟨S32x1, .f32⟩
  | .hbm, ⟨48, _⟩ => ⟨S32x1, .f32⟩
  | .hbm, ⟨49, _⟩ => ⟨S32x1024, .f32⟩
  | .hbm, ⟨50, _⟩ => ⟨S32x1024, .f32⟩
  | .hbm, ⟨51, _⟩ => ⟨S1x1024, .f32⟩
  | .hbm, ⟨52, _⟩ => ⟨S32x1024, .f32⟩
  | .hbm, ⟨53, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Kernel8.lean ====
abbrev S32x1024 : Shape := ⟨2, ![32, 1024]⟩
abbrev S1024 : Shape := ⟨1, ![1024]⟩
abbrev S1024x1024 : Shape := ⟨2, ![1024, 1024]⟩
abbrev S1024x4x2x128 : Shape := ⟨4, ![1024, 4, 2, 128]⟩
abbrev S1024x2x4x128 : Shape := ⟨4, ![1024, 2, 4, 128]⟩
abbrev S1x1024 : Shape := ⟨2, ![1, 1024]⟩
abbrev S32 : Shape := ⟨1, ![32]⟩
abbrev S32x1 : Shape := ⟨2, ![32, 1]⟩

abbrev nBuf : Space → Nat
  | .hbm => 8
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x1024, .bf16⟩
  | .hbm, ⟨3, _⟩ => ⟨S1024x4x2x128, .bf16⟩
  | .hbm, ⟨4, _⟩ => ⟨S1024x2x4x128, .bf16⟩
  | .hbm, ⟨5, _⟩ => ⟨S1024x1024, .bf16⟩
  | .hbm, ⟨6, _⟩ => ⟨S1x1024, .f32⟩
  | .hbm, ⟨7, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x1024, .bf16⟩
  | .local _ .vmem, ⟨3, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference8Ideal.lean ====
abbrev S32x1024 : Shape := ⟨2, ![32, 1024]⟩
abbrev S1024 : Shape := ⟨1, ![1024]⟩
abbrev S1024x1024 : Shape := ⟨2, ![1024, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x4x2x128 : Shape := ⟨4, ![32, 4, 2, 128]⟩
abbrev S32x2x4x128 : Shape := ⟨4, ![32, 2, 4, 128]⟩

abbrev nBuf : Space → Nat
  | .hbm => 24
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x1024, .bf16⟩
  | .hbm, ⟨3, _⟩ => ⟨S32x1024, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x1024, .f32⟩
  | .hbm, ⟨15, _⟩ => ⟨S32x1024, .f32⟩
  | .hbm, ⟨16, _⟩ => ⟨S1x1024, .f32⟩
  | .hbm, ⟨17, _⟩ => ⟨S32x1024, .f32⟩
  | .hbm, ⟨18, _⟩ => ⟨S32x1024, .f32⟩
  | .hbm, ⟨19, _⟩ => ⟨S1024x1024, .f32⟩
  | .hbm, ⟨20, _⟩ => ⟨S32x1024, .f32⟩
  | .hbm, ⟨21, _⟩ => ⟨S32x4x2x128, .f32⟩
  | .hbm, ⟨22, _⟩ => ⟨S32x2x4x128, .f32⟩
  | .hbm, ⟨23, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel9.lean ====
abbrev S32x1024 : Shape := ⟨2, ![32, 1024]⟩
abbrev S2x32x256x4x256 : Shape := ⟨5, ![2, 32, 256, 4, 256]⟩
abbrev S2x32x256x4x2x128 : Shape := ⟨6, ![2, 32, 256, 4, 2, 128]⟩
abbrev S2x32x256x2x4x128 : Shape := ⟨6, ![2, 32, 256, 2, 4, 128]⟩
abbrev S2x32x256x8x128 : Shape := ⟨5, ![2, 32, 256, 8, 128]⟩
abbrev S32x8x128 : Shape := ⟨3, ![32, 8, 128]⟩
abbrev S1x8x128 : Shape := ⟨3, ![1, 8, 128]⟩
abbrev S1x1x256x8x128 : Shape := ⟨5, ![1, 1, 256, 8, 128]⟩
abbrev S256x8x128 : Shape := ⟨3, ![256, 8, 128]⟩
abbrev S8x128 : Shape := ⟨2, ![8, 128]⟩
abbrev S256x8 : Shape := ⟨2, ![256, 8]⟩
abbrev S256x8x1 : Shape := ⟨3, ![256, 8, 1]⟩
abbrev S256x4x1 : Shape := ⟨3, ![256, 4, 1]⟩
abbrev S8x1 : Shape := ⟨2, ![8, 1]⟩
abbrev S1x8x1 : Shape := ⟨3, ![1, 8, 1]⟩

abbrev nBuf : Space → Nat
  | .hbm => 11
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S2x32x256x4x256, .f32⟩
  | .hbm, ⟨2, _⟩ => ⟨S2x32x256x4x256, .f32⟩
  | .hbm, ⟨3, _⟩ => ⟨S2x32x256x4x2x128, .f32⟩
  | .hbm, ⟨4, _⟩ => ⟨S2x32x256x2x4x128, .f32⟩
  | .hbm, ⟨5, _⟩ => ⟨S2x32x256x8x128, .f32⟩
  | .hbm, ⟨6, _⟩ => ⟨S2x32x256x4x2x128, .f32⟩
  | .hbm, ⟨7, _⟩ => ⟨S2x32x256x2x4x128, .f32⟩
  | .hbm, ⟨8, _⟩ => ⟨S2x32x256x8x128, .f32⟩
  | .hbm, ⟨9, _⟩ => ⟨S32x8x128, .f32⟩
  | .hbm, ⟨10, _⟩ => ⟨S32x8x128, .f32⟩
  | .local _ .vmem, ⟨0, _⟩ => ⟨S1x8x128, .f32⟩
  | .local _ .vmem, ⟨1, _⟩ => ⟨S1x8x128, .f32⟩
  | .local _ .vmem, ⟨2, _⟩ => ⟨S1x1x256x8x128, .f32⟩
  | .local _ .vmem, ⟨3, _⟩ => ⟨S1x1x256x8x128, .f32⟩
  | .local _ .vmem, ⟨4, _⟩ => ⟨S1x1x256x8x128, .f32⟩
  | .local _ .vmem, ⟨5, _⟩ => ⟨S1x1x256x8x128, .f32⟩
  | .local _ .vmem, ⟨6, _⟩ => ⟨S1x8x128, .f32⟩
  | .local _ .vmem, ⟨7, _⟩ => ⟨S1x8x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_2 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S32x1024 : Shape := ⟨2, ![32, 1024]⟩
abbrev S2x32x256x4x256 : Shape := ⟨5, ![2, 32, 256, 4, 256]⟩
abbrev S32x2x4x128 : Shape := ⟨4, ![32, 2, 4, 128]⟩
abbrev S32x4x2x128 : Shape := ⟨4, ![32, 4, 2, 128]⟩
abbrev S32x4x256 : Shape := ⟨3, ![32, 4, 256]⟩
abbrev S1x32x256x4x256 : Shape := ⟨5, ![1, 32, 256, 4, 256]⟩
abbrev S32x256x4x256 : Shape := ⟨4, ![32, 256, 4, 256]⟩
abbrev S_ : Shape := ⟨0, ![]⟩
abbrev S32x4 : Shape := ⟨2, ![32, 4]⟩
abbrev S32x4x1 : Shape := ⟨3, ![32, 4, 1]⟩
abbrev S32x8x128 : Shape := ⟨3, ![32, 8, 128]⟩

abbrev nBuf : Space → Nat
  | .hbm => 32
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x32x256x4x256, .f32⟩
  | .hbm, ⟨2, _⟩ => ⟨S2x32x256x4x256, .f32⟩
  | .hbm, ⟨3, _⟩ => ⟨S32x2x4x128, .f32⟩
  | .hbm, ⟨4, _⟩ => ⟨S32x4x2x128, .f32⟩
  | .hbm, ⟨5, _⟩ => ⟨S32x4x256, .f32⟩
  | .hbm, ⟨6, _⟩ => ⟨S1x32x256x4x256, .f32⟩
  | .hbm, ⟨7, _⟩ => ⟨S32x256x4x256, .f32⟩
  | .hbm, ⟨8, _⟩ => ⟨S32x4x256, .f32⟩
  | .hbm, ⟨9, _⟩ => ⟨S_, .f32⟩
  | .hbm, ⟨10, _⟩ => ⟨S32x4x256, .f32⟩
  | .hbm, ⟨11, _⟩ => ⟨S32x4x256, .f32⟩
  | .hbm, ⟨12, _⟩ => ⟨S_, .f32⟩
  | .hbm, ⟨13, _⟩ => ⟨S32x4, .f32⟩
  | .hbm, ⟨14, _⟩ => ⟨S_, .f32⟩
  | .hbm, ⟨15, _⟩ => ⟨S32x4, .f32⟩
  | .hbm, ⟨16, _⟩ => ⟨S32x4, .f32⟩
  | .hbm, ⟨17, _⟩ => ⟨S32x4x1, .f32⟩
  | .hbm, ⟨18, _⟩ => ⟨S32x4x256, .f32⟩
  | .hbm, ⟨19, _⟩ => ⟨S32x4x256, .f32⟩
  | .hbm, ⟨20, _⟩ => ⟨S32x4x256, .f32⟩
  | .hbm, ⟨21, _⟩ => ⟨S_, .f32⟩
  | .hbm, ⟨22, _⟩ => ⟨S32x4, .f32⟩
  | .hbm, ⟨23, _⟩ => ⟨S32x4x1, .f32⟩
  | .hbm, ⟨24, _⟩ => ⟨S32x4x256, .f32⟩
  | .hbm, ⟨25, _⟩ => ⟨S32x4x256, .f32⟩
  | .hbm, ⟨26, _⟩ => ⟨S1x32x256x4x256, .f32⟩
  | .hbm, ⟨27, _⟩ => ⟨S32x256x4x256, .f32⟩
  | .hbm, ⟨28, _⟩ => ⟨S32x4x256, .f32⟩
  | .hbm, ⟨29, _⟩ => ⟨S32x4x2x128, .f32⟩
  | .hbm, ⟨30, _⟩ => ⟨S32x2x4x128, .f32⟩
  | .hbm, ⟨31, _⟩ => ⟨S32x8x128, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel10.lean ====
abbrev S32x1024 : Shape := ⟨2, ![32, 1024]⟩
abbrev S1024x1024 : Shape := ⟨2, ![1024, 1024]⟩
abbrev S4x2x128x1024 : Shape := ⟨4, ![4, 2, 128, 1024]⟩
abbrev S2x4x128x1024 : Shape := ⟨4, ![2, 4, 128, 1024]⟩

abbrev nBuf : Space → Nat
  | .hbm => 7
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S1024x1024, .bf16⟩
  | .hbm, ⟨3, _⟩ => ⟨S4x2x128x1024, .bf16⟩
  | .hbm, ⟨4, _⟩ => ⟨S2x4x128x1024, .bf16⟩
  | .hbm, ⟨5, _⟩ => ⟨S1024x1024, .bf16⟩
  | .hbm, ⟨6, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S1024x1024, .bf16⟩
  | .local _ .vmem, ⟨3, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference10Ideal.lean ====
abbrev S32x1024 : Shape := ⟨2, ![32, 1024]⟩
abbrev S1024x1024 : Shape := ⟨2, ![1024, 1024]⟩
abbrev S32x2x4x128 : Shape := ⟨4, ![32, 2, 4, 128]⟩
abbrev S32x4x2x128 : Shape := ⟨4, ![32, 4, 2, 128]⟩

abbrev nBuf : Space → Nat
  | .hbm => 9
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S1024x1024, .bf16⟩
  | .hbm, ⟨3, _⟩ => ⟨S32x2x4x128, .f32⟩
  | .hbm, ⟨4, _⟩ => ⟨S32x4x2x128, .f32⟩
  | .hbm, ⟨5, _⟩ => ⟨S32x1024, .f32⟩
  | .hbm, ⟨6, _⟩ => ⟨S1024x1024, .f32⟩
  | .hbm, ⟨7, _⟩ => ⟨S32x1024, .f32⟩
  | .hbm, ⟨8, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S256x1024 : Shape := ⟨2, ![256, 1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1024x2816 : Shape := ⟨2, ![1024, 2816]⟩
abbrev S512 : Shape := ⟨1, ![512]⟩
abbrev S512x1 : Shape := ⟨2, ![512, 1]⟩
abbrev S256x256 : Shape := ⟨2, ![256, 256]⟩
abbrev S512x2816 : Shape := ⟨2, ![512, 2816]⟩

abbrev nBuf : Space → Nat
  | .hbm => 18
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .bf16⟩
  | .hbm, ⟨5, _⟩ => ⟨S1024, .f32⟩
  | .hbm, ⟨6, _⟩ => ⟨S1024x1024, .bf16⟩
  | .hbm, ⟨7, _⟩ => ⟨S256x1024, .bf16⟩
  | .hbm, ⟨8, _⟩ => ⟨S256x1024, .bf16⟩
  | .hbm, ⟨9, _⟩ => ⟨S1024x1024, .bf16⟩
  | .hbm, ⟨10, _⟩ => ⟨S1024, .f32⟩
  | .hbm, ⟨11, _⟩ => ⟨S1024x5632, .bf16⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | .local _ .vmem, ⟨19, _⟩ => ⟨S2816x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference11Ideal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S256x1024 : Shape := ⟨2, ![256, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩
abbrev S16384x5632 : Shape := ⟨2, ![16384, 5632]⟩
abbrev S16384x2816 : Shape := ⟨2, ![16384, 2816]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .bf16⟩
  | .hbm, ⟨5, _⟩ => ⟨S1024, .f32⟩
  | .hbm, ⟨6, _⟩ => ⟨S1024x1024, .bf16⟩
  | .hbm, ⟨7, _⟩ => ⟨S256x1024, .bf16⟩
  | .hbm, ⟨8, _⟩ => ⟨S256x1024, .bf16⟩
  | .hbm, ⟨9, _⟩ => ⟨S1024x1024, .bf16⟩
  | .hbm, ⟨10, _⟩ => ⟨S1024, .f32⟩
  | .hbm, ⟨11, _⟩ => ⟨S1024x5632, .bf16⟩
  | .hbm, ⟨12, _⟩ => ⟨S2816x1024, .bf16⟩
  | .hbm, ⟨13, _⟩ => ⟨S1024, .f32⟩
  | .hbm, ⟨14, _⟩ => ⟨S16384x512, .f32⟩
  | .hbm, ⟨15, _⟩ => ⟨S16384x256, .f32⟩
  | .hbm, ⟨16, _⟩ => ⟨S16384x256, .f32⟩
  | .hbm, ⟨17, _⟩ => ⟨S16384x1024, .f32⟩
  | .hbm, ⟨18, _⟩ => ⟨S1024x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S16384x1024, .f32⟩
  | .hbm, ⟨39, _⟩ => ⟨S16384x4x256, .f32⟩
  | .hbm, ⟨40, _⟩ => ⟨S256x1024, .f32⟩
  | .hbm, ⟨41, _⟩ => ⟨S256x4x256, .f32⟩
  | .hbm, ⟨42, _⟩ => ⟨S256x1024, .f32⟩
  | .hbm, ⟨43, _⟩ => ⟨S256x4x256, .f32⟩
  | .hbm, ⟨44, _⟩ => ⟨S4x16384x256, .f32⟩
  | .hbm, ⟨45, _⟩ => ⟨S_, .f32⟩
  | .hbm, ⟨46, _⟩ => ⟨S4x16384x256, .f32⟩
  | .hbm, ⟨47, _⟩ => ⟨S4x16384x256, .f32⟩
  | .hbm, ⟨48, _⟩ => ⟨S_, .f32⟩
  | .hbm, ⟨49, _⟩ => ⟨S4x16384, .f32⟩
  | .hbm, ⟨50, _⟩ => ⟨S_, .f32⟩
  | .hbm, ⟨51, _⟩ => ⟨S4x16384, .f32⟩
  | .hbm, ⟨52, _⟩ => ⟨S4x16384, .f32⟩
  | .hbm, ⟨53, _⟩ => ⟨S4x16384x1, .f32⟩
  | .hbm, ⟨54, _⟩ => ⟨S4x16384x256, .f32⟩
  | .hbm, ⟨55, _⟩ => ⟨S4x16384x256, .f32⟩
  | .hbm, ⟨56, _⟩ => ⟨S4x16384x256, .f32⟩
  | .hbm, ⟨57, _⟩ => ⟨S_, .f32⟩
  | .hbm, ⟨58, _⟩ => ⟨S4x16384, .f32⟩
  | .hbm, ⟨59, _⟩ => ⟨S4x16384x1, .f32⟩
  | .hbm, ⟨60, _⟩ => ⟨S4x16384x256, .f32⟩
  | .hbm, ⟨61, _⟩ => ⟨S4x16384x256, .f32⟩
  | .hbm, ⟨62, _⟩ => ⟨S4x256x16384, .f32⟩
  | .hbm, ⟨63, _⟩ => ⟨S16384x4x256, .f32⟩
  | .hbm, ⟨64, _⟩ => ⟨S16384x1024, .f32⟩
  | .hbm, ⟨65, _⟩ => ⟨S1024x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S1024x5632, .f32⟩
  | .hbm, ⟨85, _⟩ => ⟨S16384x5632, .f32⟩
  | .hbm, ⟨86, _⟩ => ⟨S16384x2816, .f32⟩
  | .hbm, ⟨87, _⟩ => ⟨S16384x2816, .f32⟩
  | .hbm, ⟨88, _⟩ => ⟨S16384x2816, .f32⟩
  | .hbm, ⟨89, _⟩ => ⟨S16384x2816, .f32⟩
  | .hbm, ⟨90, _⟩ => ⟨S_, .f32⟩
  | .hbm, ⟨91, _⟩ => ⟨S16384x2816, .f32⟩
  | .hbm, ⟨92, _⟩ => ⟨S16384x2816, .f32⟩
  | .hbm, ⟨93, _⟩ => ⟨S_, .f32⟩
  | .hbm, ⟨94, _⟩ => ⟨S16384x2816, .f32⟩
  | .hbm, ⟨95, _⟩ => ⟨S16384x2816, .f32⟩
  | .hbm, ⟨96, _⟩ => ⟨S16384x2816, .f32⟩
  | .hbm, ⟨97, _⟩ => ⟨S16384x2816, .f32⟩
  | .hbm, ⟨98, _⟩ => ⟨S2816x1024, .f32⟩
  | .hbm, ⟨99, _⟩ => ⟨S16384x1024, .f32⟩
  | .hbm, ⟨100, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Kernel12.lean ====
abbrev S32x1024 : Shape := ⟨2, ![32, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S32 : Shape := ⟨1, ![32]⟩
abbrev S32x1 : Shape := ⟨2, ![32, 1]⟩
abbrev S32x2816 : Shape := ⟨2, ![32, 2816]⟩

abbrev nBuf : Space → Nat
  | .hbm => 8
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S32x1024, .f32⟩
  | .local _ .vmem, ⟨7, _⟩ => ⟨S32x1024, .bf16⟩
  | .local _ .vmem, ⟨8, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_14 : BitVec 32 := 0#32
  let v19 : BitVec 1 := Scalar.cmpi .eq arg1 c0_i32_14
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference12Ideal.lean ====
abbrev S32x1024 : Shape := ⟨2, ![32, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x5632 : Shape := ⟨2, ![32, 5632]⟩
abbrev S32x2816 : Shape := ⟨2, ![32, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S1024x5632, .f32⟩
  | .hbm, ⟨22, _⟩ => ⟨S32x5632, .f32⟩
  | .hbm, ⟨23, _⟩ => ⟨S32x2816, .f32⟩
  | .hbm, ⟨24, _⟩ => ⟨S32x2816, .f32⟩
  | .hbm, ⟨25, _⟩ => ⟨S32x2816, .f32⟩
  | .hbm, ⟨26, _⟩ => ⟨S32x2816, .f32⟩
  | .hbm, ⟨27, _⟩ => ⟨S_, .f32⟩
  | .hbm, ⟨28, _⟩ => ⟨S32x2816, .f32⟩
  | .hbm, ⟨29, _⟩ => ⟨S32x2816, .f32⟩
  | .hbm, ⟨30, _⟩ => ⟨S_, .f32⟩
  | .hbm, ⟨31, _⟩ => ⟨S32x2816, .f32⟩
  | .hbm, ⟨32, _⟩ => ⟨S32x2816, .f32⟩
  | .hbm, ⟨33, _⟩ => ⟨S32x2816, .f32⟩
  | .hbm, ⟨34, _⟩ => ⟨S32x2816, .f32⟩
  | .hbm, ⟨35, _⟩ => ⟨S2816x1024, .f32⟩
  | .hbm, ⟨36, _⟩ => ⟨S32x1024, .f32⟩
  | .hbm, ⟨37, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel13.lean ====
abbrev S32x1024 : Shape := ⟨2, ![32, 1024]⟩
abbrev S2x32x256x4x256 : Shape := ⟨5, ![2, 32, 256, 4, 256]⟩
abbrev S2x32x256x4x2x128 : Shape := ⟨6, ![2, 32, 256, 4, 2, 128]⟩
abbrev S2x32x256x2x4x128 : Shape := ⟨6, ![2, 32, 256, 2, 4, 128]⟩
abbrev S2x32x256x8x128 : Shape := ⟨5, ![2, 32, 256, 8, 128]⟩
abbrev S32x8x128 : Shape := ⟨3, ![32, 8, 128]⟩
abbrev S1x8x128 : Shape := ⟨3, ![1, 8, 128]⟩
abbrev S1x1x256x8x128 : Shape := ⟨5, ![1, 1, 256, 8, 128]⟩
abbrev S256x8x128 : Shape := ⟨3, ![256, 8, 128]⟩
abbrev S8x128 : Shape := ⟨2, ![8, 128]⟩
abbrev S256x8 : Shape := ⟨2, ![256, 8]⟩
abbrev S256x8x1 : Shape := ⟨3, ![256, 8, 1]⟩
abbrev S256x4x1 : Shape := ⟨3, ![256, 4, 1]⟩
abbrev S8x1 : Shape := ⟨2, ![8, 1]⟩
abbrev S1x8x1 : Shape := ⟨3, ![1, 8, 1]⟩

abbrev nBuf : Space → Nat
  | .hbm => 11
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S2x32x256x4x256, .f32⟩
  | .hbm, ⟨2, _⟩ => ⟨S2x32x256x4x256, .f32⟩
  | .hbm, ⟨3, _⟩ => ⟨S2x32x256x4x2x128, .f32⟩
  | .hbm, ⟨4, _⟩ => ⟨S2x32x256x2x4x128, .f32⟩
  | .hbm, ⟨5, _⟩ => ⟨S2x32x256x8x128, .f32⟩
  | .hbm, ⟨6, _⟩ => ⟨S2x32x256x4x2x128, .f32⟩
  | .hbm, ⟨7, _⟩ => ⟨S2x32x256x2x4x128, .f32⟩
  | .hbm, ⟨8, _⟩ => ⟨S2x32x256x8x128, .f32⟩
  | .hbm, ⟨9, _⟩ => ⟨S32x8x128, .f32⟩
  | .hbm, ⟨10, _⟩ => ⟨S32x8x128, .f32⟩
  | .local _ .vmem, ⟨0, _⟩ => ⟨S1x8x128, .f32⟩
  | .local _ .vmem, ⟨1, _⟩ => ⟨S1x8x128, .f32⟩
  | .local _ .vmem, ⟨2, _⟩ => ⟨S1x1x256x8x128, .f32⟩
  | .local _ .vmem, ⟨3, _⟩ => ⟨S1x1x256x8x128, .f32⟩
  | .local _ .vmem, ⟨4, _⟩ => ⟨S1x1x256x8x128, .f32⟩
  | .local _ .vmem, ⟨5, _⟩ => ⟨S1x1x256x8x128, .f32⟩
  | .local _ .vmem, ⟨6, _⟩ => ⟨S1x8x128, .f32⟩
  | .local _ .vmem, ⟨7, _⟩ => ⟨S1x8x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S32x1024 : Shape := ⟨2, ![32, 1024]⟩
abbrev S2x32x256x4x256 : Shape := ⟨5, ![2, 32, 256, 4, 256]⟩
abbrev S32x2x4x128 : Shape := ⟨4, ![32, 2, 4, 128]⟩
abbrev S32x4x2x128 : Shape := ⟨4, ![32, 4, 2, 128]⟩
abbrev S32x4x256 : Shape := ⟨3, ![32, 4, 256]⟩
abbrev S1x32x256x4x256 : Shape := ⟨5, ![1, 32, 256, 4, 256]⟩
abbrev S32x256x4x256 : Shape := ⟨4, ![32, 256, 4, 256]⟩
abbrev S_ : Shape := ⟨0, ![]⟩
abbrev S32x4 : Shape := ⟨2, ![32, 4]⟩
abbrev S32x4x1 : Shape := ⟨3, ![32, 4, 1]⟩
abbrev S32x8x128 : Shape := ⟨3, ![32, 8, 128]⟩

abbrev nBuf : Space → Nat
  | .hbm => 32
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x32x256x4x256, .f32⟩
  | .hbm, ⟨2, _⟩ => ⟨S2x32x256x4x256, .f32⟩
  | .hbm, ⟨3, _⟩ => ⟨S32x2x4x128, .f32⟩
  | .hbm, ⟨4, _⟩ => ⟨S32x4x2x128, .f32⟩
  | .hbm, ⟨5, _⟩ => ⟨S32x4x256, .f32⟩
  | .hbm, ⟨6, _⟩ => ⟨S1x32x256x4x256, .f32⟩
  | .hbm, ⟨7, _⟩ => ⟨S32x256x4x256, .f32⟩
  | .hbm, ⟨8, _⟩ => ⟨S32x4x256, .f32⟩
  | .hbm, ⟨9, _⟩ => ⟨S_, .f32⟩
  | .hbm, ⟨10, _⟩ => ⟨S32x4x256, .f32⟩
  | .hbm, ⟨11, _⟩ => ⟨S32x4x256, .f32⟩
  | .hbm, ⟨12, _⟩ => ⟨S_, .f32⟩
  | .hbm, ⟨13, _⟩ => ⟨S32x4, .f32⟩
  | .hbm, ⟨14, _⟩ => ⟨S_, .f32⟩
  | .hbm, ⟨15, _⟩ => ⟨S32x4, .f32⟩
  | .hbm, ⟨16, _⟩ => ⟨S32x4, .f32⟩
  | .hbm, ⟨17, _⟩ => ⟨S32x4x1, .f32⟩
  | .hbm, ⟨18, _⟩ => ⟨S32x4x256, .f32⟩
  | .hbm, ⟨19, _⟩ => ⟨S32x4x256, .f32⟩
  | .hbm, ⟨20, _⟩ => ⟨S32x4x256, .f32⟩
  | .hbm, ⟨21, _⟩ => ⟨S_, .f32⟩
  | .hbm, ⟨22, _⟩ => ⟨S32x4, .f32⟩
  | .hbm, ⟨23, _⟩ => ⟨S32x4x1, .f32⟩
  | .hbm, ⟨24, _⟩ => ⟨S32x4x256, .f32⟩
  | .hbm, ⟨25, _⟩ => ⟨S32x4x256, .f32⟩
  | .hbm, ⟨26, _⟩ => ⟨S1x32x256x4x256, .f32⟩
  | .hbm, ⟨27, _⟩ => ⟨S32x256x4x256, .f32⟩
  | .hbm, ⟨28, _⟩ => ⟨S32x4x256, .f32⟩
  | .hbm, ⟨29, _⟩ => ⟨S32x4x2x128, .f32⟩
  | .hbm, ⟨30, _⟩ => ⟨S32x2x4x128, .f32⟩
  | .hbm, ⟨31, _⟩ => ⟨S32x8x128, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Row.lean ====
/- The prompt tail of one row, on the extended reals: plain functions of one row of the residual stream, the
   three mixed rows and the weights, that both the kernel's block and the reference's array are shown to compute. -/
module

public import Idealize.ShloMosaic.Lib.Pointwise
public import Idealize.ShloMosaic.Lib.ValueIdx

@[expose] public section

noncomputable section

namespace Cert.Tail

open Idealize.ShloMosaic

/-- The row `x` over the root of its mean square (of 1024 entries, plus the small constant), times the gain `g`. -/
def rms (x g : Fin 1024 → EReal) (c : Fin 1024) : EReal :=
  x c * Ideal.rsqrt (Ideal.div (∑ k, x k * x k) (Ideal.ofBits .f32 0x44800000#32) + Ideal.ofBits .f32 0x358637BD#32) * g c

/-- The row `x` times the matrix `w`. -/
def lin {n m : ℕ} (x : Fin n → EReal) (w : Fin n → Fin m → EReal) (c : Fin m) : EReal := ∑ k, x k * w k c

/-- One head's scaled products of the query with the memory's keys. -/
def logits (q : Fin 256 → EReal) (mk : Fin 256 → Fin 256 → EReal) (j : Fin 256) : EReal :=
  (∑ d, q d * mk j d) * Ideal.ofBits .f32 0x3D800000#32

/-- The largest of 256 scores. -/
def peak (s : Fin 256 → EReal) : EReal := Finset.univ.fold max (Ideal.ofBits .f32 0xFF800000#32) s

/-- The softmax of 256 scores: exponentials of the distances to the largest, over their sum. -/
def soft (s : Fin 256 → EReal) (j : Fin 256) : EReal :=
  Ideal.div (Ideal.exp (s j - peak s)) (∑ k, Ideal.exp (s k - peak s))

/-- What one head reads from the memory. -/
def head (q : Fin 256 → EReal) (mk mv : Fin 256 → Fin 256 → EReal) (d : Fin 256) : EReal := lin (soft (logits q mk)) mv d

/-- The gated product of the two halves of the feed-forward projection. -/
def act (h : Fin 1024 → EReal) (wg wu : Fin 1024 → Fin 2816 → EReal) (j : Fin 2816) : EReal :=
  lin h wg j * Ideal.logistic (lin h wg j) * lin h wu j

/-- The feed-forward step and the closing norm of a row `x`. -/
def ffn (x gf : Fin 1024 → EReal) (wg wu : Fin 1024 → Fin 2816 → EReal) (wd : Fin 2816 → Fin 1024 → EReal)
    (go : Fin 1024 → EReal) : Fin 1024 → EReal :=
  rms (fun c => x c + lin (act (rms x gf) wg wu) wd c) go

/-- Position `d` of head `h` in a row of 1024 entries. -/
def at4 (h : Fin 4) (d : Fin 256) : Fin 1024 := ⟨256 * h.val + d.val, by omega⟩

/-- A row of 512, a row of 256 and a row of 256 entries side by side. -/
def join (y : Fin 512 → EReal) (p a : Fin 256 → EReal) (k : Fin 1024) : EReal :=
  if h : k.val < 512 then y ⟨k.val, h⟩ else if h' : k.val < 768 then p ⟨k.val - 512, by omega⟩ else a ⟨k.val - 768, by omega⟩

/-- The residual row after the mixers' output projection. -/
def mixed (x : Fin 1024 → EReal) (y : Fin 512 → EReal) (p a : Fin 256 → EReal) (w : Fin 1024 → Fin 1024 → EReal)
    (c : Fin 1024) : EReal := x c + lin (join y p a) w c

/-- The four heads' readings of the memory side by side, from the query row `q`. -/
def heads (q : Fin 1024 → EReal) (mk mv : Fin 256 → Fin 1024 → EReal) (k : Fin 1024) : EReal :=
  head (fun d => q (at4 ⟨k.val / 256, by omega⟩ d)) (fun j d => mk j (at4 ⟨k.val / 256, by omega⟩ d))
    (fun j d => mv j (at4 ⟨k.val / 256, by omega⟩ d)) ⟨k.val % 256, by omega⟩

/-- The residual row after the cross-attention over the memory. -/
def crossed (x g : Fin 1024 → EReal) (wq : Fin 1024 → Fin 1024 → EReal) (mk mv : Fin 256 → Fin 1024 → EReal)
    (wo : Fin 1024 → Fin 1024 → EReal) (c : Fin 1024) : EReal := x c + lin (heads (lin (rms x g) wq) mk mv) wo c

/-- The whole tail of one row. -/
def tail (x : Fin 1024 → EReal) (y : Fin 512 → EReal) (p a : Fin 256 → EReal) (w : Fin 1024 → Fin 1024 → EReal)
    (g : Fin 1024 → EReal) (wq : Fin 1024 → Fin 1024 → EReal) (mk mv : Fin 256 → Fin 1024 → EReal)
    (wo : Fin 1024 → Fin 1024 → EReal) (gf : Fin 1024 → EReal) (wg wu : Fin 1024 → Fin 2816 → EReal)
    (wd : Fin 2816 → Fin 1024 → EReal) (go : Fin 1024 → EReal) : Fin 1024 → EReal :=
  ffn (crossed (mixed x y p a w) g wq mk mv wo) gf wg wu wd go

/-- A sum over 1024 positions is the sum over the first 512, the next 256 and the last 256. -/
theorem sum_parts (f : Fin 1024 → EReal) :
    ∑ k, f k = ∑ k : Fin 512, f ⟨k.val, by omega⟩ + ∑ k : Fin 256, f ⟨512 + k.val, by omega⟩
      + ∑ k : Fin 256, f ⟨768 + k.val, by omega⟩ := by
  have e1 : ∑ k, f k = ∑ k : Fin 768, f ⟨k.val, by omega⟩ + ∑ k : Fin 256, f ⟨768 + k.val, by omega⟩ :=
    Fin.sum_univ_add (M := EReal) (a := 768) (b := 256) f
  have e2 : ∑ k : Fin 768, f ⟨k.val, by omega⟩
      = ∑ k : Fin 512, f ⟨k.val, by omega⟩ + ∑ k : Fin 256, f ⟨512 + k.val, by omega⟩ :=
    Fin.sum_univ_add (M := EReal) (a := 512) (b := 256) fun k => f ⟨k.val, by omega⟩
  rw [e1, e2]

/-- A sum over 1024 positions is the sum over the four heads' positions. -/
theorem sum_heads (f : Fin 1024 → EReal) :
    ∑ k, f k = ∑ d, f (at4 0 d) + ∑ d, f (at4 1 d) + ∑ d, f (at4 2 d) + ∑ d, f (at4 3 d) := by
  rw [sum_parts]
  have e : ∑ k : Fin 512, f ⟨k.val, by omega⟩ = ∑ k : Fin 256, f ⟨k.val, by omega⟩ + ∑ k : Fin 256, f ⟨256 + k.val, by omega⟩ :=
    Fin.sum_univ_add (M := EReal) (a := 256) (b := 256) fun k => f ⟨k.val, by omega⟩
  rw [e]
  have t (n : ℕ) (h : Fin 4) (hn : n = 256 * h.val) (b : ∀ k : Fin 256, n + k.val < 1024) :
      ∑ k : Fin 256, f ⟨n + k.val, b k⟩ = ∑ d, f (at4 h d) := by subst hn; rfl
  rw [← t 0 0 rfl (by omega), ← t 256 1 rfl (by omega), ← t 512 2 rfl (by omega), ← t 768 3 rfl (by omega)]
  simp only [Nat.zero_add]

/-- The output projection of the joined row, taken part by part. -/
theorem mixed_eq (x : Fin 1024 → EReal) (y : Fin 512 → EReal) (p a : Fin 256 → EReal) (w : Fin 1024 → Fin 1024 → EReal)
    (c : Fin 1024) :
    mixed x y p a w c = x c + lin y (fun k c => w ⟨k.val, by omega⟩ c) c + lin p (fun k c => w ⟨512 + k.val, by omega⟩ c) c
      + lin a (fun k c => w ⟨768 + k.val, by omega⟩ c) c := by
  unfold mixed lin
  rw [sum_parts]
  have h1 (k : Fin 512) : join y p a ⟨k.val, by omega⟩ = y k := by unfold join; rw [dif_pos k.isLt]
  have h2 (k : Fin 256) : join y p a ⟨512 + k.val, by omega⟩ = p k := by
    unfold join
    rw [dif_neg (by simp), dif_pos (by show 512 + k.val < 768; omega)]
    exact congrArg p (Fin.ext (Nat.add_sub_cancel_left 512 k.val))
  have h3 (k : Fin 256) : join y p a ⟨768 + k.val, by omega⟩ = a k := by
    unfold join
    rw [dif_neg (by show ¬(768 + k.val < 512); omega), dif_neg (by simp)]
    exact congrArg a (Fin.ext (Nat.add_sub_cancel_left 768 k.val))
  simp only [h1, h2, h3, add_assoc]

/-- The memory projection of the four heads side by side, taken head by head. -/
theorem crossed_eq (x g : Fin 1024 → EReal) (wq : Fin 1024 → Fin 1024 → EReal) (mk mv : Fin 256 → Fin 1024 → EReal)
    (wo : Fin 1024 → Fin 1024 → EReal) (c : Fin 1024) (o : Fin 4 → Fin 256 → EReal)
    (ho : ∀ h, o h = head (fun d => lin (rms x g) wq (at4 h d)) (fun j d => mk j (at4 h d)) fun j d => mv j (at4 h d)) :
    crossed x g wq mk mv wo c = x c + lin (o 0) (fun d c => wo (at4 0 d) c) c + lin (o 1) (fun d c => wo (at4 1 d) c) c
      + lin (o 2) (fun d c => wo (at4 2 d) c) c + lin (o 3) (fun d c => wo (at4 3 d) c) c := by
  have e (h : Fin 4) (d : Fin 256) : heads (lin (rms x g) wq) mk mv (at4 h d) = o h d := by
    have h1 : (⟨(at4 h d).val / 256, by omega⟩ : Fin 4) = h := Fin.ext (by show (256 * h.val + d.val) / 256 = h.val; omega)
    have h2 : (⟨(at4 h d).val % 256, by omega⟩ : Fin 256) = d := Fin.ext (by show (256 * h.val + d.val) % 256 = d.val; omega)
    unfold heads
    rw [h1, h2, ho]
  unfold crossed
  rw [lin, sum_heads]
  simp only [e, add_assoc]
  rfl

end Cert.Tail

end
-- ==== Proof.Block.lean ====
/- What the kernel's body leaves in the output block, read at a row and a column: the row's tail (Row.lean). -/
module

public import proofs.«01_k».proof.Proof.Gen.KernelIdeal.Value
public import proofs.«01_k».proof.Proof.Row

@[expose] public section

noncomputable section

namespace Cert.Tail

open Idealize.ShloMosaic Idealize.ShloMosaic.TcCoe Idealize.SL.Sem Cert.KernelIdeal Cert.KernelIdeal.Gen

/-- The two zero offsets, as the constant function. -/
theorem zeros2 : (![0, 0] : Fin 2 → Nat) = fun _ => 0 := funext fun a => by fin_cases a <;> rfl

/-- The residual block after the mixers' projection, from the staged blocks. -/
def blk1 (x0 : Vec Ideal S512x1024 .f32) (x1 : Vec Ideal S512x512 .bf16) (x2 x3 : Vec Ideal S512x256 .bf16)
    (x4 : Vec Ideal S512x1024 .bf16) (x5 x6 : Vec Ideal S256x1024 .bf16) : FVec Ideal S512x1024 .f32 :=
  k0_pay2 x0 x1 x4 x2 x5 x3 x6

/-- The residual block after the cross-attention, from the one before it. -/
def blk2 (z : FVec Ideal S512x1024 .f32) (x7 : Vec Ideal S1x1024 .f32) (x8 : Vec Ideal S1024x1024 .bf16)
    (x9 x10 : Vec Ideal S256x1024 .bf16) (x11 : Vec Ideal S1024x1024 .bf16) : FVec Ideal S512x1024 .f32 :=
  k0_pay11
    (k0_pay8 (k0_pay5 (k0_pay4 z x7) x8)
      (k0_pay6 (k0_pay3 z) (k0_pay4 z x7) x8
        (View.ld x9 (Rect.unit ![0, 0] S256x256.size inb_S256x1024_S256x256_0_0))
        (View.ld x10 (Rect.unit ![0, 0] S256x256.size inb_S256x1024_S256x256_0_0))
        (View.ld x11 (Rect.unit ![0, 0] S256x1024.size inb_S1024x1024_S256x1024_0_0)))
      (k0_pay7 (k0_pay4 z x7) x8 (View.ld x9 (Rect.unit ![0, 256] S256x256.size inb_S256x1024_S256x256_0_256)))
      (View.ld x10 (Rect.unit ![0, 256] S256x256.size inb_S256x1024_S256x256_0_256))
      (View.ld x11 (Rect.unit ![256, 0] S256x1024.size inb_S1024x1024_S256x1024_256_0))
      (View.ld x9 (Rect.unit ![0, 512] S256x256.size inb_S256x1024_S256x256_0_512))
      (View.ld x10 (Rect.unit ![0, 512] S256x256.size inb_S256x1024_S256x256_0_512))
      (View.ld x11 (Rect.unit ![512, 0] S256x1024.size inb_S1024x1024_S256x1024_512_0)))
    (k0_pay9 (k0_pay5 (k0_pay4 z x7) x8) (View.ld x9 (Rect.unit ![0, 768] S256x256.size inb_S256x1024_S256x256_0_768)))
    (k0_pay10 (k0_pay5 (k0_pay4 z x7) x8) (View.ld x9 (Rect.unit ![0, 768] S256x256.size inb_S256x1024_S256x256_0_768)))
    (View.ld x10 (Rect.unit ![0, 768] S256x256.size inb_S256x1024_S256x256_0_768))
    (View.ld x11 (Rect.unit ![768, 0] S256x1024.size inb_S1024x1024_S256x1024_768_0))

/-- The output block, from the residual block after the cross-attention. -/
def blk3 (z : FVec Ideal S512x1024 .f32) (x12 : Vec Ideal S1x1024 .f32) (x13 x14 : Vec Ideal S1024x2816 .bf16)
    (x15 : Vec Ideal S2816x1024 .bf16) (x16 : Vec Ideal S1x1024 .f32) : FVec Ideal S512x1024 .f32 :=
  k0_pay1 (k0_pay12 z) (k0_pay14 z x12 x13) (k0_pay15 z x12 x14) x15 x16

variable (m : (ℓ : Loc nD τ sig) → Buf (Elt Ideal) ℓ)

/-- The body's last store through the whole staging buffer leaves the three steps' composition of the staged blocks. -/
theorem outsAt0_eq (c : Dev nD) (t : Fin cfg0.N) :
    outsAt0 m c t = blk3 (blk2 (blk1 (iblk m c 0 t) (iblk m c 1 t) (iblk m c 2 t) (iblk m c 3 t) (iblk m c 4 t)
      (iblk m c 5 t) (iblk m c 6 t)) (iblk m c 7 t) (iblk m c 8 t) (iblk m c 9 t) (iblk m c 10 t) (iblk m c 11 t))
      (iblk m c 12 t) (iblk m c 13 t) (iblk m c 14 t) (iblk m c 15 t) (iblk m c 16 t) := by
  unfold outsAt0 out0_A_17
  rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (hs0_12 t).read_unread, (hs0_13 t).read_unread,
    (hs0_14 t).read_unread, (hs0_15 t).read_unread, (hs0_16 t).read_unread, View.readCov_cons_toLoadRect]
  rw [View.canon_cons_unit_zero zeros2]
  have h0 := View.ld_unit_zero zeros2 inb_S512x1024_S512x1024_0_0 (iblk m c 0 t)
  have h1 := View.ld_unit_zero zeros2 inb_S512x512_S512x512_0_0 (iblk m c 1 t)
  have h2 := View.ld_unit_zero zeros2 inb_S512x256_S512x256_0_0 (iblk m c 2 t)
  have h3 := View.ld_unit_zero zeros2 inb_S512x256_S512x256_0_0 (iblk m c 3 t)
  have h4 := View.ld_unit_zero zeros2 inb_S512x1024_S512x1024_0_0 (iblk m c 4 t)
  have h5 := View.ld_unit_zero zeros2 inb_S256x1024_S256x1024_0_0 (iblk m c 5 t)
  have h6 := View.ld_unit_zero zeros2 inb_S256x1024_S256x1024_0_0 (iblk m c 6 t)
  have h7 := View.ld_unit_zero zeros2 inb_S1x1024_S1x1024_0_0 (iblk m c 7 t)
  have h8 := View.ld_unit_zero zeros2 inb_S1024x1024_S1024x1024_0_0 (iblk m c 8 t)
  have h12 := View.ld_unit_zero zeros2 inb_S1x1024_S1x1024_0_0 (iblk m c 12 t)
  have h13 := View.ld_unit_zero zeros2 inb_S1024x2816_S1024x2816_0_0 (iblk m c 13 t)
  have h14 := View.ld_unit_zero zeros2 inb_S1024x2816_S1024x2816_0_0 (iblk m c 14 t)
  have h15 := View.ld_unit_zero zeros2 inb_S2816x1024_S2816x1024_0_0 (iblk m c 15 t)
  have h16 := View.ld_unit_zero zeros2 inb_S1x1024_S1x1024_0_0 (iblk m c 16 t)
  unfold blk3 blk2 blk1
  conv_rhs => rw [← h0, ← h1, ← h2, ← h3, ← h4, ← h5, ← h6, ← h7, ← h8, ← h12, ← h13, ← h14, ← h15, ← h16]
  rfl

/-- The mixers' projection of a block, row by row. -/
theorem blk1_apply (x0 : Vec Ideal S512x1024 .f32) (x1 : Vec Ideal S512x512 .bf16) (x2 x3 : Vec Ideal S512x256 .bf16)
    (x4 : Vec Ideal S512x1024 .bf16) (x5 x6 : Vec Ideal S256x1024 .bf16) (w : Fin 1024 → Fin 1024 → EReal)
    (h4 : ∀ (k : Fin 512) c, x4 (ix2 k c) = w ⟨k.val, by omega⟩ c)
    (h5 : ∀ (k : Fin 256) c, x5 (ix2 k c) = w ⟨512 + k.val, by omega⟩ c)
    (h6 : ∀ (k : Fin 256) c, x6 (ix2 k c) = w ⟨768 + k.val, by omega⟩ c) (r : Fin 512) (c : Fin 1024) :
    blk1 x0 x1 x2 x3 x4 x5 x6 (ix2 r c)
      = mixed (fun k => x0 (ix2 r k)) (fun k => x1 (ix2 r k)) (fun k => x2 (ix2 r k)) (fun k => x3 (ix2 r k)) w c := by
  rw [mixed_eq]
  pointwise [blk1, k0_pay2]
  simp only [h4, h5, h6]
  rfl

/-- A block's query projection, row by row. -/
theorem query_apply (z : FVec Ideal S512x1024 .f32) (x7 : Vec Ideal S1x1024 .f32) (x8 : Vec Ideal S1024x1024 .bf16)
    (r : Fin 512) (c : Fin 1024) :
    k0_pay5 (k0_pay4 z x7) x8 (ix2 r c)
      = lin (rms (fun k => z (ix2 r k)) fun k => x7 (ix2 0 k)) (fun k c => x8 (ix2 k c)) c := by
  pointwise [k0_pay5, k0_pay4, k0_pay3]
  rfl

/-- The cross-attention of a block, row by row. -/
theorem blk2_apply (z : FVec Ideal S512x1024 .f32) (x7 : Vec Ideal S1x1024 .f32) (x8 : Vec Ideal S1024x1024 .bf16)
    (x9 x10 : Vec Ideal S256x1024 .bf16) (x11 : Vec Ideal S1024x1024 .bf16) (r : Fin 512) (c : Fin 1024) :
    blk2 z x7 x8 x9 x10 x11 (ix2 r c)
      = crossed (fun k => z (ix2 r k)) (fun k => x7 (ix2 0 k)) (fun k c => x8 (ix2 k c)) (fun j k => x9 (ix2 j k))
          (fun j k => x10 (ix2 j k)) (fun k c => x11 (ix2 k c)) c := by
  rw [crossed_eq _ _ _ _ _ _ _ _ fun _ => rfl]
  pointwise [blk2, k0_pay11, k0_pay10, k0_pay9, k0_pay8, k0_pay7, k0_pay6, k0_pay3]
  simp only [query_apply]
  generalize lin (rms (fun k => z (ix2 r k)) fun k => x7 (ix2 0 k)) (fun k c => x8 (ix2 k c)) = q
  have i0 (d : Fin 256) : at4 0 d = ⟨d.val, by omega⟩ := Fin.ext (by simp [at4])
  have i1 (d : Fin 256) : at4 1 d = ⟨256 + d.val, by omega⟩ := rfl
  have i2 (d : Fin 256) : at4 2 d = ⟨512 + d.val, by omega⟩ := rfl
  have i3 (d : Fin 256) : at4 3 d = ⟨768 + d.val, by omega⟩ := rfl
  simp only [i0, i1, i2, i3]
  rfl

/-- The feed-forward step and the closing norm of a block, row by row. -/
theorem blk3_apply (z : FVec Ideal S512x1024 .f32) (x12 : Vec Ideal S1x1024 .f32) (x13 x14 : Vec Ideal S1024x2816 .bf16)
    (x15 : Vec Ideal S2816x1024 .bf16) (x16 : Vec Ideal S1x1024 .f32) (r : Fin 512) (c : Fin 1024) :
    blk3 z x12 x13 x14 x15 x16 (ix2 r c)
      = ffn (fun k => z (ix2 r k)) (fun k => x12 (ix2 0 k)) (fun k j => x13 (ix2 k j)) (fun k j => x14 (ix2 k j))
          (fun j c => x15 (ix2 j c)) (fun k => x16 (ix2 0 k)) c := by
  pointwise [blk3, k0_pay1, k0_pay12, k0_pay13, k0_pay14, k0_pay15]
  rfl

end Cert.Tail

end
-- ==== Proof.Array.lean ====
/- The kernel's result array, read at a row and a column: the row's tail (Row.lean) of the arguments' rows. -/
module

public import proofs.«01_k».proof.Proof.Block

@[expose] public section

noncomputable section

namespace Cert.Tail

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Which block of its array each row window is at, at each grid point: block `t` of rows. -/
theorem index_rows : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_17.index t 0 = t.val ∧ win0_17.index t 1 = 0) := by
  decide +kernel

/-- Which block of its array each weight window is at, at each grid point: always the same one. -/
theorem index_weights : ∀ t : Fin grid0.N, (win0_4.index t 0 = 0 ∧ win0_4.index t 1 = 0)
    ∧ (win0_5.index t 0 = 2 ∧ win0_5.index t 1 = 0) ∧ (win0_6.index t 0 = 3 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0)
    ∧ (win0_13.index t 0 = 0 ∧ win0_13.index t 1 = 0) ∧ (win0_14.index t 0 = 0 ∧ win0_14.index t 1 = 1)
    ∧ (win0_15.index t 0 = 0 ∧ win0_15.index t 1 = 0) ∧ (win0_16.index t 0 = 0 ∧ win0_16.index t 1 = 0) := by
  decide +kernel

/-- The first norm's weights as the region finds them: the argument as one row. -/
theorem V_gain (c : Dev nD) : V m c main_v0 = shapeCast S1x1024 (m ((c : Thread nD τ).loc main_arg5)) shapeCasts_S1024_S1x1024 := by
  unfold V
  after_results
  rfl

/-- The second norm's weights as the region finds them: the argument as one row. -/
theorem V_gain2 (c : Dev nD) : V m c main_v1 = shapeCast S1x1024 (m ((c : Thread nD τ).loc main_arg10)) shapeCasts_S1024_S1x1024 := by
  unfold V
  after_results
  rfl

/-- The last norm's weights as the region finds them: the argument as one row. -/
theorem V_gain3 (c : Dev nD) : V m c main_v2 = shapeCast S1x1024 (m ((c : Thread nD τ).loc main_arg13)) shapeCasts_S1024_S1x1024 := by
  unfold V
  after_results
  rfl

/-- A vector as one row, read at a column. -/
theorem row_apply (x : Vec Ideal S1024 .f32) (k : Fin 1024) : shapeCast S1x1024 x shapeCasts_S1024_S1x1024 (ix2 0 k) = x (ix1 k) := by
  pointwise []

/-- Window 0 of a point stages rows `512 t` and on of its argument. -/
theorem stage0 (c : Dev nD) (t : Fin grid0.N) (r : Fin 512) (k : Fin 1024) (h : 512 * t.val + r.val < 16384) :
    iblk m c 0 t (ix2 r k) = m ((c : Thread nD τ).loc main_arg0) (ix2 ⟨512 * t.val + r.val, h⟩ k) := by
  have e := (index_rows t).1
  refine Eq.trans (congrArg (V m c main_arg0) (funext fun a => Fin.ext ?_)) (congrFun (V_main_arg0 m c) _)
  match a with
  | ⟨0, _⟩ => show win0_0.index t 0 * 512 + 1 * r.val = 512 * t.val + r.val; rw [e.1]; omega
  | ⟨1, _⟩ => show win0_0.index t 1 * 1024 + 1 * k.val = k.val; rw [e.2]; omega

/-- Window 1 of a point stages rows `512 t` and on of its argument. -/
theorem stage1 (c : Dev nD) (t : Fin grid0.N) (r : Fin 512) (k : Fin 512) (h : 512 * t.val + r.val < 16384) :
    iblk m c 1 t (ix2 r k) = m ((c : Thread nD τ).loc main_arg1) (ix2 ⟨512 * t.val + r.val, h⟩ k) := by
  have e := (index_rows t).2.1
  refine Eq.trans (congrArg (V m c main_arg1) (funext fun a => Fin.ext ?_)) (congrFun (V_main_arg1 m c) _)
  match a with
  | ⟨0, _⟩ => show win0_1.index t 0 * 512 + 1 * r.val = 512 * t.val + r.val; rw [e.1]; omega
  | ⟨1, _⟩ => show win0_1.index t 1 * 512 + 1 * k.val = k.val; rw [e.2]; omega

/-- Window 2 of a point stages rows `512 t` and on of its argument. -/
theorem stage2 (c : Dev nD) (t : Fin grid0.N) (r : Fin 512) (k : Fin 256) (h : 512 * t.val + r.val < 16384) :
    iblk m c 2 t (ix2 r k) = m ((c : Thread nD τ).loc main_arg2) (ix2 ⟨512 * t.val + r.val, h⟩ k) := by
  have e := (index_rows t).2.2.1
  refine Eq.trans (congrArg (V m c main_arg2) (funext fun a => Fin.ext ?_)) (congrFun (V_main_arg2 m c) _)
  match a with
  | ⟨0, _⟩ => show win0_2.index t 0 * 512 + 1 * r.val = 512 * t.val + r.val; rw [e.1]; omega
  | ⟨1, _⟩ => show win0_2.index t 1 * 256 + 1 * k.val = k.val; rw [e.2]; omega

/-- Window 3 of a point stages rows `512 t` and on of its argument. -/
theorem stage3 (c : Dev nD) (t : Fin grid0.N) (r : Fin 512) (k : Fin 256) (h : 512 * t.val + r.val < 16384) :
    iblk m c 3 t (ix2 r k) = m ((c : Thread nD τ).loc main_arg3) (ix2 ⟨512 * t.val + r.val, h⟩ k) := by
  have e := (index_rows t).2.2.2.1
  refine Eq.trans (congrArg (V m c main_arg3) (funext fun a => Fin.ext ?_)) (congrFun (V_main_arg3 m c) _)
  match a with
  | ⟨0, _⟩ => show win0_3.index t 0 * 512 + 1 * r.val = 512 * t.val + r.val; rw [e.1]; omega
  | ⟨1, _⟩ => show win0_3.index t 1 * 256 + 1 * k.val = k.val; rw [e.2]; omega

/-- What window 4 stages of its argument, at every point. -/
theorem stage4 (c : Dev nD) (t : Fin grid0.N) (r : Fin 512) (k : Fin 1024) :
    iblk m c 4 t (ix2 r k) = m ((c : Thread nD τ).loc main_arg4) (ix2 ⟨r.val, by omega⟩ k) := by
  have e := (index_weights t).1
  refine Eq.trans (congrArg (V m c main_arg4) (funext fun a => Fin.ext ?_)) (congrFun (V_main_arg4 m c) _)
  match a with
  | ⟨0, _⟩ => show win0_4.index t 0 * 512 + 1 * r.val = r.val; rw [e.1]; omega
  | ⟨1, _⟩ => show win0_4.index t 1 * 1024 + 1 * k.val = k.val; rw [e.2]; omega

/-- What window 5 stages of its argument, at every point. -/
theorem stage5 (c : Dev nD) (t : Fin grid0.N) (r : Fin 256) (k : Fin 1024) :
    iblk m c 5 t (ix2 r k) = m ((c : Thread nD τ).loc main_arg4) (ix2 ⟨512 + r.val, by omega⟩ k) := by
  have e := (index_weights t).2.1
  refine Eq.trans (congrArg (V m c main_arg4) (funext fun a => Fin.ext ?_)) (congrFun (V_main_arg4 m c) _)
  match a with
  | ⟨0, _⟩ => show win0_5.index t 0 * 256 + 1 * r.val = 512 + r.val; rw [e.1]; omega
  | ⟨1, _⟩ => show win0_5.index t 1 * 1024 + 1 * k.val = k.val; rw [e.2]; omega

/-- What window 6 stages of its argument, at every point. -/
theorem stage6 (c : Dev nD) (t : Fin grid0.N) (r : Fin 256) (k : Fin 1024) :
    iblk m c 6 t (ix2 r k) = m ((c : Thread nD τ).loc main_arg4) (ix2 ⟨768 + r.val, by omega⟩ k) := by
  have e := (index_weights t).2.2.1
  refine Eq.trans (congrArg (V m c main_arg4) (funext fun a => Fin.ext ?_)) (congrFun (V_main_arg4 m c) _)
  match a with
  | ⟨0, _⟩ => show win0_6.index t 0 * 256 + 1 * r.val = 768 + r.val; rw [e.1]; omega
  | ⟨1, _⟩ => show win0_6.index t 1 * 1024 + 1 * k.val = k.val; rw [e.2]; omega

/-- What window 7 stages: the argument's vector as one row, at every point. -/
theorem stage7 (c : Dev nD) (t : Fin grid0.N) (k : Fin 1024) :
    iblk m c 7 t (ix2 0 k) = m ((c : Thread nD τ).loc main_arg5) (ix1 k) := by
  have e := (index_weights t).2.2.2.1
  refine Eq.trans (congrArg (V m c main_v0) (funext fun a => Fin.ext (?_ : _ = ((ix2 (0 : Fin 1) k : S1x1024.Idx) a).val)))
    ((congrFun (V_gain m c) _).trans (row_apply _ k))
  match a with
  | ⟨0, _⟩ => show win0_7.index t 0 * 1 + 1 * 0 = 0; rw [e.1]
  | ⟨1, _⟩ => show win0_7.index t 1 * 1024 + 1 * k.val = k.val; rw [e.2]; omega

/-- What window 8 stages of its argument, at every point. -/
theorem stage8 (c : Dev nD) (t : Fin grid0.N) (r : Fin 1024) (k : Fin 1024) :
    iblk m c 8 t (ix2 r k) = m ((c : Thread nD τ).loc main_arg6) (ix2 r k) := by
  have e := (index_weights t).2.2.2.2.1
  refine Eq.trans (congrArg (V m c main_arg6) (funext fun a => Fin.ext ?_)) (congrFun (V_main_arg6 m c) _)
  match a with
  | ⟨0, _⟩ => show win0_8.index t 0 * 1024 + 1 * r.val = r.val; rw [e.1]; omega
  | ⟨1, _⟩ => show win0_8.index t 1 * 1024 + 1 * k.val = k.val; rw [e.2]; omega

/-- What window 9 stages of its argument, at every point. -/
theorem stage9 (c : Dev nD) (t : Fin grid0.N) (r : Fin 256) (k : Fin 1024) :
    iblk m c 9 t (ix2 r k) = m ((c : Thread nD τ).loc main_arg7) (ix2 r k) := by
  have e := (index_weights t).2.2.2.2.2.1
  refine Eq.trans (congrArg (V m c main_arg7) (funext fun a => Fin.ext ?_)) (congrFun (V_main_arg7 m c) _)
  match a with
  | ⟨0, _⟩ => show win0_9.index t 0 * 256 + 1 * r.val = r.val; rw [e.1]; omega
  | ⟨1, _⟩ => show win0_9.index t 1 * 1024 + 1 * k.val = k.val; rw [e.2]; omega

/-- What window 10 stages of its argument, at every point. -/
theorem stage10 (c : Dev nD) (t : Fin grid0.N) (r : Fin 256) (k : Fin 1024) :
    iblk m c 10 t (ix2 r k) = m ((c : Thread nD τ).loc main_arg8) (ix2 r k) := by
  have e := (index_weights t).2.2.2.2.2.2.1
  refine Eq.trans (congrArg (V m c main_arg8) (funext fun a => Fin.ext ?_)) (congrFun (V_main_arg8 m c) _)
  match a with
  | ⟨0, _⟩ => show win0_10.index t 0 * 256 + 1 * r.val = r.val; rw [e.1]; omega
  | ⟨1, _⟩ => show win0_10.index t 1 * 1024 + 1 * k.val = k.val; rw [e.2]; omega

/-- What window 11 stages of its argument, at every point. -/
theorem stage11 (c : Dev nD) (t : Fin grid0.N) (r : Fin 1024) (k : Fin 1024) :
    iblk m c 11 t (ix2 r k) = m ((c : Thread nD τ).loc main_arg9) (ix2 r k) := by
  have e := (index_weights t).2.2.2.2.2.2.2.1
  refine Eq.trans (congrArg (V m c main_arg9) (funext fun a => Fin.ext ?_)) (congrFun (V_main_arg9 m c) _)
  match a with
  | ⟨0, _⟩ => show win0_11.index t 0 * 1024 + 1 * r.val = r.val; rw [e.1]; omega
  | ⟨1, _⟩ => show win0_11.index t 1 * 1024 + 1 * k.val = k.val; rw [e.2]; omega

/-- What window 12 stages: the argument's vector as one row, at every point. -/
theorem stage12 (c : Dev nD) (t : Fin grid0.N) (k : Fin 1024) :
    iblk m c 12 t (ix2 0 k) = m ((c : Thread nD τ).loc main_arg10) (ix1 k) := by
  have e := (index_weights t).2.2.2.2.2.2.2.2.1
  refine Eq.trans (congrArg (V m c main_v1) (funext fun a => Fin.ext (?_ : _ = ((ix2 (0 : Fin 1) k : S1x1024.Idx) a).val)))
    ((congrFun (V_gain2 m c) _).trans (row_apply _ k))
  match a with
  | ⟨0, _⟩ => show win0_12.index t 0 * 1 + 1 * 0 = 0; rw [e.1]
  | ⟨1, _⟩ => show win0_12.index t 1 * 1024 + 1 * k.val = k.val; rw [e.2]; omega

/-- What window 13 stages of its argument, at every point. -/
theorem stage13 (c : Dev nD) (t : Fin grid0.N) (r : Fin 1024) (k : Fin 2816) :
    iblk m c 13 t (ix2 r k) = m ((c : Thread nD τ).loc main_arg11) (ix2 r ⟨k.val, by omega⟩) := by
  have e := (index_weights t).2.2.2.2.2.2.2.2.2.1
  refine Eq.trans (congrArg (V m c main_arg11) (funext fun a => Fin.ext ?_)) (congrFun (V_main_arg11 m c) _)
  match a with
  | ⟨0, _⟩ => show win0_13.index t 0 * 1024 + 1 * r.val = r.val; rw [e.1]; omega
  | ⟨1, _⟩ => show win0_13.index t 1 * 2816 + 1 * k.val = k.val; rw [e.2]; omega

/-- What window 14 stages of its argument, at every point. -/
theorem stage14 (c : Dev nD) (t : Fin grid0.N) (r : Fin 1024) (k : Fin 2816) :
    iblk m c 14 t (ix2 r k) = m ((c : Thread nD τ).loc main_arg11) (ix2 r ⟨2816 + k.val, by omega⟩) := by
  have e := (index_weights t).2.2.2.2.2.2.2.2.2.2.1
  refine Eq.trans (congrArg (V m c main_arg11) (funext fun a => Fin.ext ?_)) (congrFun (V_main_arg11 m c) _)
  match a with
  | ⟨0, _⟩ => show win0_14.index t 0 * 1024 + 1 * r.val = r.val; rw [e.1]; omega
  | ⟨1, _⟩ => show win0_14.index t 1 * 2816 + 1 * k.val = 2816 + k.val; rw [e.2]; omega

/-- What window 15 stages of its argument, at every point. -/
theorem stage15 (c : Dev nD) (t : Fin grid0.N) (r : Fin 2816) (k : Fin 1024) :
    iblk m c 15 t (ix2 r k) = m ((c : Thread nD τ).loc main_arg12) (ix2 r k) := by
  have e := (index_weights t).2.2.2.2.2.2.2.2.2.2.2.1
  refine Eq.trans (congrArg (V m c main_arg12) (funext fun a => Fin.ext ?_)) (congrFun (V_main_arg12 m c) _)
  match a with
  | ⟨0, _⟩ => show win0_15.index t 0 * 2816 + 1 * r.val = r.val; rw [e.1]; omega
  | ⟨1, _⟩ => show win0_15.index t 1 * 1024 + 1 * k.val = k.val; rw [e.2]; omega

/-- What window 16 stages: the argument's vector as one row, at every point. -/
theorem stage16 (c : Dev nD) (t : Fin grid0.N) (k : Fin 1024) :
    iblk m c 16 t (ix2 0 k) = m ((c : Thread nD τ).loc main_arg13) (ix1 k) := by
  have e := (index_weights t).2.2.2.2.2.2.2.2.2.2.2.2
  refine Eq.trans (congrArg (V m c main_v2) (funext fun a => Fin.ext (?_ : _ = ((ix2 (0 : Fin 1) k : S1x1024.Idx) a).val)))
    ((congrFun (V_gain3 m c) _).trans (row_apply _ k))
  match a with
  | ⟨0, _⟩ => show win0_16.index t 0 * 1 + 1 * 0 = 0; rw [e.1]
  | ⟨1, _⟩ => show win0_16.index t 1 * 1024 + 1 * k.val = k.val; rw [e.2]; omega

/-- The result's row and column, from the arguments as launched. -/
def result (c : Dev nD) (t : Fin 16384) : Fin 1024 → EReal :=
  tail (fun k => m ((c : Thread nD τ).loc main_arg0) (ix2 t k)) (fun k => m ((c : Thread nD τ).loc main_arg1) (ix2 t k))
    (fun k => m ((c : Thread nD τ).loc main_arg2) (ix2 t k)) (fun k => m ((c : Thread nD τ).loc main_arg3) (ix2 t k))
    (fun k c' => m ((c : Thread nD τ).loc main_arg4) (ix2 k c')) (fun k => m ((c : Thread nD τ).loc main_arg5) (ix1 k))
    (fun k c' => m ((c : Thread nD τ).loc main_arg6) (ix2 k c')) (fun j k => m ((c : Thread nD τ).loc main_arg7) (ix2 j k))
    (fun j k => m ((c : Thread nD τ).loc main_arg8) (ix2 j k)) (fun k c' => m ((c : Thread nD τ).loc main_arg9) (ix2 k c'))
    (fun k => m ((c : Thread nD τ).loc main_arg10) (ix1 k))
    (fun k j => m ((c : Thread nD τ).loc main_arg11) (ix2 k ⟨j.val, by omega⟩))
    (fun k j => m ((c : Thread nD τ).loc main_arg11) (ix2 k ⟨2816 + j.val, by omega⟩))
    (fun j c' => m ((c : Thread nD τ).loc main_arg12) (ix2 j c')) (fun k => m ((c : Thread nD τ).loc main_arg13) (ix1 k))

/-- The block a point leaves in the output's staging buffer, at a row and a column: the tail of its row. -/
theorem outsAt0_apply (c : Dev nD) (t : Fin grid0.N) (r : Fin 512) (k : Fin 1024) (h : 512 * t.val + r.val < 16384) :
    outsAt0 m c t (ix2 r k) = result m c ⟨512 * t.val + r.val, h⟩ k := by
  rw [outsAt0_eq, blk3_apply]
  unfold result tail
  have h1 := blk1_apply (iblk m c 0 t) (iblk m c 1 t) (iblk m c 2 t) (iblk m c 3 t) (iblk m c 4 t) (iblk m c 5 t) (iblk m c 6 t)
    (fun k c' => m ((c : Thread nD τ).loc main_arg4) (ix2 k c')) (stage4 m c t) (stage5 m c t) (stage6 m c t) r
  simp only [blk2_apply, h1, stage0 m c t r _ h, stage1 m c t r _ h, stage2 m c t r _ h, stage3 m c t r _ h, stage7, stage8, stage9,
    stage10, stage11, stage12, stage13, stage14, stage15, stage16]

/-- The kernel's result array as one function of the arguments. -/
def final (c : Dev nD) : Buf (Elt Ideal) ((c : Thread nD τ).loc main_v3) := fun i => result m c (i 0) (i 1)

/-- A block whose rows are rows `512 t` and on of `f` is point `t`'s block of the array with the rows `f`. -/
theorem rows_read (f : Fin 16384 → Fin 1024 → EReal) (b : Vec Ideal S512x1024 .f32) (t : Fin cfg0.N)
    (hb : ∀ (r : Fin 512) (k : Fin 1024) (h : 512 * t.val + r.val < 16384), b (ix2 r k) = f ⟨512 * t.val + r.val, h⟩ k) :
    b = ((cfg0.win 17).blk t).view.read (Elt Ideal) (fun i => f (i 0) (i 1)) := by
  funext i
  have hN : t.val < 32 := t.isLt
  have e := (index_rows t).2.2.2.2
  have h0 : (i 0).val < 512 := (i 0).isLt
  have h1 : (i 1).val < 1024 := (i 1).isLt
  have h : 512 * t.val + (i 0).val < 16384 := by omega
  refine Eq.trans (Eq.trans ?_ (hb ⟨(i 0).val, h0⟩ ⟨(i 1).val, h1⟩ h)) ?_
  · refine congrArg b (funext fun a => ?_)
    match a with
    | ⟨0, _⟩ => rfl
    | ⟨1, _⟩ => rfl
  · refine congrArg₂ f (Fin.ext ?_) (Fin.ext ?_)
    · show 512 * t.val + (i 0).val = win0_17.index t 0 * 512 + 1 * (i 0).val
      rw [e.1]; omega
    · show (i 1).val = win0_17.index t 1 * 1024 + 1 * (i 1).val
      rw [e.2]; omega

/-- What a point writes back is its block of the result. -/
theorem flushed_eq (c : Dev nD) (t : Fin cfg0.N) :
    (dats m 0 c).flushed 17 t = ((cfg0.win 17).blk t).view.read (Elt Ideal) (final m c) := by
  rw [Value.flushed17]
  exact rows_read (result m c) _ t (outsAt0_apply m c t)

/-- Every index of the result is in some point's block. -/
theorem cover (i : S16384x1024.Idx) : ∃ t : Fin cfg0.N, (cfg0.win 17).flush t = true ∧ i ∈ ((cfg0.win 17).blk t).view.set := by
  have h0 : (i 0).val < 16384 := (i 0).isLt
  have h1 : (i 1).val < 1024 := (i 1).isLt
  let t : Fin grid0.N := ⟨(i 0).val / 512, show (i 0).val / 512 < 32 by omega⟩
  have e := (index_rows t).2.2.2.2
  refine ⟨t, flush0_17 t, ?_⟩
  show i ∈ ((View.whole main_v3).slice (win0_17.rect t)).set
  rw [View.set_slice_whole, Rect.mem_set_unit]
  intro a
  match a with
  | ⟨0, _⟩ =>
    show win0_17.index t 0 * 512 ≤ (i 0).val ∧ (i 0).val < win0_17.index t 0 * 512 + 512
    rw [e.1]
    show (i 0).val / 512 * 512 ≤ (i 0).val ∧ (i 0).val < (i 0).val / 512 * 512 + 512
    omega
  | ⟨1, _⟩ =>
    show win0_17.index t 1 * 1024 ≤ (i 1).val ∧ (i 1).val < win0_17.index t 1 * 1024 + 1024
    rw [e.2]
    omega

/-- The kernel's result array after the run. -/
theorem array_eq (c : Dev nD) : (dats m 0 c).arrAt 17 cfg0.N = final m c :=
  (dats m 0 c).arrAt_eq_of_cover 17 (final m c) (fun t _ => flushed_eq m c t) cover

end Cert.Tail

end
-- ==== Proof.Ref.lean ====
/- The reference's array, read at a row and a column: the row's tail (Row.lean). -/
module

public import proofs.«01_k».proof.Proof.Gen.ReferenceIdeal.Read
public import proofs.«01_k».proof.Proof.Row
public import Idealize.ShloMosaic.Lib.KernelVsHost

@[expose] public section

noncomputable section

namespace Cert.Tail

open Idealize.ShloMosaic Idealize.ShloMosaic.TcCoe Idealize.SL.Sem Cert.ReferenceIdeal Cert.ReferenceIdeal.Gen Cert.ReferenceIdeal.Read

variable (x0 : (⟨S16384x1024, .f32⟩ : BufTy).Contents (Elt Ideal)) (x1 : (⟨S16384x512, .bf16⟩ : BufTy).Contents (Elt Ideal))
  (x2 x3 : (⟨S16384x256, .bf16⟩ : BufTy).Contents (Elt Ideal)) (x4 : (⟨S1024x1024, .bf16⟩ : BufTy).Contents (Elt Ideal))
  (x5 : (⟨S1024, .f32⟩ : BufTy).Contents (Elt Ideal)) (x6 : (⟨S1024x1024, .bf16⟩ : BufTy).Contents (Elt Ideal))
  (x7 x8 : (⟨S256x1024, .bf16⟩ : BufTy).Contents (Elt Ideal)) (x9 : (⟨S1024x1024, .bf16⟩ : BufTy).Contents (Elt Ideal))
  (x10 : (⟨S1024, .f32⟩ : BufTy).Contents (Elt Ideal)) (x11 : (⟨S1024x5632, .bf16⟩ : BufTy).Contents (Elt Ideal))
  (x12 : (⟨S2816x1024, .bf16⟩ : BufTy).Contents (Elt Ideal)) (x13 : (⟨S1024, .f32⟩ : BufTy).Contents (Elt Ideal))

/-- The joined row of the reference. -/
theorem ref_join (t : Fin 16384) (k : Fin 1024) :
    val_main_v3 x1 x2 x3 (ix2 t k) = join (fun k => x1 (ix2 t k)) (fun k => x2 (ix2 t k)) (fun k => x3 (ix2 t k)) k := by
  pointwise [val_main_v3, val_main_v2, val_main_v1, val_main_v0]
  unfold join
  split
  · rfl
  · rename_i h
    by_cases h' : k.val < 768
    · rw [dif_pos (by omega), dif_pos h']
    · rw [dif_neg (by omega), dif_neg h']
      exact congrArg x3 (congrArg (ix2 t) (Fin.ext (show k.val - 512 - 256 = k.val - 768 by omega)))

/-- The reference's residual row after the mixers' projection. -/
theorem ref_mixed (t : Fin 16384) (c : Fin 1024) :
    val_main_v6 x0 x1 x2 x3 x4 (ix2 t c)
      = mixed (fun k => x0 (ix2 t k)) (fun k => x1 (ix2 t k)) (fun k => x2 (ix2 t k)) (fun k => x3 (ix2 t k))
          (fun k c => x4 (ix2 k c)) c := by
  pointwise [val_main_v6, val_main_v5, val_main_v4]
  simp only [ref_join]
  rfl

/-- The reference's query row. -/
theorem ref_query (t : Fin 16384) (c : Fin 1024) :
    val_main_v21 x0 x1 x2 x3 x4 x5 x6 (ix2 t c)
      = lin (rms (fun k => val_main_v6 x0 x1 x2 x3 x4 (ix2 t k)) fun k => x5 (ix1 k)) (fun k c => x6 (ix2 k c)) c := by
  generalize hz : val_main_v6 x0 x1 x2 x3 x4 = z
  pointwise [val_main_v21, val_main_v20, val_main_v19, val_main_v18, val_main_v17, val_main_v16, val_main_v15, val_main_v14,
    val_main_v13, val_main_v12, val_main_v11, val_main_v10, val_main_v9, val_main_v8, val_main_v7, val_main_cst, val_main_cst_0,
    val_main_cst_1]
  rw [hz]
  rfl

/-- The reference's scaled scores of one head. -/
theorem ref_scores (h : Fin 4) (t : Fin 16384) (j : Fin 256) :
    val_main_v29 x0 x1 x2 x3 x4 x5 x6 x7 (ix3 h t j)
      = logits (fun d => val_main_v21 x0 x1 x2 x3 x4 x5 x6 (ix2 t (at4 h d))) (fun j d => x7 (ix2 j (at4 h d))) j := by
  rw [val_main_v29_apply, val_main_v27_apply, val_main_v28_apply, val_main_cst_2_apply]
  simp only [val_main_v22_apply, val_main_v24_apply, val_main_v23_apply]
  generalize val_main_v21 x0 x1 x2 x3 x4 x5 x6 = z
  refine congrArg₂ (· * ·) (Finset.sum_congr rfl fun d _ => ?_) rfl
  have hl : idx_main_v22 (lidx_main_v27 (ix3 h t j) d) = ix2 t (at4 h d) := by
    funext a
    match a with
    | ⟨0, _⟩ => exact Fin.ext (show ((t.val * 4 + h.val) * 256 + d.val) / 1024 = t.val by omega)
    | ⟨1, _⟩ => exact Fin.ext (show ((t.val * 4 + h.val) * 256 + d.val) % 1024 = 256 * h.val + d.val by omega)
  have hr : idx_main_v24 (ridx_main_v27 (ix3 h t j) d) = ix2 j (at4 h d) := by
    funext a
    match a with
    | ⟨0, _⟩ => exact Fin.ext (show ((j.val * 4 + h.val) * 256 + d.val) / 1024 = j.val by omega)
    | ⟨1, _⟩ => exact Fin.ext (show ((j.val * 4 + h.val) * 256 + d.val) % 1024 = 256 * h.val + d.val by omega)
  rw [hl, hr]
  rfl

/-- Minus infinity below the largest score changes nothing. -/
theorem max_peak (s : Fin 256 → EReal) : max (Ideal.ofBits .f32 0xFF800000#32) (peak s) = peak s :=
  max_eq_right ((Finset.le_fold_max _).mpr (Or.inl le_rfl))

/-- A maximum over the last axis, read at a head and a row. -/
theorem fold_peak (z : FVec Ideal S4x16384x256 .f32) (h : Fin 4) (t : Fin 16384) :
    Host.reduce FloatOps.maximumf z (constant (F := Ideal) S_ .f32 0xFF800000#32) reducesTo_S4x16384x256_S4x16384_d2 h_S_ (ix2 h t)
      = peak fun j => z (ix3 h t j) := by
  have hr : S4x16384x256.Reduces [2] S4x16384 := by decide
  have e := (congrFun (hostReduce_maximumf_eq_multiReduction (F := Ideal) z 0xFF800000#32 reducesTo_S4x16384x256_S4x16384_d2 h_S_
    hr (.inl rfl) rfl) (ix2 h t)).trans (Ideal.multiReduction_maximumf_single z 0xFF800000#32 hr (.inl rfl) rfl (ix2 h t))
  refine e.trans (congrArg (fun f => Finset.univ.fold max (Ideal.ofBits .f32 0xFF800000#32) f) (funext fun k => ?_))
  refine congrArg z (funext fun a => ?_)
  match a with
  | ⟨0, _⟩ => rfl
  | ⟨1, _⟩ => rfl
  | ⟨2, _⟩ => rfl

/-- The largest score of one head in the reference. -/
theorem ref_peak (h : Fin 4) (t : Fin 16384) :
    val_main_v32 x0 x1 x2 x3 x4 x5 x6 x7 (ix2 h t) = peak fun j => val_main_v29 x0 x1 x2 x3 x4 x5 x6 x7 (ix3 h t j) := by
  rw [val_main_v32_apply, val_main_v31_apply, val_main_cst_4_apply]
  unfold val_main_v30 val_main_cst_3
  rw [fold_peak]
  exact max_peak _

/-- The reference's softmax of one head's scores. -/
theorem ref_soft (h : Fin 4) (t : Fin 16384) (j : Fin 256) :
    val_main_v40 x0 x1 x2 x3 x4 x5 x6 x7 (ix3 h t j)
      = soft (fun j => val_main_v29 x0 x1 x2 x3 x4 x5 x6 x7 (ix3 h t j)) j := by
  have he : ∀ j : Fin 256, val_main_v36 x0 x1 x2 x3 x4 x5 x6 x7 (ix3 h t j)
      = Ideal.exp (val_main_v29 x0 x1 x2 x3 x4 x5 x6 x7 (ix3 h t j)
          - peak fun j => val_main_v29 x0 x1 x2 x3 x4 x5 x6 x7 (ix3 h t j)) := by
    intro j
    rw [← ref_peak, val_main_v36_apply, val_main_v35_apply, val_main_v34_apply, val_main_v33_apply]
    have hi : idx_main_v33 (idx_main_v34 (ix3 h t j)) = ix2 h t := by
      funext a
      match a with
      | ⟨0, _⟩ => rfl
      | ⟨1, _⟩ => rfl
    rw [hi]
    rfl
  rw [val_main_v40_apply, val_main_v39_apply, val_main_v38_apply, val_main_v37_apply, he]
  refine congrArg₂ Ideal.div rfl ?_
  rw [val_main_cst_5_apply]
  refine Eq.trans (congrArg₂ (· + ·) Ideal.ofBits_zero_f32 (Finset.sum_congr rfl fun k _ => ?_)) (zero_add _)
  rw [← he k]
  refine congrArg _ (funext fun a => ?_)
  match a with
  | ⟨0, _⟩ => rfl
  | ⟨1, _⟩ => rfl
  | ⟨2, _⟩ => rfl

/-- What the reference's four heads read from the memory, side by side. -/
theorem ref_heads (t : Fin 16384) (k : Fin 1024) :
    val_main_v43 x0 x1 x2 x3 x4 x5 x6 x7 x8 (ix2 t k)
      = heads (fun k => val_main_v21 x0 x1 x2 x3 x4 x5 x6 (ix2 t k)) (fun j k => x7 (ix2 j k)) (fun j k => x8 (ix2 j k)) k := by
  rw [val_main_v43_apply, val_main_v42_apply, val_main_v41_apply]
  unfold heads head lin
  refine Finset.sum_congr rfl fun j _ => ?_
  have hp : ridx_main_v41 (idx_main_v42 (idx_main_v43 (ix2 t k))) j = ix3 ⟨k.val / 256, by omega⟩ t j := by
    funext a
    match a with
    | ⟨0, _⟩ => exact Fin.ext (show (t.val * 1024 + k.val) / 256 % 4 = k.val / 256 by omega)
    | ⟨1, _⟩ => exact Fin.ext (show (t.val * 1024 + k.val) / 1024 = t.val by omega)
    | ⟨2, _⟩ => rfl
  have hv : idx_main_v26 (lidx_main_v41 (idx_main_v42 (idx_main_v43 (ix2 t k))) j)
      = ix2 j (at4 ⟨k.val / 256, by omega⟩ ⟨k.val % 256, by omega⟩) := by
    funext a
    match a with
    | ⟨0, _⟩ => exact Fin.ext (show ((j.val * 4 + (t.val * 1024 + k.val) / 256 % 4) * 256 + (t.val * 1024 + k.val) % 256) / 1024 = j.val by omega)
    | ⟨1, _⟩ => exact Fin.ext (show ((j.val * 4 + (t.val * 1024 + k.val) / 256 % 4) * 256 + (t.val * 1024 + k.val) % 256) % 1024
        = 256 * (k.val / 256) + k.val % 256 by omega)
  rw [val_main_v26_apply, val_main_v25_apply, hp, hv, ref_soft, mul_comm]
  simp only [ref_scores]
  rfl

/-- The reference's residual row after the cross-attention. -/
theorem ref_crossed (t : Fin 16384) (c : Fin 1024) :
    val_main_v46 x0 x1 x2 x3 x4 x5 x6 x7 x8 x9 (ix2 t c)
      = crossed (fun k => val_main_v6 x0 x1 x2 x3 x4 (ix2 t k)) (fun k => x5 (ix1 k)) (fun k c => x6 (ix2 k c))
          (fun j k => x7 (ix2 j k)) (fun j k => x8 (ix2 j k)) (fun k c => x9 (ix2 k c)) c := by
  pointwise [val_main_v46, val_main_v45, val_main_v44]
  simp only [ref_heads, ref_query]
  rfl

/-- The reference's row into the feed-forward step. -/
theorem ref_norm (t : Fin 16384) (c : Fin 1024) :
    val_main_v59 x0 x1 x2 x3 x4 x5 x6 x7 x8 x9 x10 (ix2 t c)
      = rms (fun k => val_main_v46 x0 x1 x2 x3 x4 x5 x6 x7 x8 x9 (ix2 t k)) (fun k => x10 (ix1 k)) c := by
  generalize hz : val_main_v46 x0 x1 x2 x3 x4 x5 x6 x7 x8 x9 = z
  pointwise [val_main_v59, val_main_v58,
    val_main_v57, val_main_v56, val_main_v55, val_main_v54, val_main_v53, val_main_v52, val_main_v51, val_main_v50,
    val_main_v49, val_main_v48, val_main_v47, val_main_cst_6, val_main_cst_7, val_main_cst_8]
  rw [hz]
  rfl

/-- The two halves of the reference's feed-forward projection, gated. -/
theorem ref_act (t : Fin 16384) (j : Fin 2816) :
    val_main_v65 x0 x1 x2 x3 x4 x5 x6 x7 x8 x9 x10 x11 (ix2 t j)
      = act (fun k => val_main_v59 x0 x1 x2 x3 x4 x5 x6 x7 x8 x9 x10 (ix2 t k))
          (fun k j => x11 (ix2 k ⟨j.val, by omega⟩)) (fun k j => x11 (ix2 k ⟨2816 + j.val, by omega⟩)) j := by
  pointwise [val_main_v65, val_main_v64, val_main_v63, val_main_v62, val_main_v61, val_main_v60, val_main_call0_v5,
    val_main_call0_v4, val_main_call0_v3, val_main_call0_v2, val_main_call0_v1, val_main_call0_v0, val_main_call0_cst,
    val_main_call0_cst_0]
  generalize val_main_v59 x0 x1 x2 x3 x4 x5 x6 x7 x8 x9 x10 = z
  rfl

/-- The reference's residual row after the feed-forward step. -/
theorem ref_fed (t : Fin 16384) (c : Fin 1024) :
    val_main_v68 x0 x1 x2 x3 x4 x5 x6 x7 x8 x9 x10 x11 x12 (ix2 t c)
      = val_main_v46 x0 x1 x2 x3 x4 x5 x6 x7 x8 x9 (ix2 t c)
        + lin (fun k => val_main_v65 x0 x1 x2 x3 x4 x5 x6 x7 x8 x9 x10 x11 (ix2 t k)) (fun j c => x12 (ix2 j c)) c := by
  pointwise [val_main_v68, val_main_v67, val_main_v66]
  rfl

/-- The reference's result row, from the residual row after the feed-forward step. -/
theorem ref_out (t : Fin 16384) (c : Fin 1024) :
    val_main_v81 x0 x1 x2 x3 x4 x5 x6 x7 x8 x9 x10 x11 x12 x13 (ix2 t c)
      = rms (fun k => val_main_v68 x0 x1 x2 x3 x4 x5 x6 x7 x8 x9 x10 x11 x12 (ix2 t k)) (fun k => x13 (ix1 k)) c := by
  generalize hz : val_main_v68 x0 x1 x2 x3 x4 x5 x6 x7 x8 x9 x10 x11 x12 = z
  pointwise [val_main_v81, val_main_v80, val_main_v79, val_main_v78, val_main_v77, val_main_v76, val_main_v75, val_main_v74,
    val_main_v73, val_main_v72, val_main_v71, val_main_v70, val_main_v69, val_main_cst_9, val_main_cst_10, val_main_cst_11]
  rw [hz]
  rfl

/-- The reference's result row is the row's tail. -/
theorem ref_tail (t : Fin 16384) (c : Fin 1024) :
    val_main_v81 x0 x1 x2 x3 x4 x5 x6 x7 x8 x9 x10 x11 x12 x13 (ix2 t c)
      = tail (fun k => x0 (ix2 t k)) (fun k => x1 (ix2 t k)) (fun k => x2 (ix2 t k)) (fun k => x3 (ix2 t k))
          (fun k c => x4 (ix2 k c)) (fun k => x5 (ix1 k)) (fun k c => x6 (ix2 k c)) (fun j k => x7 (ix2 j k))
          (fun j k => x8 (ix2 j k)) (fun k c => x9 (ix2 k c)) (fun k => x10 (ix1 k))
          (fun k j => x11 (ix2 k ⟨j.val, by omega⟩)) (fun k j => x11 (ix2 k ⟨2816 + j.val, by omega⟩))
          (fun j c => x12 (ix2 j c)) (fun k => x13 (ix1 k)) c := by
  rw [ref_out]
  unfold tail ffn
  simp only [ref_fed, ref_act, ref_norm, ref_crossed, ref_mixed]

end Cert.Tail

end
-- ==== Proof.Inproj.lean ====
/- The input projection of the prompt rows: every one of its seven arrays, read at a row and a column, is the normed
   row times a column of the joined weight, in the kernel and in the reference. -/
module

public import proofs.«01_k».proof.Proof.Gen.Kernel2Ideal.Value
public import proofs.«01_k».proof.Proof.Gen.Reference2Ideal.Read
public import proofs.«01_k».proof.Proof.Row

@[expose] public section

noncomputable section

namespace Cert.Inproj

open Idealize.ShloMosaic Idealize.ShloMosaic.TcCoe Idealize.SL.Sem Cert.Kernel2Ideal Cert.Kernel2Ideal.Gen Cert.Tail
open Idealize.ShloMosaic.Pipeline (Dat)

/-- A two-axis index is the pair of its coordinates. -/
theorem pair_eq {a b : ℕ} (i : (⟨2, ![a, b]⟩ : Shape).Idx) (p : Fin a) (q : Fin b) (h0 : (i 0).val = p.val) (h1 : (i 1).val = q.val) :
    ix2 p q = i := by
  funext x
  match x with
  | ⟨0, _⟩ => exact Fin.ext h0.symm
  | ⟨1, _⟩ => exact Fin.ext h1.symm

/-- The two zero offsets, as the constant function. -/
theorem zeros : (![0, 0] : Fin 2 → Nat) = fun _ => 0 := funext fun a => by fin_cases a <;> rfl

section Body

variable (x0 : Vec Ideal S512x1024 .f32) (x1 : Vec Ideal S1x1024 .f32) (x2 : Vec Ideal S1024x2688 .bf16)

/-- The normed row of a block. -/
theorem norm_apply (r : Fin 512) (k : Fin 1024) :
    k0_pay4 x0 x1 (ix2 r k) = rms (fun k => x0 (ix2 r k)) (fun k => x1 (ix2 0 k)) k := by
  pointwise [k0_pay4]
  rfl

/-- The normed row of a block times the weight's column `j`. -/
def col (r : Fin 512) (j : Fin 2688) : EReal := lin (rms (fun k => x0 (ix2 r k)) (fun k => x1 (ix2 0 k))) (fun k j => x2 (ix2 k j)) j

/-- What the body leaves in the first output block. -/
theorem out3 (r : Fin 512) (j : Fin 512) : out0_3 x0 x1 x2 (ix2 r j) = col x0 x1 x2 r ⟨j.val, by omega⟩ := by
  unfold out0_3
  rw [View.canon_cons_unit_zero zeros, View.ld_unit_zero zeros, View.ld_unit_zero zeros]
  pointwise [k0_pay5]
  simp only [norm_apply]
  rfl

/-- What the body leaves in the second output block. -/
theorem out4 (r : Fin 512) (j : Fin 1024) : out0_4 x0 x1 x2 (ix2 r j) = col x0 x1 x2 r ⟨512 + j.val, by omega⟩ := by
  unfold out0_4
  rw [View.canon_cons_unit_zero zeros, View.ld_unit_zero zeros, View.ld_unit_zero zeros]
  pointwise [k0_pay6]
  simp only [norm_apply]
  rfl

/-- What the body leaves in the third output block. -/
theorem out5 (r : Fin 512) (j : Fin 128) : out0_5 x0 x1 x2 (ix2 r j) = col x0 x1 x2 r ⟨1536 + j.val, by omega⟩ := by
  unfold out0_5
  rw [View.canon_cons_unit_zero zeros, View.ld_unit_zero zeros, View.ld_unit_zero zeros]
  pointwise [k0_pay7]
  simp only [norm_apply]
  rfl

/-- What the body leaves in the fourth output block. -/
theorem out6 (r : Fin 512) (j : Fin 256) : out0_6 x0 x1 x2 (ix2 r j) = col x0 x1 x2 r ⟨1664 + j.val, by omega⟩ := by
  unfold out0_6
  rw [View.canon_cons_unit_zero zeros, View.ld_unit_zero zeros, View.ld_unit_zero zeros]
  pointwise [k0_pay8]
  simp only [norm_apply]
  rfl

/-- What the body leaves in the fifth output block. -/
theorem out7 (r : Fin 512) (j : Fin 256) : out0_7 x0 x1 x2 (ix2 r j) = col x0 x1 x2 r ⟨1920 + j.val, by omega⟩ := by
  unfold out0_7 k0_pay9
  rw [View.canon_cons_unit_zero zeros, View.ld_unit_zero zeros, View.ld_unit_zero zeros]
  pointwise [k0_pay1]
  simp only [norm_apply]
  rfl

/-- What the body leaves in the sixth output block. -/
theorem out8 (r : Fin 512) (j : Fin 256) : out0_8 x0 x1 x2 (ix2 r j) = col x0 x1 x2 r ⟨2176 + j.val, by omega⟩ := by
  unfold out0_8 k0_pay9
  rw [View.canon_cons_unit_zero zeros, View.ld_unit_zero zeros, View.ld_unit_zero zeros]
  pointwise [k0_pay2]
  simp only [norm_apply]
  rfl

/-- What the body leaves in the last output block. -/
theorem out9 (r : Fin 512) (j : Fin 256) : out0_9 x0 x1 x2 (ix2 r j) = col x0 x1 x2 r ⟨2432 + j.val, by omega⟩ := by
  unfold out0_9 k0_pay9
  rw [View.canon_cons_unit_zero zeros, View.ld_unit_zero zeros, View.ld_unit_zero zeros]
  pointwise [k0_pay3]
  simp only [norm_apply]
  rfl

end Body

variable (m : (ℓ : Loc nD τ sig) → Buf (Elt Ideal) ℓ)

/-- Which block of its array each window is at, at each grid point: block `t` of rows for the rows read and written,
    always the same one for the gain and the weight. -/
theorem index_at : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) := by
  decide +kernel

/-- The norm's weights as the region finds them: the argument as one row. -/
theorem V_gain (c : Dev nD) : V m c main_v0 = shapeCast S1x1024 (m ((c : Thread nD τ).loc main_arg1)) shapeCasts_S1024_S1x1024 := by
  unfold V
  after_results
  rfl

/-- A vector as one row, read at a column. -/
theorem row_apply (x : Vec Ideal S1024 .f32) (k : Fin 1024) : shapeCast S1x1024 x shapeCasts_S1024_S1x1024 (ix2 0 k) = x (ix1 k) := by
  pointwise []

/-- The point whose block holds row `t`. -/
def pt (t : Fin 16384) : Fin grid0.N := ⟨t.val / 512, show t.val / 512 < 32 by omega⟩

/-- The row's place in its block. -/
def place (t : Fin 16384) : Fin 512 := ⟨t.val % 512, by omega⟩

/-- Row `t` of the prompt is staged at its point. -/
theorem stage0 (c : Dev nD) (t : Fin 16384) (k : Fin 1024) :
    iblk m c 0 (pt t) (ix2 (place t) k) = m ((c : Thread nD τ).loc main_arg0) (ix2 t k) := by
  have e := (index_at (pt t)).1
  refine Eq.trans (congrArg (V m c main_arg0) (pair_eq _ t k ?_ ?_).symm) (congrFun (V_main_arg0 m c) _)
  · show win0_0.index (pt t) 0 * 512 + 1 * (t.val % 512) = t.val
    rw [e.1]; show t.val / 512 * 512 + 1 * (t.val % 512) = t.val; omega
  · show win0_0.index (pt t) 1 * 1024 + 1 * k.val = k.val
    rw [e.2]; omega

/-- The gain is staged at every point. -/
theorem stage1 (c : Dev nD) (t : Fin grid0.N) (k : Fin 1024) :
    iblk m c 1 t (ix2 0 k) = m ((c : Thread nD τ).loc main_arg1) (ix1 k) := by
  have e := (index_at t).2.1
  refine Eq.trans (congrArg (V m c main_v0) (pair_eq _ (0 : Fin 1) k ?_ ?_).symm) ((congrFun (V_gain m c) _).trans (row_apply _ k))
  · show win0_1.index t 0 * 1 + 1 * 0 = 0
    rw [e.1]
  · show win0_1.index t 1 * 1024 + 1 * k.val = k.val
    rw [e.2]; omega

/-- The weight is staged at every point. -/
theorem stage2 (c : Dev nD) (t : Fin grid0.N) (k : Fin 1024) (j : Fin 2688) :
    iblk m c 2 t (ix2 k j) = m ((c : Thread nD τ).loc main_arg2) (ix2 k j) := by
  have e := (index_at t).2.2.1
  refine Eq.trans (congrArg (V m c main_arg2) (pair_eq _ k j ?_ ?_).symm) (congrFun (V_main_arg2 m c) _)
  · show win0_2.index t 0 * 1024 + 1 * k.val = k.val
    rw [e.1]; omega
  · show win0_2.index t 1 * 2688 + 1 * j.val = j.val
    rw [e.2]; omega

/-- Entry `(t, j)` of the projection, from the arguments. -/
def proj (x : Vec Ideal S16384x1024 .f32) (g : Vec Ideal S1024 .f32) (w : Vec Ideal S1024x2688 .bf16) (t : Fin 16384) (j : Fin 2688) : EReal :=
  lin (rms (fun k => x (ix2 t k)) (fun k => g (ix1 k))) (fun k j => w (ix2 k j)) j

/-- The `n` columns of the projection from column `o` on, as an array. -/
def part (x : Vec Ideal S16384x1024 .f32) (g : Vec Ideal S1024 .f32) (w : Vec Ideal S1024x2688 .bf16) (n o : ℕ) (h : o + n ≤ 2688)
    (i : (⟨2, ![16384, n]⟩ : Shape).Idx) : EReal :=
  proj x g w (i 0) ⟨o + (i 1).val, by have : (i 1).val < n := (i 1).isLt; omega⟩

/-- `proj` of the arguments as launched. -/
abbrev launched (c : Dev nD) (n o : ℕ) (h : o + n ≤ 2688) : (⟨2, ![16384, n]⟩ : Shape).Idx → EReal :=
  part (m ((c : Thread nD τ).loc main_arg0)) (m ((c : Thread nD τ).loc main_arg1)) (m ((c : Thread nD τ).loc main_arg2)) n o h

/-- The row at its point, times a column, is the entry of the projection. -/
theorem col_eq (c : Dev nD) (t : Fin 16384) (j : Fin 2688) :
    col (iblk m c 0 (pt t)) (iblk m c 1 (pt t)) (iblk m c 2 (pt t)) (place t) j
      = proj (m ((c : Thread nD τ).loc main_arg0)) (m ((c : Thread nD τ).loc main_arg1)) (m ((c : Thread nD τ).loc main_arg2)) t j := by
  unfold col proj
  simp only [stage0, stage1, stage2]

/-- An array of `n` columns whose block at each point, read at the row's place, is the projection from column `o` on, is that part of it. -/
theorem part_of_blocks (c : Dev nD) (n o : ℕ) (h : o + n ≤ 2688) (A : (⟨2, ![16384, n]⟩ : Shape).Idx → EReal)
    (f : Fin grid0.N → (⟨2, ![512, n]⟩ : Shape).Idx → (⟨2, ![16384, n]⟩ : Shape).Idx)
    (B : Fin grid0.N → (⟨2, ![512, n]⟩ : Shape).Idx → EReal) (hb : ∀ t i, A (f t i) = B t i)
    (h0 : ∀ t i, (f t i 0).val = t.val * 512 + 1 * (i 0).val) (h1 : ∀ t i, (f t i 1).val = 0 * n + 1 * (i 1).val)
    (hB : ∀ t (r : Fin 512) (j : Fin n), B t (ix2 r j)
      = col (iblk m c 0 t) (iblk m c 1 t) (iblk m c 2 t) r ⟨o + j.val, by omega⟩) : A = launched m c n o h := by
  funext i
  obtain ⟨t, j, rfl⟩ : ∃ (t : Fin 16384) (j : Fin n), i = ix2 t j := ⟨i 0, i 1, (pair_eq i _ _ rfl rfl).symm⟩
  have e : ix2 t j = f (pt t) (ix2 (place t) j) := by
    refine pair_eq _ t j ((h0 _ _).trans ?_) ((h1 _ _).trans ?_)
    · show t.val / 512 * 512 + 1 * (t.val % 512) = t.val
      omega
    · show 0 * n + 1 * j.val = j.val
      omega
  exact (congrArg A e).trans ((hb _ _).trans ((hB _ _ _).trans (col_eq m c t _)))

/-- The first result. -/
theorem array3 (c : Dev nD) : (dats m 0 c).arrAt 3 cfg0.N = launched m c 512 0 (by omega) := by
  refine part_of_blocks m c 512 0 (by omega) _ (fun t => ((cfg0.win 3).blk t).view.emb) (fun t => (dats m 0 c).flushed 3 t)
    (fun t i => congrFun (Value.blocks3 m c t (flush0_3 t)) i) (fun t i => ?_) (fun t i => ?_) fun t r j => ?_
  · show win0_3.index t 0 * 512 + 1 * (i 0).val = _
    rw [(index_at t).2.2.2.1.1]
  · show win0_3.index t 1 * 512 + 1 * (i 1).val = _
    rw [(index_at t).2.2.2.1.2]
  · rw [Value.flushed3]
    exact (out3 _ _ _ r j).trans (congrArg _ (Fin.ext (Nat.zero_add _).symm))

/-- The second result. -/
theorem array4 (c : Dev nD) : (dats m 0 c).arrAt 4 cfg0.N = launched m c 1024 512 (by omega) := by
  refine part_of_blocks m c 1024 512 (by omega) _ (fun t => ((cfg0.win 4).blk t).view.emb) (fun t => (dats m 0 c).flushed 4 t)
    (fun t i => congrFun (Value.blocks4 m c t (flush0_4 t)) i) (fun t i => ?_) (fun t i => ?_) fun t r j => ?_
  · show win0_4.index t 0 * 512 + 1 * (i 0).val = _
    rw [(index_at t).2.2.2.2.1.1]
  · show win0_4.index t 1 * 1024 + 1 * (i 1).val = _
    rw [(index_at t).2.2.2.2.1.2]
  · rw [Value.flushed4]
    exact out4 _ _ _ r j

/-- The third result. -/
theorem array5 (c : Dev nD) : (dats m 0 c).arrAt 5 cfg0.N = launched m c 128 1536 (by omega) := by
  refine part_of_blocks m c 128 1536 (by omega) _ (fun t => ((cfg0.win 5).blk t).view.emb) (fun t => (dats m 0 c).flushed 5 t)
    (fun t i => congrFun (Value.blocks5 m c t (flush0_5 t)) i) (fun t i => ?_) (fun t i => ?_) fun t r j => ?_
  · show win0_5.index t 0 * 512 + 1 * (i 0).val = _
    rw [(index_at t).2.2.2.2.2.1.1]
  · show win0_5.index t 1 * 128 + 1 * (i 1).val = _
    rw [(index_at t).2.2.2.2.2.1.2]
  · rw [Value.flushed5]
    exact out5 _ _ _ r j

/-- The fourth result. -/
theorem array6 (c : Dev nD) : (dats m 0 c).arrAt 6 cfg0.N = launched m c 256 1664 (by omega) := by
  refine part_of_blocks m c 256 1664 (by omega) _ (fun t => ((cfg0.win 6).blk t).view.emb) (fun t => (dats m 0 c).flushed 6 t)
    (fun t i => congrFun (Value.blocks6 m c t (flush0_6 t)) i) (fun t i => ?_) (fun t i => ?_) fun t r j => ?_
  · show win0_6.index t 0 * 512 + 1 * (i 0).val = _
    rw [(index_at t).2.2.2.2.2.2.1.1]
  · show win0_6.index t 1 * 256 + 1 * (i 1).val = _
    rw [(index_at t).2.2.2.2.2.2.1.2]
  · rw [Value.flushed6]
    exact out6 _ _ _ r j

/-- The fifth result. -/
theorem array7 (c : Dev nD) : (dats m 0 c).arrAt 7 cfg0.N = launched m c 256 1920 (by omega) := by
  refine part_of_blocks m c 256 1920 (by omega) _ (fun t => ((cfg0.win 7).blk t).view.emb) (fun t => (dats m 0 c).flushed 7 t)
    (fun t i => congrFun (Value.blocks7 m c t (flush0_7 t)) i) (fun t i => ?_) (fun t i => ?_) fun t r j => ?_
  · show win0_7.index t 0 * 512 + 1 * (i 0).val = _
    rw [(index_at t).2.2.2.2.2.2.2.1.1]
  · show win0_7.index t 1 * 256 + 1 * (i 1).val = _
    rw [(index_at t).2.2.2.2.2.2.2.1.2]
  · rw [Value.flushed7]
    exact out7 _ _ _ r j

/-- The sixth result. -/
theorem array8 (c : Dev nD) : (dats m 0 c).arrAt 8 cfg0.N = launched m c 256 2176 (by omega) := by
  refine part_of_blocks m c 256 2176 (by omega) _ (fun t => ((cfg0.win 8).blk t).view.emb) (fun t => (dats m 0 c).flushed 8 t)
    (fun t i => congrFun (Value.blocks8 m c t (flush0_8 t)) i) (fun t i => ?_) (fun t i => ?_) fun t r j => ?_
  · show win0_8.index t 0 * 512 + 1 * (i 0).val = _
    rw [(index_at t).2.2.2.2.2.2.2.2.1.1]
  · show win0_8.index t 1 * 256 + 1 * (i 1).val = _
    rw [(index_at t).2.2.2.2.2.2.2.2.1.2]
  · rw [Value.flushed8]
    exact out8 _ _ _ r j

/-- The last result. -/
theorem array9 (c : Dev nD) : (dats m 0 c).arrAt 9 cfg0.N = launched m c 256 2432 (by omega) := by
  refine part_of_blocks m c 256 2432 (by omega) _ (fun t => ((cfg0.win 9).blk t).view.emb) (fun t => (dats m 0 c).flushed 9 t)
    (fun t i => congrFun (Value.blocks9 m c t (flush0_9 t)) i) (fun t i => ?_) (fun t i => ?_) fun t r j => ?_
  · show win0_9.index t 0 * 512 + 1 * (i 0).val = _
    rw [(index_at t).2.2.2.2.2.2.2.2.2.1]
  · show win0_9.index t 1 * 256 + 1 * (i 1).val = _
    rw [(index_at t).2.2.2.2.2.2.2.2.2.2]
  · rw [Value.flushed9]
    exact out9 _ _ _ r j

end Cert.Inproj

end
-- ==== Proof.InprojRef.lean ====
/- The reference's input projection, read at a row and a column: the normed row times a column of the joined weight. -/
module

public import proofs.«01_k».proof.Proof.Inproj

@[expose] public section

noncomputable section

namespace Cert.Inproj

open Idealize.ShloMosaic Idealize.ShloMosaic.TcCoe Idealize.SL.Sem Cert.Reference2Ideal Cert.Reference2Ideal.Gen
open Cert.Reference2Ideal.Read Cert.Tail

variable (x0 : (⟨S16384x1024, .f32⟩ : BufTy).Contents (Elt Ideal)) (x1 : (⟨S1024, .f32⟩ : BufTy).Contents (Elt Ideal))
  (x2 : (⟨S1024x2688, .bf16⟩ : BufTy).Contents (Elt Ideal))

/-- The reference's whole projection. -/
theorem ref_proj (t : Fin 16384) (j : Fin 2688) : val_main_v14 x0 x1 x2 (ix2 t j) = proj x0 x1 x2 t j := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  rfl

/-- The reference's first result. -/
theorem ref15 : val_main_v15 x0 x1 x2 = part x0 x1 x2 512 0 (by omega) := by
  funext i
  rw [val_main_v15_apply]
  exact (congrArg _ (pair_eq _ (i 0) (⟨0 + (i 1).val, by have : (i 1).val < 512 := (i 1).isLt; omega⟩ : Fin 2688) rfl (Nat.zero_add _).symm).symm).trans
    (ref_proj x0 x1 x2 _ _)

/-- The reference's second result. -/
theorem ref16 : val_main_v16 x0 x1 x2 = part x0 x1 x2 1024 512 (by omega) := by
  funext i
  rw [val_main_v16_apply]
  exact (congrArg _ (pair_eq _ (i 0) (⟨512 + (i 1).val, by have : (i 1).val < 1024 := (i 1).isLt; omega⟩ : Fin 2688) rfl rfl).symm).trans
    (ref_proj x0 x1 x2 _ _)

/-- The reference's third result. -/
theorem ref17 : val_main_v17 x0 x1 x2 = part x0 x1 x2 128 1536 (by omega) := by
  funext i
  rw [val_main_v17_apply]
  exact (congrArg _ (pair_eq _ (i 0) (⟨1536 + (i 1).val, by have : (i 1).val < 128 := (i 1).isLt; omega⟩ : Fin 2688) rfl rfl).symm).trans
    (ref_proj x0 x1 x2 _ _)

/-- The reference's fourth result. -/
theorem ref18 : val_main_v18 x0 x1 x2 = part x0 x1 x2 256 1664 (by omega) := by
  funext i
  rw [val_main_v18_apply]
  exact (congrArg _ (pair_eq _ (i 0) (⟨1664 + (i 1).val, by have : (i 1).val < 256 := (i 1).isLt; omega⟩ : Fin 2688) rfl rfl).symm).trans
    (ref_proj x0 x1 x2 _ _)

/-- The reference's fifth result. -/
theorem ref19 : val_main_v19 x0 x1 x2 = part x0 x1 x2 256 1920 (by omega) := by
  funext i
  rw [val_main_v19_apply]
  exact (congrArg _ (pair_eq _ (i 0) (⟨1920 + (i 1).val, by have : (i 1).val < 256 := (i 1).isLt; omega⟩ : Fin 2688) rfl rfl).symm).trans
    (ref_proj x0 x1 x2 _ _)

/-- The reference's sixth result. -/
theorem ref20 : val_main_v20 x0 x1 x2 = part x0 x1 x2 256 2176 (by omega) := by
  funext i
  rw [val_main_v20_apply]
  exact (congrArg _ (pair_eq _ (i 0) (⟨2176 + (i 1).val, by have : (i 1).val < 256 := (i 1).isLt; omega⟩ : Fin 2688) rfl rfl).symm).trans
    (ref_proj x0 x1 x2 _ _)

/-- The reference's last result. -/
theorem ref21 : val_main_v21 x0 x1 x2 = part x0 x1 x2 256 2432 (by omega) := by
  funext i
  rw [val_main_v21_apply]
  exact (congrArg _ (pair_eq _ (i 0) (⟨2432 + (i 1).val, by have : (i 1).val < 256 := (i 1).isLt; omega⟩ : Fin 2688) rfl rfl).symm).trans
    (ref_proj x0 x1 x2 _ _)

end Cert.Inproj

end
-- ==== Proof.Memkv.lean ====
/- The memory's keys and values: the kernel's four arrays, read at a row and a column, are the normed memory row times a
   column of the joined weight, and so are the reference's. -/
module

public import proofs.«01_k».proof.Proof.Gen.Kernel3Ideal.Value
public import proofs.«01_k».proof.Proof.Inproj

@[expose] public section

noncomputable section

namespace Cert.Memkv

open Idealize.ShloMosaic Idealize.ShloMosaic.TcCoe Idealize.SL.Sem Cert.Kernel3Ideal Cert.Kernel3Ideal.Gen Cert.Tail
open Cert.Inproj (pair_eq zeros)
open Idealize.ShloMosaic.Pipeline (Dat)

/-- Entry `(r, j)` of the memory's projection. -/
def proj (x : Vec Ideal S256x1024 .f32) (g : Fin 1024 → EReal) (w : Vec Ideal S1024x2048 .bf16) (r : Fin 256) (j : Fin 2048) : EReal :=
  lin (rms (fun k => x (ix2 r k)) g) (fun k j => w (ix2 k j)) j

/-- Half of the projection's columns as an array: the keys from column 0 on, the values from column 1024 on. -/
def half (x : Vec Ideal S256x1024 .f32) (g : Fin 1024 → EReal) (w : Vec Ideal S1024x2048 .bf16) (o : ℕ) (h : o ≤ 1024)
    (i : S256x1024.Idx) : EReal :=
  proj x g w (i 0) ⟨o + (i 1).val, by have : (i 1).val < 1024 := (i 1).isLt; omega⟩

section Body

variable (x0 : Vec Ideal S256x1024 .f32) (x1 : Vec Ideal S1x1024 .f32) (x2 : Vec Ideal S1024x2048 .bf16)

/-- The normed row of the memory. -/
theorem norm_apply (r : Fin 256) (k : Fin 1024) :
    k0_pay1 x0 x1 (ix2 r k) = rms (fun k => x0 (ix2 r k)) (fun k => x1 (ix2 0 k)) k := by
  pointwise [k0_pay1]
  rfl

/-- The normed rows times the weight's columns from 0 on. -/
theorem keys_apply (i : S256x1024.Idx) : k0_pay2 x0 x1 (View.ld x2 r0_2) i = half x0 (fun k => x1 (ix2 0 k)) x2 0 (by omega) i := by
  obtain ⟨r, j, rfl⟩ : ∃ (r : Fin 256) (j : Fin 1024), i = ix2 r j := ⟨i 0, i 1, (pair_eq i _ _ rfl rfl).symm⟩
  have hj : (⟨0 + j.val, by omega⟩ : Fin 2048) = ⟨j.val, by omega⟩ := Fin.ext (Nat.zero_add _)
  show _ = proj x0 _ x2 r ⟨0 + j.val, _⟩
  rw [hj]
  pointwise [k0_pay2]
  simp only [norm_apply]
  rfl

/-- The normed rows times the weight's columns from 1024 on. -/
theorem values_apply (i : S256x1024.Idx) :
    k0_pay3 x0 x1 (View.ld x2 r0_3) i = half x0 (fun k => x1 (ix2 0 k)) x2 1024 (by omega) i := by
  obtain ⟨r, j, rfl⟩ : ∃ (r : Fin 256) (j : Fin 1024), i = ix2 r j := ⟨i 0, i 1, (pair_eq i _ _ rfl rfl).symm⟩
  pointwise [k0_pay3]
  simp only [norm_apply]
  rfl

/-- What the body leaves in the keys' block. -/
theorem out3 : out0_3 x0 x1 x2 = half x0 (fun k => x1 (ix2 0 k)) x2 0 (by omega) := by
  unfold out0_3
  rw [View.canon_cons_unit_zero zeros, View.ld_unit_zero zeros, View.ld_unit_zero zeros]
  exact funext (keys_apply x0 x1 x2)

/-- What the body leaves in the values' block. -/
theorem out4 : out0_4 x0 x1 x2 = half x0 (fun k => x1 (ix2 0 k)) x2 1024 (by omega) := by
  unfold out0_4
  rw [View.canon_cons_unit_zero zeros, View.ld_unit_zero zeros, View.ld_unit_zero zeros]
  exact funext (values_apply x0 x1 x2)

/-- What the body leaves in the block of the keys for the attention. -/
theorem out5 : out0_5 x0 x1 x2 = half x0 (fun k => x1 (ix2 0 k)) x2 0 (by omega) := by
  unfold out0_5 k0_pay4
  rw [View.canon_cons_unit_zero zeros, View.ld_unit_zero zeros, View.ld_unit_zero zeros]
  exact funext (keys_apply x0 x1 x2)

/-- What the body leaves in the block of the values for the attention. -/
theorem out6 : out0_6 x0 x1 x2 = half x0 (fun k => x1 (ix2 0 k)) x2 1024 (by omega) := by
  unfold out0_6 k0_pay5
  rw [View.canon_cons_unit_zero zeros, View.ld_unit_zero zeros, View.ld_unit_zero zeros]
  exact funext (values_apply x0 x1 x2)

end Body

variable (m : (ℓ : Loc nD τ sig) → Buf (Elt Ideal) ℓ)

/-- Every window is at its array's one block at the one grid point. -/
theorem index_at : ∀ t : Fin grid0.N, (win0_0.index t 0 = 0 ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) := by
  decide +kernel

/-- The norm's weights as the region finds them: the argument as one row. -/
theorem V_gain (c : Dev nD) : V m c main_v0 = shapeCast S1x1024 (m ((c : Thread nD τ).loc main_arg1)) shapeCasts_S1024_S1x1024 := by
  unfold V
  after_results
  rfl

/-- The memory rows are staged whole. -/
theorem stage0 (c : Dev nD) (t : Fin grid0.N) (r : Fin 256) (k : Fin 1024) :
    iblk m c 0 t (ix2 r k) = m ((c : Thread nD τ).loc main_arg0) (ix2 r k) := by
  have e := (index_at t).1
  refine Eq.trans (congrArg (V m c main_arg0) (pair_eq _ r k ?_ ?_).symm) (congrFun (V_main_arg0 m c) _)
  · show win0_0.index t 0 * 256 + 1 * r.val = r.val
    rw [e.1]; omega
  · show win0_0.index t 1 * 1024 + 1 * k.val = k.val
    rw [e.2]; omega

/-- The gain is staged as one row. -/
theorem stage1 (c : Dev nD) (t : Fin grid0.N) (k : Fin 1024) :
    iblk m c 1 t (ix2 0 k) = m ((c : Thread nD τ).loc main_arg1) (ix1 k) := by
  have e := (index_at t).2.1
  refine Eq.trans (congrArg (V m c main_v0) (pair_eq _ (0 : Fin 1) k ?_ ?_).symm)
    ((congrFun (V_gain m c) _).trans (Inproj.row_apply _ k))
  · show win0_1.index t 0 * 1 + 1 * 0 = 0
    rw [e.1]
  · show win0_1.index t 1 * 1024 + 1 * k.val = k.val
    rw [e.2]; omega

/-- The joined weight is staged whole. -/
theorem stage2 (c : Dev nD) (t : Fin grid0.N) (k : Fin 1024) (j : Fin 2048) :
    iblk m c 2 t (ix2 k j) = m ((c : Thread nD τ).loc main_arg2) (ix2 k j) := by
  have e := (index_at t).2.2.1
  refine Eq.trans (congrArg (V m c main_arg2) (pair_eq _ k j ?_ ?_).symm) (congrFun (V_main_arg2 m c) _)
  · show win0_2.index t 0 * 1024 + 1 * k.val = k.val
    rw [e.1]; omega
  · show win0_2.index t 1 * 2048 + 1 * j.val = j.val
    rw [e.2]; omega

/-- Half of the projection of the arguments as launched. -/
abbrev launched (c : Dev nD) (o : ℕ) (h : o ≤ 1024) : S256x1024.Idx → EReal :=
  half (m ((c : Thread nD τ).loc main_arg0)) (fun k => m ((c : Thread nD τ).loc main_arg1) (ix1 k)) (m ((c : Thread nD τ).loc main_arg2)) o h

/-- The half computed from the staged blocks is the half of the arguments. -/
theorem half_eq (c : Dev nD) (t : Fin grid0.N) (o : ℕ) (h : o ≤ 1024) :
    half (iblk m c 0 t) (fun k => iblk m c 1 t (ix2 0 k)) (iblk m c 2 t) o h = launched m c o h := by
  funext i
  obtain ⟨r, j, rfl⟩ : ∃ (r : Fin 256) (j : Fin 1024), i = ix2 r j := ⟨i 0, i 1, (pair_eq i _ _ rfl rfl).symm⟩
  have e0 : (fun k => iblk m c 0 t (ix2 r k)) = fun k => m ((c : Thread nD τ).loc main_arg0) (ix2 r k) := funext (stage0 m c t r)
  have e2 : (fun k j => iblk m c 2 t (ix2 k j)) = fun k j => m ((c : Thread nD τ).loc main_arg2) (ix2 k j) :=
    funext fun k => funext (stage2 m c t k)
  show lin (rms (fun k => iblk m c 0 t (ix2 r k)) fun k => iblk m c 1 t (ix2 0 k)) (fun k j => iblk m c 2 t (ix2 k j)) _ = _
  rw [e0, e2]
  simp only [stage1]
  rfl

/-- An array whose one block is a half of the projection is that half. -/
theorem half_of_block (c : Dev nD) (o : ℕ) (h : o ≤ 1024) (A : S256x1024.Idx → EReal) (f : S256x1024.Idx → S256x1024.Idx)
    (B : S256x1024.Idx → EReal) (hb : ∀ i, A (f i) = B i) (h0 : ∀ i, (f i 0).val = 0 * 256 + 1 * (i 0).val)
    (h1 : ∀ i, (f i 1).val = 0 * 1024 + 1 * (i 1).val) (hB : B = launched m c o h) : A = launched m c o h := by
  funext i
  have e : f i = i := by
    funext a
    match a with
    | ⟨0, _⟩ => exact Fin.ext ((h0 i).trans (show 0 * 256 + 1 * (i 0).val = (i 0).val by omega))
    | ⟨1, _⟩ => exact Fin.ext ((h1 i).trans (show 0 * 1024 + 1 * (i 1).val = (i 1).val by omega))
  exact (congrArg A e.symm).trans ((hb i).trans (congrFun hB i))

/-- The one grid point. -/
abbrev pt : Fin grid0.N := ⟨0, show 0 < 1 by omega⟩

/-- The keys. -/
theorem array3 (c : Dev nD) : (dats m 0 c).arrAt 3 cfg0.N = launched m c 0 (by omega) := by
  refine half_of_block m c 0 (by omega) _ ((cfg0.win 3).blk pt).view.emb ((dats m 0 c).flushed 3 pt)
    (fun i => congrFun (Value.blocks3 m c pt (flush0_3 pt)) i) (fun i => ?_) (fun i => ?_) ?_
  · show win0_3.index pt 0 * 256 + 1 * (i 0).val = _
    rw [(index_at pt).2.2.2.1.1]
  · show win0_3.index pt 1 * 1024 + 1 * (i 1).val = _
    rw [(index_at pt).2.2.2.1.2]
  · rw [Value.flushed3]
    exact (out3 _ _ _).trans (half_eq m c pt 0 _)

/-- The values. -/
theorem array4 (c : Dev nD) : (dats m 0 c).arrAt 4 cfg0.N = launched m c 1024 (by omega) := by
  refine half_of_block m c 1024 (by omega) _ ((cfg0.win 4).blk pt).view.emb ((dats m 0 c).flushed 4 pt)
    (fun i => congrFun (Value.blocks4 m c pt (flush0_4 pt)) i) (fun i => ?_) (fun i => ?_) ?_
  · show win0_4.index pt 0 * 256 + 1 * (i 0).val = _
    rw [(index_at pt).2.2.2.2.1.1]
  · show win0_4.index pt 1 * 1024 + 1 * (i 1).val = _
    rw [(index_at pt).2.2.2.2.1.2]
  · rw [Value.flushed4]
    exact (out4 _ _ _).trans (half_eq m c pt 1024 _)

/-- The keys for the attention. -/
theorem array5 (c : Dev nD) : (dats m 0 c).arrAt 5 cfg0.N = launched m c 0 (by omega) := by
  refine half_of_block m c 0 (by omega) _ ((cfg0.win 5).blk pt).view.emb ((dats m 0 c).flushed 5 pt)
    (fun i => congrFun (Value.blocks5 m c pt (flush0_5 pt)) i) (fun i => ?_) (fun i => ?_) ?_
  · show win0_5.index pt 0 * 256 + 1 * (i 0).val = _
    rw [(index_at pt).2.2.2.2.2.1.1]
  · show win0_5.index pt 1 * 1024 + 1 * (i 1).val = _
    rw [(index_at pt).2.2.2.2.2.1.2]
  · rw [Value.flushed5]
    exact (out5 _ _ _).trans (half_eq m c pt 0 _)

/-- The values for the attention. -/
theorem array6 (c : Dev nD) : (dats m 0 c).arrAt 6 cfg0.N = launched m c 1024 (by omega) := by
  refine half_of_block m c 1024 (by omega) _ ((cfg0.win 6).blk pt).view.emb ((dats m 0 c).flushed 6 pt)
    (fun i => congrFun (Value.blocks6 m c pt (flush0_6 pt)) i) (fun i => ?_) (fun i => ?_) ?_
  · show win0_6.index pt 0 * 256 + 1 * (i 0).val = _
    rw [(index_at pt).2.2.2.2.2.2.1]
  · show win0_6.index pt 1 * 1024 + 1 * (i 1).val = _
    rw [(index_at pt).2.2.2.2.2.2.2]
  · rw [Value.flushed6]
    exact (out6 _ _ _).trans (half_eq m c pt 1024 _)

end Cert.Memkv

end
-- ==== Proof.MemkvRef.lean ====
/- The reference's keys and values of the memory, read at a row and a column. -/
module

public import proofs.«01_k».proof.Proof.Gen.Reference3Ideal.Read
public import proofs.«01_k».proof.Proof.Memkv

@[expose] public section

noncomputable section

namespace Cert.Memkv

open Idealize.ShloMosaic Idealize.ShloMosaic.TcCoe Idealize.SL.Sem Cert.Reference3Ideal Cert.Reference3Ideal.Gen
open Cert.Reference3Ideal.Read Cert.Tail
open Cert.Inproj (pair_eq)

variable (x0 : (⟨S256x1024, .f32⟩ : BufTy).Contents (Elt Ideal)) (x1 : (⟨S1024, .f32⟩ : BufTy).Contents (Elt Ideal))
  (x2 : (⟨S1024x2048, .bf16⟩ : BufTy).Contents (Elt Ideal))

/-- The reference's whole projection of the memory. -/
theorem ref_proj (r : Fin 256) (j : Fin 2048) : val_main_v14 x0 x1 x2 (ix2 r j) = proj x0 (fun k => x1 (ix1 k)) x2 r j := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  rfl

/-- The reference's keys. -/
theorem ref15 : val_main_v15 x0 x1 x2 = half x0 (fun k => x1 (ix1 k)) x2 0 (by omega) := by
  funext i
  rw [val_main_v15_apply]
  exact (congrArg _ (pair_eq _ (i 0) (⟨0 + (i 1).val, by have : (i 1).val < 1024 := (i 1).isLt; omega⟩ : Fin 2048) rfl
    (Nat.zero_add _).symm).symm).trans (ref_proj x0 x1 x2 _ _)

/-- The reference's values. -/
theorem ref16 : val_main_v16 x0 x1 x2 = half x0 (fun k => x1 (ix1 k)) x2 1024 (by omega) := by
  funext i
  rw [val_main_v16_apply]
  exact (congrArg _ (pair_eq _ (i 0) (⟨1024 + (i 1).val, by have : (i 1).val < 1024 := (i 1).isLt; omega⟩ : Fin 2048) rfl
    rfl).symm).trans (ref_proj x0 x1 x2 _ _)

/-- The reference's keys for the attention. -/
theorem ref17 : val_main_v17 x0 x1 x2 = half x0 (fun k => x1 (ix1 k)) x2 0 (by omega) := ref15 x0 x1 x2

/-- The reference's values for the attention. -/
theorem ref18 : val_main_v18 x0 x1 x2 = half x0 (fun k => x1 (ix1 k)) x2 1024 (by omega) := ref16 x0 x1 x2

end Cert.Memkv

end
-- ==== Proof.SampleFrame.lean ====
/- What the decode step's call leaves in its five output blocks at each grid point, its pipeline data and its run.
   The text is the frame module's of `Kernel4Ideal`, with the size of the state's pieces (64 by 128) written as a number. -/
module

public import proofs.«01_k».proof.Proof.Gen.Kernel4Ideal.Frame.RunA
public import Idealize.ShloMosaic.Lib.Claim

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 16 tile its block (2 stores of `S1x1x512`, checked by the kernel's evaluation: Lib/Ring.lean `Piece.tiledL`, linear in the pieces, through a loop's `@[irreducible]` trip theorem too), so they cover it. -/
theorem cover0_A_16 (c : Dev nD) (i : grid0.Coords) (arg1 : Memref sig .tc .vmem S2x1x512 .f32) (harg1 : arg1.IsWhole) (arg2 : Memref sig .tc .vmem S2x1x1024 .f32) (harg2 : arg2.IsWhole) (arg3 : Memref sig .tc .vmem S2x1x128 .f32) (harg3 : arg3.IsWhole) (arg4 : Memref sig .tc .vmem S2x1x256 .f32) (harg4 : arg4.IsWhole) (arg5 : Memref sig .tc .vmem S2x3x1024 .f32) (harg5 : arg5.IsWhole) (arg6 : Memref sig .tc .vmem S2x8x64x128 .f32) (harg6 : arg6.IsWhole) (arg7 : Memref sig .tc .vmem S2x15x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S256x256 .bf16) (harg14 : arg14.IsWhole) (arg15 : Memref sig .tc .vmem S1x256 .f32) (harg15 : arg15.IsWhole) (arg16 : Memref sig .tc .vmem S128x512 .f32) (harg16 : arg16.IsWhole) (arg17 : Memref sig .tc .vmem S2x1x512 .f32) (harg17 : arg17.IsWhole) (arg18 : Memref sig .tc .vmem S2x1x256 .f32) (harg18 : arg18.IsWhole) (arg19 : Memref sig .tc .vmem S2x3x1024 .f32) (harg19 : arg19.IsWhole) (arg20 : Memref sig .tc .vmem S2x8x64x128 .f32) (harg20 : arg20.IsWhole) (arg21 : Memref sig .tc .vmem S2x15x256 .f32) (harg21 : arg21.IsWhole)
    (x0 : Vec F S2x1x512 .f32) (x1 : Vec F S2x1x1024 .f32) (x2 : Vec F S2x1x128 .f32) (x3 : Vec F S2x1x256 .f32) (x4 : Vec F S2x3x1024 .f32) (x5 : Vec F S2x8x64x128 .f32) (x6 : Vec F S2x15x256 .f32) (x7 : Vec F S4x1024 .f32) (x8 : Vec F S1x1024 .f32) (x9 : Vec F S1x128 .f32) (x10 : Vec F S1x128 .f32) (x11 : Vec F S1x512 .f32) (x12 : Vec F S1x512 .f32) (x13 : Vec F S256x256 .bf16) (x14 : Vec F S1x256 .f32) (x15 : Vec F S128x512 .f32) (y : S2x1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).1 S1x1x512.size (by sl_kernel_rfl) y

/-- What the run leaves in output 16's staging buffer: its pieces read back over junk. -/
def out0_A_16 (c : Dev nD) (i : grid0.Coords) (arg1 : Memref sig .tc .vmem S2x1x512 .f32) (harg1 : arg1.IsWhole) (arg2 : Memref sig .tc .vmem S2x1x1024 .f32) (harg2 : arg2.IsWhole) (arg3 : Memref sig .tc .vmem S2x1x128 .f32) (harg3 : arg3.IsWhole) (arg4 : Memref sig .tc .vmem S2x1x256 .f32) (harg4 : arg4.IsWhole) (arg5 : Memref sig .tc .vmem S2x3x1024 .f32) (harg5 : arg5.IsWhole) (arg6 : Memref sig .tc .vmem S2x8x64x128 .f32) (harg6 : arg6.IsWhole) (arg7 : Memref sig .tc .vmem S2x15x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S256x256 .bf16) (harg14 : arg14.IsWhole) (arg15 : Memref sig .tc .vmem S1x256 .f32) (harg15 : arg15.IsWhole) (arg16 : Memref sig .tc .vmem S128x512 .f32) (harg16 : arg16.IsWhole) (arg17 : Memref sig .tc .vmem S2x1x512 .f32) (harg17 : arg17.IsWhole) (arg18 : Memref sig .tc .vmem S2x1x256 .f32) (harg18 : arg18.IsWhole) (arg19 : Memref sig .tc .vmem S2x3x1024 .f32) (harg19 : arg19.IsWhole) (arg20 : Memref sig .tc .vmem S2x8x64x128 .f32) (harg20 : arg20.IsWhole) (arg21 : Memref sig .tc .vmem S2x15x256 .f32) (harg21 : arg21.IsWhole)
    (x0 : Vec F S2x1x512 .f32) (x1 : Vec F S2x1x1024 .f32) (x2 : Vec F S2x1x128 .f32) (x3 : Vec F S2x1x256 .f32) (x4 : Vec F S2x3x1024 .f32) (x5 : Vec F S2x8x64x128 .f32) (x6 : Vec F S2x15x256 .f32) (x7 : Vec F S4x1024 .f32) (x8 : Vec F S1x1024 .f32) (x9 : Vec F S1x128 .f32) (x10 : Vec F S1x128 .f32) (x11 : Vec F S1x512 .f32) (x12 : Vec F S1x512 .f32) (x13 : Vec F S256x256 .bf16) (x14 : Vec F S1x256 .f32) (x15 : Vec F S128x512 .f32) : Vec F S2x1x512 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).1)

/-- The run's pieces for output 17 tile its block (2 stores of `S1x1x256`, checked by the kernel's evaluation: Lib/Ring.lean `Piece.tiledL`, linear in the pieces, through a loop's `@[irreducible]` trip theorem too), so they cover it. -/
theorem cover0_A_17 (c : Dev nD) (i : grid0.Coords) (arg1 : Memref sig .tc .vmem S2x1x512 .f32) (harg1 : arg1.IsWhole) (arg2 : Memref sig .tc .vmem S2x1x1024 .f32) (harg2 : arg2.IsWhole) (arg3 : Memref sig .tc .vmem S2x1x128 .f32) (harg3 : arg3.IsWhole) (arg4 : Memref sig .tc .vmem S2x1x256 .f32) (harg4 : arg4.IsWhole) (arg5 : Memref sig .tc .vmem S2x3x1024 .f32) (harg5 : arg5.IsWhole) (arg6 : Memref sig .tc .vmem S2x8x64x128 .f32) (harg6 : arg6.IsWhole) (arg7 : Memref sig .tc .vmem S2x15x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S256x256 .bf16) (harg14 : arg14.IsWhole) (arg15 : Memref sig .tc .vmem S1x256 .f32) (harg15 : arg15.IsWhole) (arg16 : Memref sig .tc .vmem S128x512 .f32) (harg16 : arg16.IsWhole) (arg17 : Memref sig .tc .vmem S2x1x512 .f32) (harg17 : arg17.IsWhole) (arg18 : Memref sig .tc .vmem S2x1x256 .f32) (harg18 : arg18.IsWhole) (arg19 : Memref sig .tc .vmem S2x3x1024 .f32) (harg19 : arg19.IsWhole) (arg20 : Memref sig .tc .vmem S2x8x64x128 .f32) (harg20 : arg20.IsWhole) (arg21 : Memref sig .tc .vmem S2x15x256 .f32) (harg21 : arg21.IsWhole)
    (x0 : Vec F S2x1x512 .f32) (x1 : Vec F S2x1x1024 .f32) (x2 : Vec F S2x1x128 .f32) (x3 : Vec F S2x1x256 .f32) (x4 : Vec F S2x3x1024 .f32) (x5 : Vec F S2x8x64x128 .f32) (x6 : Vec F S2x15x256 .f32) (x7 : Vec F S4x1024 .f32) (x8 : Vec F S1x1024 .f32) (x9 : Vec F S1x128 .f32) (x10 : Vec F S1x128 .f32) (x11 : Vec F S1x512 .f32) (x12 : Vec F S1x512 .f32) (x13 : Vec F S256x256 .bf16) (x14 : Vec F S1x256 .f32) (x15 : Vec F S128x512 .f32) (y : S2x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.1 S1x1x256.size (by sl_kernel_rfl) y

/-- What the run leaves in output 17's staging buffer: its pieces read back over junk. -/
def out0_A_17 (c : Dev nD) (i : grid0.Coords) (arg1 : Memref sig .tc .vmem S2x1x512 .f32) (harg1 : arg1.IsWhole) (arg2 : Memref sig .tc .vmem S2x1x1024 .f32) (harg2 : arg2.IsWhole) (arg3 : Memref sig .tc .vmem S2x1x128 .f32) (harg3 : arg3.IsWhole) (arg4 : Memref sig .tc .vmem S2x1x256 .f32) (harg4 : arg4.IsWhole) (arg5 : Memref sig .tc .vmem S2x3x1024 .f32) (harg5 : arg5.IsWhole) (arg6 : Memref sig .tc .vmem S2x8x64x128 .f32) (harg6 : arg6.IsWhole) (arg7 : Memref sig .tc .vmem S2x15x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S256x256 .bf16) (harg14 : arg14.IsWhole) (arg15 : Memref sig .tc .vmem S1x256 .f32) (harg15 : arg15.IsWhole) (arg16 : Memref sig .tc .vmem S128x512 .f32) (harg16 : arg16.IsWhole) (arg17 : Memref sig .tc .vmem S2x1x512 .f32) (harg17 : arg17.IsWhole) (arg18 : Memref sig .tc .vmem S2x1x256 .f32) (harg18 : arg18.IsWhole) (arg19 : Memref sig .tc .vmem S2x3x1024 .f32) (harg19 : arg19.IsWhole) (arg20 : Memref sig .tc .vmem S2x8x64x128 .f32) (harg20 : arg20.IsWhole) (arg21 : Memref sig .tc .vmem S2x15x256 .f32) (harg21 : arg21.IsWhole)
    (x0 : Vec F S2x1x512 .f32) (x1 : Vec F S2x1x1024 .f32) (x2 : Vec F S2x1x128 .f32) (x3 : Vec F S2x1x256 .f32) (x4 : Vec F S2x3x1024 .f32) (x5 : Vec F S2x8x64x128 .f32) (x6 : Vec F S2x15x256 .f32) (x7 : Vec F S4x1024 .f32) (x8 : Vec F S1x1024 .f32) (x9 : Vec F S1x128 .f32) (x10 : Vec F S1x128 .f32) (x11 : Vec F S1x512 .f32) (x12 : Vec F S1x512 .f32) (x13 : Vec F S256x256 .bf16) (x14 : Vec F S1x256 .f32) (x15 : Vec F S128x512 .f32) : Vec F S2x1x256 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.1)

/-- The run's pieces for output 18 tile its block (6 stores of `S1x1x1024`, checked by the kernel's evaluation: Lib/Ring.lean `Piece.tiledL`, linear in the pieces, through a loop's `@[irreducible]` trip theorem too), so they cover it. -/
theorem cover0_A_18 (c : Dev nD) (i : grid0.Coords) (arg1 : Memref sig .tc .vmem S2x1x512 .f32) (harg1 : arg1.IsWhole) (arg2 : Memref sig .tc .vmem S2x1x1024 .f32) (harg2 : arg2.IsWhole) (arg3 : Memref sig .tc .vmem S2x1x128 .f32) (harg3 : arg3.IsWhole) (arg4 : Memref sig .tc .vmem S2x1x256 .f32) (harg4 : arg4.IsWhole) (arg5 : Memref sig .tc .vmem S2x3x1024 .f32) (harg5 : arg5.IsWhole) (arg6 : Memref sig .tc .vmem S2x8x64x128 .f32) (harg6 : arg6.IsWhole) (arg7 : Memref sig .tc .vmem S2x15x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S256x256 .bf16) (harg14 : arg14.IsWhole) (arg15 : Memref sig .tc .vmem S1x256 .f32) (harg15 : arg15.IsWhole) (arg16 : Memref sig .tc .vmem S128x512 .f32) (harg16 : arg16.IsWhole) (arg17 : Memref sig .tc .vmem S2x1x512 .f32) (harg17 : arg17.IsWhole) (arg18 : Memref sig .tc .vmem S2x1x256 .f32) (harg18 : arg18.IsWhole) (arg19 : Memref sig .tc .vmem S2x3x1024 .f32) (harg19 : arg19.IsWhole) (arg20 : Memref sig .tc .vmem S2x8x64x128 .f32) (harg20 : arg20.IsWhole) (arg21 : Memref sig .tc .vmem S2x15x256 .f32) (harg21 : arg21.IsWhole)
    (x0 : Vec F S2x1x512 .f32) (x1 : Vec F S2x1x1024 .f32) (x2 : Vec F S2x1x128 .f32) (x3 : Vec F S2x1x256 .f32) (x4 : Vec F S2x3x1024 .f32) (x5 : Vec F S2x8x64x128 .f32) (x6 : Vec F S2x15x256 .f32) (x7 : Vec F S4x1024 .f32) (x8 : Vec F S1x1024 .f32) (x9 : Vec F S1x128 .f32) (x10 : Vec F S1x128 .f32) (x11 : Vec F S1x512 .f32) (x12 : Vec F S1x512 .f32) (x13 : Vec F S256x256 .bf16) (x14 : Vec F S1x256 .f32) (x15 : Vec F S128x512 .f32) (y : S2x3x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.1 S1x1x1024.size (by sl_kernel_rfl) y

/-- What the run leaves in output 18's staging buffer: its pieces read back over junk. -/
def out0_A_18 (c : Dev nD) (i : grid0.Coords) (arg1 : Memref sig .tc .vmem S2x1x512 .f32) (harg1 : arg1.IsWhole) (arg2 : Memref sig .tc .vmem S2x1x1024 .f32) (harg2 : arg2.IsWhole) (arg3 : Memref sig .tc .vmem S2x1x128 .f32) (harg3 : arg3.IsWhole) (arg4 : Memref sig .tc .vmem S2x1x256 .f32) (harg4 : arg4.IsWhole) (arg5 : Memref sig .tc .vmem S2x3x1024 .f32) (harg5 : arg5.IsWhole) (arg6 : Memref sig .tc .vmem S2x8x64x128 .f32) (harg6 : arg6.IsWhole) (arg7 : Memref sig .tc .vmem S2x15x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S256x256 .bf16) (harg14 : arg14.IsWhole) (arg15 : Memref sig .tc .vmem S1x256 .f32) (harg15 : arg15.IsWhole) (arg16 : Memref sig .tc .vmem S128x512 .f32) (harg16 : arg16.IsWhole) (arg17 : Memref sig .tc .vmem S2x1x512 .f32) (harg17 : arg17.IsWhole) (arg18 : Memref sig .tc .vmem S2x1x256 .f32) (harg18 : arg18.IsWhole) (arg19 : Memref sig .tc .vmem S2x3x1024 .f32) (harg19 : arg19.IsWhole) (arg20 : Memref sig .tc .vmem S2x8x64x128 .f32) (harg20 : arg20.IsWhole) (arg21 : Memref sig .tc .vmem S2x15x256 .f32) (harg21 : arg21.IsWhole)
    (x0 : Vec F S2x1x512 .f32) (x1 : Vec F S2x1x1024 .f32) (x2 : Vec F S2x1x128 .f32) (x3 : Vec F S2x1x256 .f32) (x4 : Vec F S2x3x1024 .f32) (x5 : Vec F S2x8x64x128 .f32) (x6 : Vec F S2x15x256 .f32) (x7 : Vec F S4x1024 .f32) (x8 : Vec F S1x1024 .f32) (x9 : Vec F S1x128 .f32) (x10 : Vec F S1x128 .f32) (x11 : Vec F S1x512 .f32) (x12 : Vec F S1x512 .f32) (x13 : Vec F S256x256 .bf16) (x14 : Vec F S1x256 .f32) (x15 : Vec F S128x512 .f32) : Vec F S2x3x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.1)

/-- The run's pieces for output 19 tile its block (16 stores of `S1x1x64x128`, checked by the kernel's evaluation: Lib/Ring.lean `Piece.tiledL`, linear in the pieces, through a loop's `@[irreducible]` trip theorem too), so they cover it. -/
theorem cover0_A_19 (c : Dev nD) (i : grid0.Coords) (arg1 : Memref sig .tc .vmem S2x1x512 .f32) (harg1 : arg1.IsWhole) (arg2 : Memref sig .tc .vmem S2x1x1024 .f32) (harg2 : arg2.IsWhole) (arg3 : Memref sig .tc .vmem S2x1x128 .f32) (harg3 : arg3.IsWhole) (arg4 : Memref sig .tc .vmem S2x1x256 .f32) (harg4 : arg4.IsWhole) (arg5 : Memref sig .tc .vmem S2x3x1024 .f32) (harg5 : arg5.IsWhole) (arg6 : Memref sig .tc .vmem S2x8x64x128 .f32) (harg6 : arg6.IsWhole) (arg7 : Memref sig .tc .vmem S2x15x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S256x256 .bf16) (harg14 : arg14.IsWhole) (arg15 : Memref sig .tc .vmem S1x256 .f32) (harg15 : arg15.IsWhole) (arg16 : Memref sig .tc .vmem S128x512 .f32) (harg16 : arg16.IsWhole) (arg17 : Memref sig .tc .vmem S2x1x512 .f32) (harg17 : arg17.IsWhole) (arg18 : Memref sig .tc .vmem S2x1x256 .f32) (harg18 : arg18.IsWhole) (arg19 : Memref sig .tc .vmem S2x3x1024 .f32) (harg19 : arg19.IsWhole) (arg20 : Memref sig .tc .vmem S2x8x64x128 .f32) (harg20 : arg20.IsWhole) (arg21 : Memref sig .tc .vmem S2x15x256 .f32) (harg21 : arg21.IsWhole)
    (x0 : Vec F S2x1x512 .f32) (x1 : Vec F S2x1x1024 .f32) (x2 : Vec F S2x1x128 .f32) (x3 : Vec F S2x1x256 .f32) (x4 : Vec F S2x3x1024 .f32) (x5 : Vec F S2x8x64x128 .f32) (x6 : Vec F S2x15x256 .f32) (x7 : Vec F S4x1024 .f32) (x8 : Vec F S1x1024 .f32) (x9 : Vec F S1x128 .f32) (x10 : Vec F S1x128 .f32) (x11 : Vec F S1x512 .f32) (x12 : Vec F S1x512 .f32) (x13 : Vec F S256x256 .bf16) (x14 : Vec F S1x256 .f32) (x15 : Vec F S128x512 .f32) (y : S2x8x64x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.1 ![1, 1, 64, 128] (by sl_kernel_rfl) y

/-- What the run leaves in output 19's staging buffer: its pieces read back over junk. -/
def out0_A_19 (c : Dev nD) (i : grid0.Coords) (arg1 : Memref sig .tc .vmem S2x1x512 .f32) (harg1 : arg1.IsWhole) (arg2 : Memref sig .tc .vmem S2x1x1024 .f32) (harg2 : arg2.IsWhole) (arg3 : Memref sig .tc .vmem S2x1x128 .f32) (harg3 : arg3.IsWhole) (arg4 : Memref sig .tc .vmem S2x1x256 .f32) (harg4 : arg4.IsWhole) (arg5 : Memref sig .tc .vmem S2x3x1024 .f32) (harg5 : arg5.IsWhole) (arg6 : Memref sig .tc .vmem S2x8x64x128 .f32) (harg6 : arg6.IsWhole) (arg7 : Memref sig .tc .vmem S2x15x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S256x256 .bf16) (harg14 : arg14.IsWhole) (arg15 : Memref sig .tc .vmem S1x256 .f32) (harg15 : arg15.IsWhole) (arg16 : Memref sig .tc .vmem S128x512 .f32) (harg16 : arg16.IsWhole) (arg17 : Memref sig .tc .vmem S2x1x512 .f32) (harg17 : arg17.IsWhole) (arg18 : Memref sig .tc .vmem S2x1x256 .f32) (harg18 : arg18.IsWhole) (arg19 : Memref sig .tc .vmem S2x3x1024 .f32) (harg19 : arg19.IsWhole) (arg20 : Memref sig .tc .vmem S2x8x64x128 .f32) (harg20 : arg20.IsWhole) (arg21 : Memref sig .tc .vmem S2x15x256 .f32) (harg21 : arg21.IsWhole)
    (x0 : Vec F S2x1x512 .f32) (x1 : Vec F S2x1x1024 .f32) (x2 : Vec F S2x1x128 .f32) (x3 : Vec F S2x1x256 .f32) (x4 : Vec F S2x3x1024 .f32) (x5 : Vec F S2x8x64x128 .f32) (x6 : Vec F S2x15x256 .f32) (x7 : Vec F S4x1024 .f32) (x8 : Vec F S1x1024 .f32) (x9 : Vec F S1x128 .f32) (x10 : Vec F S1x128 .f32) (x11 : Vec F S1x512 .f32) (x12 : Vec F S1x512 .f32) (x13 : Vec F S256x256 .bf16) (x14 : Vec F S1x256 .f32) (x15 : Vec F S128x512 .f32) : Vec F S2x8x64x128 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.1)

/-- The run's pieces for output 20 are of SEVERAL sizes (4 stores of `S1x14x256`, `S1x1x256`): cut into blocks of `![1, 1, 256]` they tile its block (checked by the kernel's evaluation: Lib/Ring.lean `Piece.tiledBy`), so they cover it. -/
theorem cover0_A_20 (c : Dev nD) (i : grid0.Coords) (arg1 : Memref sig .tc .vmem S2x1x512 .f32) (harg1 : arg1.IsWhole) (arg2 : Memref sig .tc .vmem S2x1x1024 .f32) (harg2 : arg2.IsWhole) (arg3 : Memref sig .tc .vmem S2x1x128 .f32) (harg3 : arg3.IsWhole) (arg4 : Memref sig .tc .vmem S2x1x256 .f32) (harg4 : arg4.IsWhole) (arg5 : Memref sig .tc .vmem S2x3x1024 .f32) (harg5 : arg5.IsWhole) (arg6 : Memref sig .tc .vmem S2x8x64x128 .f32) (harg6 : arg6.IsWhole) (arg7 : Memref sig .tc .vmem S2x15x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S256x256 .bf16) (harg14 : arg14.IsWhole) (arg15 : Memref sig .tc .vmem S1x256 .f32) (harg15 : arg15.IsWhole) (arg16 : Memref sig .tc .vmem S128x512 .f32) (harg16 : arg16.IsWhole) (arg17 : Memref sig .tc .vmem S2x1x512 .f32) (harg17 : arg17.IsWhole) (arg18 : Memref sig .tc .vmem S2x1x256 .f32) (harg18 : arg18.IsWhole) (arg19 : Memref sig .tc .vmem S2x3x1024 .f32) (harg19 : arg19.IsWhole) (arg20 : Memref sig .tc .vmem S2x8x64x128 .f32) (harg20 : arg20.IsWhole) (arg21 : Memref sig .tc .vmem S2x15x256 .f32) (harg21 : arg21.IsWhole)
    (x0 : Vec F S2x1x512 .f32) (x1 : Vec F S2x1x1024 .f32) (x2 : Vec F S2x1x128 .f32) (x3 : Vec F S2x1x256 .f32) (x4 : Vec F S2x3x1024 .f32) (x5 : Vec F S2x8x64x128 .f32) (x6 : Vec F S2x15x256 .f32) (x7 : Vec F S4x1024 .f32) (x8 : Vec F S1x1024 .f32) (x9 : Vec F S1x128 .f32) (x10 : Vec F S1x128 .f32) (x11 : Vec F S1x512 .f32) (x12 : Vec F S1x512 .f32) (x13 : Vec F S256x256 .bf16) (x14 : Vec F S1x256 .f32) (x15 : Vec F S128x512 .f32) (y : S2x15x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.2.1 ![1, 1, 256] (by sl_kernel_rfl) y

/-- What the run leaves in output 20's staging buffer: its pieces read back over junk. -/
def out0_A_20 (c : Dev nD) (i : grid0.Coords) (arg1 : Memref sig .tc .vmem S2x1x512 .f32) (harg1 : arg1.IsWhole) (arg2 : Memref sig .tc .vmem S2x1x1024 .f32) (harg2 : arg2.IsWhole) (arg3 : Memref sig .tc .vmem S2x1x128 .f32) (harg3 : arg3.IsWhole) (arg4 : Memref sig .tc .vmem S2x1x256 .f32) (harg4 : arg4.IsWhole) (arg5 : Memref sig .tc .vmem S2x3x1024 .f32) (harg5 : arg5.IsWhole) (arg6 : Memref sig .tc .vmem S2x8x64x128 .f32) (harg6 : arg6.IsWhole) (arg7 : Memref sig .tc .vmem S2x15x256 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S256x256 .bf16) (harg14 : arg14.IsWhole) (arg15 : Memref sig .tc .vmem S1x256 .f32) (harg15 : arg15.IsWhole) (arg16 : Memref sig .tc .vmem S128x512 .f32) (harg16 : arg16.IsWhole) (arg17 : Memref sig .tc .vmem S2x1x512 .f32) (harg17 : arg17.IsWhole) (arg18 : Memref sig .tc .vmem S2x1x256 .f32) (harg18 : arg18.IsWhole) (arg19 : Memref sig .tc .vmem S2x3x1024 .f32) (harg19 : arg19.IsWhole) (arg20 : Memref sig .tc .vmem S2x8x64x128 .f32) (harg20 : arg20.IsWhole) (arg21 : Memref sig .tc .vmem S2x15x256 .f32) (harg21 : arg21.IsWhole)
    (x0 : Vec F S2x1x512 .f32) (x1 : Vec F S2x1x1024 .f32) (x2 : Vec F S2x1x128 .f32) (x3 : Vec F S2x1x256 .f32) (x4 : Vec F S2x3x1024 .f32) (x5 : Vec F S2x8x64x128 .f32) (x6 : Vec F S2x15x256 .f32) (x7 : Vec F S4x1024 .f32) (x8 : Vec F S1x1024 .f32) (x9 : Vec F S1x128 .f32) (x10 : Vec F S1x128 .f32) (x11 : Vec F S1x512 .f32) (x12 : Vec F S1x512 .f32) (x13 : Vec F S256x256 .bf16) (x14 : Vec F S1x256 .f32) (x15 : Vec F S128x512 .f32) : Vec F S2x15x256 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.2.1)

/-! ## What the outputs hold after each point -/

/-- What the outputs' staging buffers hold after the body at point `t` (as a tuple, in window order): the run's contents at
    the point's memrefs and input blocks. -/
def outsAt0 (c : Dev nD) (t : Fin cfg0.N) : Vec F S2x1x512 .f32 × Vec F S2x1x256 .f32 × Vec F S2x3x1024 .f32 × Vec F S2x8x64x128 .f32 × Vec F S2x15x256 .f32 :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t).1
    | ⟨17, _⟩ => (outsAt0 m c t).2.1
    | ⟨18, _⟩ => (outsAt0 m c t).2.2.1
    | ⟨19, _⟩ => (outsAt0 m c t).2.2.2.1
    | ⟨20, _⟩ => (outsAt0 m c t).2.2.2.2
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t).1 := by dsimp only [dats]
theorem after0_17 (c : Dev nD) (t : Fin cfg0.N) : (dats m 0 c).after 17 t = (outsAt0 m c t).2.1 := by dsimp only [dats]
theorem after0_18 (c : Dev nD) (t : Fin cfg0.N) : (dats m 0 c).after 18 t = (outsAt0 m c t).2.2.1 := by dsimp only [dats]
theorem after0_19 (c : Dev nD) (t : Fin cfg0.N) : (dats m 0 c).after 19 t = (outsAt0 m c t).2.2.2.1 := by dsimp only [dats]
theorem after0_20 (c : Dev nD) (t : Fin cfg0.N) : (dats m 0 c).after 20 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  unfold outsAt0
  unfold out0_A_16 out0_A_17 out0_A_18 out0_A_19 out0_A_20; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel4Ideal.Gen

end
-- ==== Proof.SampleValue.lean ====
/- What each grid point of the decode step's call writes back to each output array, and the final array block by block.
   The text is the value module's of `Kernel4Ideal`, over `SampleFrame`. -/
module

public import proofs.«01_k».proof.Proof.SampleFrame
public import Idealize.ShloMosaic.Lib.Pipeline.Value

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 16's array: the run's contents for that window after the body (`Gen.outsAt0`: its component 0), read through the window's block. -/
theorem flushed16 (c : Dev nD) (t : Fin cfg0.N) :
    (dats m 0 c).flushed 16 t = (cfg0.win 16).cut (grid0.coords t) ((outsAt0 m c t).1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — the kernel's one case, `Gen.outsAt0` by definition. -/
theorem flushed16_A (c : Dev nD) (t : Fin cfg0.N) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed16, outsAt0]

/-- The index map sends distinct grid points to distinct block indices (decided over the 16 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S32x1x512.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 1), read through the window's block. -/
theorem flushed17 (c : Dev nD) (t : Fin cfg0.N) :
    (dats m 0 c).flushed 17 t = (cfg0.win 17).cut (grid0.coords t) ((outsAt0 m c t).2.1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — the kernel's one case, `Gen.outsAt0` by definition. -/
theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed17, outsAt0]

/-- The index map sends distinct grid points to distinct block indices (decided over the 16 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S32x1x256.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 2), read through the window's block. -/
theorem flushed18 (c : Dev nD) (t : Fin cfg0.N) :
    (dats m 0 c).flushed 18 t = (cfg0.win 18).cut (grid0.coords t) ((outsAt0 m c t).2.2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed18, outsAt0]

/-- The index map sends distinct grid points to distinct block indices (decided over the 16 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S32x3x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 3), read through the window's block. -/
theorem flushed19 (c : Dev nD) (t : Fin cfg0.N) :
    (dats m 0 c).flushed 19 t = (cfg0.win 19).cut (grid0.coords t) ((outsAt0 m c t).2.2.2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed19, outsAt0]

/-- The index map sends distinct grid points to distinct block indices (decided over the 16 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S32x8x64x128.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 4), read through the window's block. -/
theorem flushed20 (c : Dev nD) (t : Fin cfg0.N) :
    (dats m 0 c).flushed 20 t = (cfg0.win 20).cut (grid0.coords t) ((outsAt0 m c t).2.2.2.2) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed20, outsAt0]

/-- The index map sends distinct grid points to distinct block indices (decided over the 16 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S32x15x256.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v13_0) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v13_1) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v13_2) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v13_3) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v13_4) = (dats m 0 c).arrAt 20 cfg0.N :=
  (h c).1 20

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- After the frame run, argument `main_arg13` is as launched: input window 13 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

/-- After the frame run, argument `main_arg14` is as launched: input window 14 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13_0) = (dats m 0 c).arrAt 16 cfg0.N
      ∧ r.2.mem ((c : Thread nD τ).loc main_v13_1) = (dats m 0 c).arrAt 17 cfg0.N
      ∧ r.2.mem ((c : Thread nD τ).loc main_v13_2) = (dats m 0 c).arrAt 18 cfg0.N
      ∧ r.2.mem ((c : Thread nD τ).loc main_v13_3) = (dats m 0 c).arrAt 19 cfg0.N
      ∧ r.2.mem ((c : Thread nD τ).loc main_v13_4) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post16 m r h c,
      post17 m r h c,
      post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.Kernel4Ideal.Value

end
-- ==== Proof.SampleStep.lean ====
/- One step of the recurrence for one sequence, on the extended reals: plain functions of the sequence's rows and states
   and of the parameters, and the kernel's own steps read at a row and a column. -/
module

public import proofs.«01_k».proof.Proof.SampleValue
public import Idealize.ShloMosaic.Lib.Pointwise
public import Idealize.ShloMosaic.Lib.ValueIdx

@[expose] public section

noncomputable section

namespace Cert.Sample

open Idealize.ShloMosaic Idealize.ShloMosaic.TcCoe Cert.Kernel4Ideal Cert.Kernel4Ideal.Gen

/-- What one step of one sequence reads: its new rows, its convolution window, its states, its pooling window and the
    parameters. -/
structure Step where
  x : Fin 1024 → EReal
  h : Fin 3 → Fin 1024 → EReal
  dt : Fin 128 → EReal
  z : Fin 512 → EReal
  u : Fin 256 → EReal
  st : Fin 8 → Fin 64 → Fin 128 → EReal
  pl : Fin 15 → Fin 256 → EReal
  cw : Fin 4 → Fin 1024 → EReal
  cb : Fin 1024 → EReal
  db : Fin 128 → EReal
  a : Fin 128 → EReal
  dk : Fin 512 → EReal
  ng : Fin 512 → EReal
  pw : Fin 256 → Fin 256 → EReal
  ps : Fin 256 → EReal

namespace Step

variable (q : Step)

/-- The convolved row before its activation. -/
def conv (c : Fin 1024) : EReal :=
  q.cb c + q.x c * q.cw 3 c + q.h 0 c * q.cw 0 c + q.h 1 c * q.cw 1 c + q.h 2 c * q.cw 2 c

/-- The convolved row. -/
def mix (c : Fin 1024) : EReal := q.conv c * Ideal.logistic (q.conv c)

/-- The step width of a head. -/
def width (h : Fin 128) : EReal :=
  max (q.dt h + q.db h) 0 + Ideal.log1p (Ideal.exp (0 - FloatOps.absf (F := Ideal) (φ := .f32) (q.dt h + q.db h)))

/-- The new state. -/
def new (h : Fin 8) (p : Fin 64) (n : Fin 128) : EReal :=
  q.st h p n * Ideal.exp (q.width ⟨h.val, by omega⟩ * q.a ⟨h.val, by omega⟩)
    + q.mix ⟨64 * h.val + p.val, by omega⟩ * q.width ⟨h.val, by omega⟩ * q.mix ⟨512 + 128 * (h.val / 4) + n.val, by omega⟩

/-- What the new state gives at column `c`, with the input's own share. -/
def out (c : Fin 512) : EReal :=
  (∑ n : Fin 128, q.mix ⟨768 + 128 * (c.val / 256) + n.val, by omega⟩ * q.new ⟨c.val / 64, by omega⟩ ⟨c.val % 64, by omega⟩ n)
    + q.dk c * q.mix ⟨c.val, by omega⟩

/-- The gated row. -/
def gate (c : Fin 512) : EReal := q.out c * (q.z c * Ideal.logistic (q.z c))

/-- The gated row over the root of its group's mean square, times the gain. -/
def norm (c : Fin 512) : EReal :=
  q.gate c * Ideal.rsqrt (Ideal.div (∑ k : Fin 256, q.gate ⟨256 * (c.val / 256) + k.val, by omega⟩
      * q.gate ⟨256 * (c.val / 256) + k.val, by omega⟩) (Ideal.ofBits .f32 0x43800000#32) + Ideal.ofBits .f32 0x358637BD#32) * q.ng c

/-- The newest row of the pooling window and its kept rows from row `o` on, summed. -/
def window (o : ℕ) (c : Fin 256) : EReal := q.u c + ∑ j : Fin 15, if o ≤ j.val then q.pl j c else 0

/-- The means of the last 2, 4, 8 and 16 rows, one for each quarter of the columns. -/
def mean (c : Fin 256) : EReal :=
  if c.val < 64 then Ideal.div (q.window 14 c) (Ideal.ofBits .f32 0x40000000#32)
  else if c.val < 128 then Ideal.div (q.window 12 c) (Ideal.ofBits .f32 0x40800000#32)
  else if c.val < 192 then Ideal.div (q.window 8 c) (Ideal.ofBits .f32 0x41000000#32)
  else Ideal.div (q.window 0 c) (Ideal.ofBits .f32 0x41800000#32)

/-- The pooled row after its projection and scale. -/
def pool (c : Fin 256) : EReal := (∑ k : Fin 256, (q.mean k - q.u k) * q.pw k c) * q.ps c

/-- The convolution window, moved by one row. -/
def keep (j : Fin 3) (c : Fin 1024) : EReal := if h : j.val < 2 then q.h ⟨j.val + 1, by omega⟩ c else q.x c

/-- The pooling window, moved by one row. -/
def hold (j : Fin 15) (c : Fin 256) : EReal := if h : j.val < 14 then q.pl ⟨j.val + 1, by omega⟩ c else q.u c

/-- The rows kept are the next ones. -/
theorem keep_lt {j : Fin 3} (hj : j.val < 2) (c : Fin 1024) : q.keep j c = q.h ⟨j.val + 1, by omega⟩ c := dif_pos hj

/-- The rows kept are the next ones. -/
theorem hold_lt {j : Fin 15} (hj : j.val < 14) (c : Fin 256) : q.hold j c = q.pl ⟨j.val + 1, by omega⟩ c := dif_pos hj

end Step

/-- The arrays one step of one sequence loads. -/
structure Loads where
  x : Vec Ideal S1x1x1024 .f32
  h : Fin 3 → Vec Ideal S1x1024 .f32
  dt : Vec Ideal S1x1x128 .f32
  z : Vec Ideal S1x1x512 .f32
  u : Vec Ideal S1x1x256 .f32
  st : Fin 8 → Vec Ideal S1x64x128 .f32
  pl : Vec Ideal S1x15x256 .f32
  cw : Fin 4 → Vec Ideal S1x1024 .f32
  cb : Vec Ideal S1x1024 .f32
  db : Vec Ideal S1x128 .f32
  a : Vec Ideal S1x128 .f32
  dk : Fin 4 → Vec Ideal S1x128 .f32
  ng : Vec Ideal S1x512 .f32
  pw : Vec Ideal S256x256 .bf16
  ps : Vec Ideal S1x256 .f32
  ex : Vec Ideal S128x512 .f32

namespace Loads

variable (q : Loads)

/-- The loaded arrays, entry by entry. -/
def step : Step where
  x c := q.x (ix3 0 0 c)
  h j c := q.h j (ix2 0 c)
  dt c := q.dt (ix3 0 0 c)
  z c := q.z (ix3 0 0 c)
  u c := q.u (ix3 0 0 c)
  st h p n := q.st h (ix3 0 p n)
  pl j c := q.pl (ix3 0 j c)
  cw j c := q.cw j (ix2 0 c)
  cb c := q.cb (ix2 0 c)
  db c := q.db (ix2 0 c)
  a c := q.a (ix2 0 c)
  dk c := q.dk ⟨c.val / 128, by omega⟩ (ix2 0 ⟨c.val % 128, by omega⟩)
  ng c := q.ng (ix2 0 c)
  pw j c := q.pw (ix2 j c)
  ps c := q.ps (ix2 0 c)

/-- The convolved row as the kernel forms it. -/
def mix : Vec Ideal S1x1024 .f32 := k0_pay4 (k0_pay3 q.x q.cb (q.cw 3) (q.h 0) (q.cw 0) (q.h 1) (q.cw 1)) (q.h 2) (q.cw 2)

/-- The step widths as the kernel forms them. -/
def width : Vec Ideal S1x128 .f32 := k0_pay5 q.dt q.db

/-- The decays, one for each column. -/
def dec : Vec Ideal S1x512 .f32 := k0_pay7 q.width q.a q.ex

/-- The inputs times their step widths. -/
def inp : Vec Ideal S1x512 .f32 := k0_pay9 q.mix q.width q.a q.ex

/-- The new states of heads 0 and 1. -/
def new0 : Vec Ideal S128x128 .f32 := k0_pay11 q.mix q.width q.a q.ex (q.st 0) (q.st 1)

/-- The new states of heads 2 and 3. -/
def new1 : Vec Ideal S128x128 .f32 := k0_pay20 q.inp (k0_pay16 q.mix) (k0_pay18 (q.st 2) (q.st 3)) (k0_pay19 q.dec)

/-- The new states of heads 4 and 5. -/
def new2 : Vec Ideal S128x128 .f32 := k0_pay26 q.dec q.inp (k0_pay24 q.mix) (q.st 4) (q.st 5)

/-- The new states of heads 6 and 7. -/
def new3 : Vec Ideal S128x128 .f32 := k0_pay32 q.mix q.dec q.inp (q.st 6) (q.st 7)

/-- What the new states of heads 0 and 1 give. -/
def y0 : Vec Ideal S1x128 .f32 := k0_pay15 (k0_pay8 q.mix) (k0_pay10 q.mix) q.new0 (q.dk 0)

/-- What the new states of heads 2 and 3 give. -/
def y1 : Vec Ideal S1x128 .f32 :=
  k0_pay23 (k0_pay8 q.mix) q.inp (k0_pay16 q.mix) (k0_pay17 q.mix) (k0_pay18 (q.st 2) (q.st 3)) (k0_pay19 q.dec) (q.dk 1)

/-- What the new states of heads 4 and 5 give. -/
def y2 : Vec Ideal S1x128 .f32 :=
  k0_pay30 (k0_pay8 q.mix) (k0_pay29 q.dec q.inp (k0_pay24 q.mix) (k0_pay25 q.mix) (q.st 4) (q.st 5)) (q.dk 2)

/-- The normed and gated row. -/
def y : Vec Ideal S1x1x512 .f32 :=
  k0_pay42 (k0_pay37 (k0_pay8 q.mix) q.y0 q.y1 q.y2 (k0_pay31 q.mix) q.new3 (q.dk 3) q.z q.ng)
    (k0_pay38 (k0_pay8 q.mix) q.y0 q.y1 q.y2 (k0_pay31 q.mix) q.new3 (q.dk 3) q.z) (k0_pay39 q.ng)
    (k0_pay40 (k0_pay8 q.mix) q.y0 q.y1 q.y2 (k0_pay31 q.mix) q.new3 (q.dk 3) q.z) k0_pay41

/-- The gated row. -/
def gate : Vec Ideal S1x512 .f32 := k0_pay36 (k0_pay8 q.mix) q.y0 q.y1 q.y2 (k0_pay31 q.mix) q.new3 (q.dk 3) q.z

/-- The pooled row. -/
def pool : Vec Ideal S1x1x256 .f32 :=
  k0_pay50 (k0_pay43 q.u) (k0_pay44 q.pl) (iota .tc S1x256 32 [1] iota_S1x256_d1_w32) (k0_pay45 q.u q.pl) (k0_pay46 q.u q.pl)
    (k0_pay47 q.u q.pl) k0_pay48 k0_pay49 q.pw q.ps

theorem mix_apply (c : Fin 1024) : q.mix (ix2 0 c) = q.step.mix c := by
  unfold mix
  pointwise [k0_pay4, k0_pay3, k0_pay2]
  rfl

theorem width_apply (c : Fin 128) : q.width (ix2 0 c) = q.step.width c := by
  unfold width
  pointwise [k0_pay5]
  rfl

/-- What the head's one-hot columns make of a row: its entry of the column's head. -/
theorem spread (w : Fin 128 → EReal) (e : Vec Ideal S128x512 .f32)
    (he : ∀ (k : Fin 128) (c : Fin 512), e (ix2 k c) = if k.val = c.val / 64 then 1 else 0) (c : Fin 512) :
    ∑ k : Fin 128, w k * e (ix2 k c) = w ⟨c.val / 64, by omega⟩ := by
  rw [Finset.sum_eq_single (⟨c.val / 64, by omega⟩ : Fin 128)]
  · rw [he, if_pos rfl, mul_one]
  · intro k _ hk
    rw [he, if_neg fun h => hk (Fin.ext h), mul_zero]
  · exact fun h => absurd (Finset.mem_univ _) h

variable (he : ∀ (k : Fin 128) (c : Fin 512), q.ex (ix2 k c) = if k.val = c.val / 64 then 1 else 0)

include he

theorem dec_apply (c : Fin 512) : q.dec (ix2 0 c)
    = Ideal.exp (q.step.width ⟨c.val / 64, by omega⟩ * q.step.a ⟨c.val / 64, by omega⟩) := by
  have e : q.dec (ix2 0 c) = Ideal.exp (∑ k : Fin 128, q.width (ix2 0 k) * q.a (ix2 0 k) * q.ex (ix2 k c)) := by
    unfold dec
    generalize q.width = w
    generalize q.a = a
    pointwise [k0_pay7, k0_pay6]
  rw [e, spread (fun k => q.width (ix2 0 k) * q.a (ix2 0 k)) q.ex he, width_apply]
  rfl

theorem inp_apply (c : Fin 512) :
    q.inp (ix2 0 c) = q.step.mix ⟨c.val, by omega⟩ * q.step.width ⟨c.val / 64, by omega⟩ := by
  have e : q.inp (ix2 0 c) = q.mix (ix2 0 ⟨c.val, by omega⟩) * ∑ k : Fin 128, q.width (ix2 0 k) * q.ex (ix2 k c) := by
    unfold inp
    generalize q.width = w
    generalize q.mix = m
    pointwise [k0_pay9, k0_pay6, k0_pay8]
  rw [e, spread (fun k => q.width (ix2 0 k)) q.ex he, mix_apply, width_apply]

theorem pair (k : Fin 4) (o : Fin 128 → Fin 512) (r n : Fin 128) (ho : ∀ r, (o r).val = 128 * k.val + r.val) (b : Fin 1024)
    (hb : b.val = 512 + 128 * (k.val / 2) + n.val) :
    (if h : r.val < 64 then q.st ⟨2 * k.val, by omega⟩ (ix3 0 ⟨r.val, h⟩ n)
      else q.st ⟨2 * k.val + 1, by omega⟩ (ix3 0 ⟨r.val - 64, by omega⟩ n)) * q.dec (ix2 0 (o r))
      + q.inp (ix2 0 (o r)) * q.mix (ix2 0 b)
    = q.step.new ⟨2 * k.val + r.val / 64, by omega⟩ ⟨r.val % 64, by omega⟩ n := by
  have hr := ho r
  rw [dec_apply q he, inp_apply q he, mix_apply]
  unfold Step.new
  have e1 : (⟨(o r).val / 64, by omega⟩ : Fin 128) = ⟨2 * k.val + r.val / 64, by omega⟩ := Fin.ext (by simp only; omega)
  have e2 : (⟨(o r).val, by omega⟩ : Fin 1024) = ⟨64 * (2 * k.val + r.val / 64) + r.val % 64, by omega⟩ := Fin.ext (by simp only; omega)
  have e3 : b = ⟨512 + 128 * ((2 * k.val + r.val / 64) / 4) + n.val, by omega⟩ := Fin.ext (by simp only; omega)
  rw [e1, e2, ← e3]
  congr 2
  split
  · rename_i h
    have f1 : (⟨2 * k.val + r.val / 64, by omega⟩ : Fin 8) = ⟨2 * k.val, by omega⟩ := Fin.ext (by simp only; omega)
    have f2 : (⟨r.val % 64, by omega⟩ : Fin 64) = ⟨r.val, h⟩ := Fin.ext (by simp only; omega)
    rw [f1, f2]
    rfl
  · rename_i h
    have f1 : (⟨2 * k.val + r.val / 64, by omega⟩ : Fin 8) = ⟨2 * k.val + 1, by omega⟩ := Fin.ext (by simp only; omega)
    have f2 : (⟨r.val % 64, by omega⟩ : Fin 64) = ⟨r.val - 64, by omega⟩ := Fin.ext (by simp only; omega)
    rw [f1, f2]
    rfl

theorem new0_apply (r n : Fin 128) : q.new0 (ix2 r n) = q.step.new ⟨r.val / 64, by omega⟩ ⟨r.val % 64, by omega⟩ n := by
  refine Eq.trans ?_ (Eq.trans (pair q he 0 (fun r => ⟨r.val, by omega⟩) r n (fun r => (by simp)) ⟨512 + n.val, by omega⟩ (by simp)) ?_)
  · unfold new0
    have e : q.dec = k0_pay7 q.width q.a q.ex := rfl
    have e' : q.inp = k0_pay9 q.mix q.width q.a q.ex := rfl
    rw [e, e']
    generalize q.width = w
    generalize q.mix = m
    pointwise [k0_pay11]
  · congr 1
    exact Fin.ext (by simp)

theorem new1_apply (r n : Fin 128) : q.new1 (ix2 r n) = q.step.new ⟨2 + r.val / 64, by omega⟩ ⟨r.val % 64, by omega⟩ n := by
  refine Eq.trans ?_ (pair q he 1 (fun r => ⟨128 + r.val, by omega⟩) r n (fun r => (by simp)) ⟨512 + n.val, by omega⟩ (by simp))
  unfold new1
  generalize q.inp = i
  generalize q.dec = d
  generalize q.mix = m
  pointwise [k0_pay20, k0_pay19, k0_pay18, k0_pay16]

theorem new2_apply (r n : Fin 128) : q.new2 (ix2 r n) = q.step.new ⟨4 + r.val / 64, by omega⟩ ⟨r.val % 64, by omega⟩ n := by
  refine Eq.trans ?_ (pair q he 2 (fun r => ⟨256 + r.val, by omega⟩) r n (fun r => (by simp)) ⟨640 + n.val, by omega⟩ (by simp))
  unfold new2
  generalize q.inp = i
  generalize q.dec = d
  generalize q.mix = m
  pointwise [k0_pay26, k0_pay24]

theorem new3_apply (r n : Fin 128) : q.new3 (ix2 r n) = q.step.new ⟨6 + r.val / 64, by omega⟩ ⟨r.val % 64, by omega⟩ n := by
  refine Eq.trans ?_ (pair q he 3 (fun r => ⟨384 + r.val, by omega⟩) r n (fun r => (by simp)) ⟨640 + n.val, by omega⟩ (by simp))
  unfold new3
  generalize q.inp = i
  generalize q.dec = d
  generalize q.mix = m
  pointwise [k0_pay32]

omit he in
/-- A pair of heads' share of the row that the new states give. -/
theorem part (k : Fin 4) (r : Fin 128) (v : Vec Ideal S128x128 .f32)
    (hv : ∀ n, v (ix2 r n) = q.step.new ⟨2 * k.val + r.val / 64, by omega⟩ ⟨r.val % 64, by omega⟩ n) (b : Fin 128 → Fin 1024)
    (hb : ∀ n, (b n).val = 768 + 128 * (k.val / 2) + n.val) (c : Fin 1024) (hc : c.val = 128 * k.val + r.val) :
    ∑ n, q.mix (ix2 0 (b n)) * v (ix2 r n) + q.dk k (ix2 0 r) * q.mix (ix2 0 c)
      = q.step.out ⟨128 * k.val + r.val, by omega⟩ := by
  unfold Step.out
  have e1 : (⟨(128 * k.val + r.val) / 64, by omega⟩ : Fin 8) = ⟨2 * k.val + r.val / 64, by omega⟩ := Fin.ext (by simp only; omega)
  have e2 : (⟨(128 * k.val + r.val) % 64, by omega⟩ : Fin 64) = ⟨r.val % 64, by omega⟩ := Fin.ext (by simp only; omega)
  have e3 : (⟨128 * k.val + r.val, by omega⟩ : Fin 1024) = c := Fin.ext hc.symm
  have e4 : q.step.dk ⟨128 * k.val + r.val, by omega⟩ = q.dk k (ix2 0 r) := by
    have f1 : (⟨(128 * k.val + r.val) / 128, by omega⟩ : Fin 4) = k := Fin.ext (by simp only; omega)
    have f2 : (⟨(128 * k.val + r.val) % 128, by omega⟩ : Fin 128) = r := Fin.ext (by simp only; omega)
    show q.dk ⟨(128 * k.val + r.val) / 128, _⟩ (ix2 0 ⟨(128 * k.val + r.val) % 128, _⟩) = _
    rw [f1, f2]
  have e5 (n : Fin 128) : (⟨768 + 128 * ((128 * k.val + r.val) / 256) + n.val, by omega⟩ : Fin 1024) = b n :=
    Fin.ext (by rw [hb]; simp only; omega)
  simp only [e1, e2, e3, e4, e5, hv, mix_apply]

theorem y0_apply (r : Fin 128) : q.y0 (ix2 0 r) = q.step.out ⟨r.val, by omega⟩ := by
  refine Eq.trans ?_ (Eq.trans (part q 0 r q.new0 (fun n => ?_) (fun n => ⟨768 + n.val, by omega⟩) (fun n => (by simp))
    ⟨r.val, by omega⟩ (by simp)) ?_)
  · unfold y0
    generalize q.new0 = v
    generalize q.mix = m
    pointwise [k0_pay15, k0_pay8, k0_pay10]
  · refine (new0_apply q he r n).trans ?_
    congr 1
    exact Fin.ext (by simp)
  · congr 1
    exact Fin.ext (by simp)

theorem y1_apply (r : Fin 128) : q.y1 (ix2 0 r) = q.step.out ⟨128 + r.val, by omega⟩ := by
  refine Eq.trans ?_ (part q 1 r q.new1 (new1_apply q he r) (fun n => ⟨768 + n.val, by omega⟩) (fun n => (by simp))
    ⟨128 + r.val, by omega⟩ (by simp))
  unfold y1 k0_pay23
  have e : k0_pay20 q.inp (k0_pay16 q.mix) (k0_pay18 (q.st 2) (q.st 3)) (k0_pay19 q.dec) = q.new1 := rfl
  simp only [e]
  generalize q.new1 = v
  generalize q.mix = m
  pointwise [k0_pay8, k0_pay17]

theorem y2_apply (r : Fin 128) : q.y2 (ix2 0 r) = q.step.out ⟨256 + r.val, by omega⟩ := by
  refine Eq.trans ?_ (part q 2 r q.new2 (new2_apply q he r) (fun n => ⟨896 + n.val, by omega⟩) (fun n => (by simp))
    ⟨256 + r.val, by omega⟩ (by simp))
  unfold y2 k0_pay29
  have e : k0_pay26 q.dec q.inp (k0_pay24 q.mix) (q.st 4) (q.st 5) = q.new2 := rfl
  simp only [e]
  generalize q.new2 = v
  generalize q.mix = m
  pointwise [k0_pay30, k0_pay8, k0_pay25]

theorem gate_apply (c : Fin 512) : q.gate (ix2 0 c) = q.step.gate c := by
  have e3 (r : Fin 128) := part q 3 r q.new3 (new3_apply q he r) (fun n => ⟨896 + n.val, by omega⟩) (fun n => (by simp))
    ⟨384 + r.val, by omega⟩ (by simp)
  have e : q.gate (ix2 0 c) = (if h : c.val < 128 then q.y0 (ix2 0 ⟨c.val, h⟩)
      else if h : c.val - 128 < 128 then q.y1 (ix2 0 ⟨c.val - 128, h⟩)
      else if h : c.val - 128 - 128 < 128 then q.y2 (ix2 0 ⟨c.val - 128 - 128, h⟩)
      else ∑ n, q.mix (ix2 0 ⟨896 + n.val, by omega⟩) * q.new3 (ix2 ⟨c.val - 128 - 128 - 128, by omega⟩ n)
        + q.dk 3 (ix2 0 ⟨c.val - 128 - 128 - 128, by omega⟩) * q.mix (ix2 0 ⟨384 + (c.val - 128 - 128 - 128), by omega⟩))
      * (q.z (ix3 0 0 c) * Ideal.logistic (q.z (ix3 0 0 c))) := by
    unfold gate
    generalize q.new3 = v
    generalize q.mix = m
    generalize q.y0 = g0
    generalize q.y1 = g1
    generalize q.y2 = g2
    pointwise [k0_pay36, k0_pay8, k0_pay31]
  rw [e]
  unfold Step.gate
  congr 1
  split
  · exact y0_apply q he _
  split
  · refine (y1_apply q he _).trans (congrArg _ (Fin.ext ?_))
    simp only; omega
  split
  · refine (y2_apply q he _).trans (congrArg _ (Fin.ext ?_))
    simp only; omega
  · refine (e3 _).trans (congrArg _ (Fin.ext ?_))
    show 128 * 3 + (c.val - 128 - 128 - 128) = c.val
    omega

theorem y_apply (c : Fin 512) : q.y (ix3 0 0 c) = q.step.norm c := by
  unfold y k0_pay40 k0_pay38 k0_pay37
  have e : k0_pay36 (k0_pay8 q.mix) q.y0 q.y1 q.y2 (k0_pay31 q.mix) q.new3 (q.dk 3) q.z = q.gate := rfl
  simp only [e]
  have hg := gate_apply q he
  generalize q.gate = g at hg
  pointwise [k0_pay42, k0_pay39, k0_pay41]
  simp only [hg]
  unfold Step.norm
  split
  · rename_i h
    have f (k : Fin 256) : (⟨256 * (c.val / 256) + k.val, by omega⟩ : Fin 512) = ⟨k.val, by omega⟩ :=
      Fin.ext (by simp only; omega)
    simp only [f]
    rfl
  · rename_i h
    have f (k : Fin 256) : (⟨256 * (c.val / 256) + k.val, by omega⟩ : Fin 512) = ⟨256 + k.val, by omega⟩ :=
      Fin.ext (by simp only; omega)
    have f' : (⟨256 + (c.val - 256), by omega⟩ : Fin 512) = c := Fin.ext (by simp only; omega)
    simp only [f, f']
    rfl

omit he

/-- A choice by a comparison of a column's number with a multiple of 64. -/
theorem choose_lt (x : Fin 256) (b : Fin 4) (A B : EReal) :
    Scalar.select (IntOp.cmpi .slt (BitVec.ofNat 32 x.val) (BitVec.ofNat 32 (64 * b.val))) A B
      = if x.val < 64 * b.val then A else B := by
  have h : ∀ (x : Fin 256) (b : Fin 4), IntOp.cmpi .slt (BitVec.ofNat 32 x.val) (BitVec.ofNat 32 (64 * b.val))
      = if x.val < 64 * b.val then 1#1 else 0#1 := by decide +kernel
  rw [h]
  split
  · rfl
  · rfl

/-- A choice by a comparison of a row's number with a bound. -/
theorem choose_ge (x : Fin 15) (b : ℕ) (hb : b ≤ 15) (A B : EReal) :
    Scalar.select (IntOp.cmpi .sge (BitVec.ofNat 32 x.val) (BitVec.ofNat 32 b)) A B = if b ≤ x.val then A else B := by
  have h : ∀ (x : Fin 15) (b : Fin 16), IntOp.cmpi .sge (BitVec.ofNat 32 x.val) (BitVec.ofNat 32 b.val)
      = if b.val ≤ x.val then 1#1 else 0#1 := by decide +kernel
  rw [h x ⟨b, by omega⟩]
  simp only
  split
  · rfl
  · rfl

theorem pool_apply (c : Fin 256) : q.pool (ix3 0 0 c) = q.step.pool c := by
  unfold pool
  pointwise [k0_pay50, k0_pay43, k0_pay44, k0_pay45, k0_pay46, k0_pay47, k0_pay48, k0_pay49]
  have h2 (x : Fin 256) (A B : EReal) : Scalar.select (IntOp.cmpi .slt (BitVec.ofNat 32 x.val) 64#32) A B
      = if x.val < 64 then A else B := choose_lt x 1 A B
  have h4 (x : Fin 256) (A B : EReal) : Scalar.select (IntOp.cmpi .slt (BitVec.ofNat 32 x.val) 128#32) A B
      = if x.val < 128 then A else B := choose_lt x 2 A B
  have h8 (x : Fin 256) (A B : EReal) : Scalar.select (IntOp.cmpi .slt (BitVec.ofNat 32 x.val) 192#32) A B
      = if x.val < 192 then A else B := choose_lt x 3 A B
  have g2 (x : Fin 15) (A B : EReal) : Scalar.select (IntOp.cmpi .sge (BitVec.ofNat 32 x.val) 14#32) A B
      = if 14 ≤ x.val then A else B := choose_ge x 14 (by omega) A B
  have g4 (x : Fin 15) (A B : EReal) : Scalar.select (IntOp.cmpi .sge (BitVec.ofNat 32 x.val) 12#32) A B
      = if 12 ≤ x.val then A else B := choose_ge x 12 (by omega) A B
  have g8 (x : Fin 15) (A B : EReal) : Scalar.select (IntOp.cmpi .sge (BitVec.ofNat 32 x.val) 8#32) A B
      = if 8 ≤ x.val then A else B := choose_ge x 8 (by omega) A B
  have g16 (x : Fin 15) (A B : EReal) : Scalar.select (IntOp.cmpi .sge (BitVec.ofNat 32 x.val) 0#32) A B
      = if 0 ≤ x.val then A else B := choose_ge x 0 (by omega) A B
  simp only [h2, h4, h8, g2, g4, g8, g16]
  rfl

end Loads

end Cert.Sample

end
-- ==== Proof.SampleOut.lean ====
/- What one grid point of the step leaves in its five blocks: for each of its two sequences, the step's row, its pooled row, the
   moved windows and the new states. -/
module

public import proofs.«01_k».proof.Proof.SampleStep
public import Idealize.ShloMosaic.Lib.WholeRead

@[expose] public section

noncomputable section

namespace Cert.Sample

open Idealize.ShloMosaic Idealize.ShloMosaic.TcCoe Cert.Kernel4Ideal Cert.Kernel4Ideal.Gen
open Cert.Kernel4Ideal.Gen.kernelRun0_A.sl

/-- A load of a whole memref, as a function of what the memref holds. -/
theorem load_eq {sig : RefSig} {κ : Kind} {sp : Space} {s : Shape} {e : EltTy} {m : Memref sig κ sp s e} (h : m.IsWhole)
    (X : s.Idx → Elt Ideal e) (B : LoadRect s) :
    View.readAt (Elt Ideal) m.view B (h.unread X) = fun x => X (B.idx x) :=
  funext fun x => Memref.IsWhole.readAt_unread h X B x

/-- A box lifted over a leading axis, read along: where an index lands. -/
theorem lift_idx {n : ℕ} {d : Fin n → ℕ} {S : Fin (n + 1) → ℕ} (r : Rect ⟨n + 1, S⟩) (lr : LoadRect ⟨n, d⟩) (h0 : r.size 0 = 1)
    (hs : ∀ i, r.size (Fin.succ i) = d i) (h1 : ∀ a, r.stride a = 1)
    (hR : lr.shape.numel = (r.withinL (lr.consLift r.size h0 hs) h1).shape.numel) (x : lr.shape.Idx) (y : Shape.Idx ⟨n + 1, S⟩)
    (hy0 : (y 0).val = r.off 0) (hy : ∀ i : Fin n, (y i.succ).val = r.off i.succ + (lr.off i + lr.stride i * (x i).val)) :
    (r.withinL (lr.consLift r.size h0 hs) h1).idx (Shape.reshapeEquiv hR x) = y := by
  have hx : Shape.reshapeEquiv hR x = Fin.cons ⟨0, Nat.one_pos⟩ x := Shape.reshapeEquiv_cons_one (d := lr.size) _ _
  rw [hx]
  funext a
  apply Fin.ext
  refine Fin.cases ?_ (fun i => ?_) a
  · show r.off 0 + 0 + 1 * 0 = _
    rw [hy0]
    omega
  · show r.off i.succ + lr.off i + lr.stride i * (x i).val = _
    rw [hy i]
    omega

/-- Two offsets and sizes within an array of two axes. -/
theorem in2 {o p a b A B : ℕ} (h0 : o + a ≤ A) (h1 : p + b ≤ B) : ∀ i : Fin 2, ![o, p] i + ![a, b] i ≤ ![A, B] i := by
  intro i
  fin_cases i
  · exact h0
  · exact h1

/-- Three offsets and sizes within an array of three axes. -/
theorem in3 {o p q a b c A B C : ℕ} (h0 : o + a ≤ A) (h1 : p + b ≤ B) (h2 : q + c ≤ C) :
    ∀ i : Fin 3, ![o, p, q] i + ![a, b, c] i ≤ ![A, B, C] i := by
  intro i
  fin_cases i
  · exact h0
  · exact h1
  · exact h2

/-- Four offsets and sizes within an array of four axes. -/
theorem in4 {o p q r a b c d A B C D : ℕ} (h0 : o + a ≤ A) (h1 : p + b ≤ B) (h2 : q + c ≤ C) (h3 : r + d ≤ D) :
    ∀ i : Fin 4, ![o, p, q, r] i + ![a, b, c, d] i ≤ ![A, B, C, D] i := by
  intro i
  fin_cases i
  · exact h0
  · exact h1
  · exact h2
  · exact h3

/-- The sixteen blocks one grid point stages. -/
structure Blocks where
  x0 : Vec Ideal S2x1x512 .f32
  x1 : Vec Ideal S2x1x1024 .f32
  x2 : Vec Ideal S2x1x128 .f32
  x3 : Vec Ideal S2x1x256 .f32
  x4 : Vec Ideal S2x3x1024 .f32
  x5 : Vec Ideal S2x8x64x128 .f32
  x6 : Vec Ideal S2x15x256 .f32
  x7 : Vec Ideal S4x1024 .f32
  x8 : Vec Ideal S1x1024 .f32
  x9 : Vec Ideal S1x128 .f32
  x10 : Vec Ideal S1x128 .f32
  x11 : Vec Ideal S1x512 .f32
  x12 : Vec Ideal S1x512 .f32
  x13 : Vec Ideal S256x256 .bf16
  x14 : Vec Ideal S1x256 .f32
  x15 : Vec Ideal S128x512 .f32

/-- The arrays that sequence `o` of a grid point's two loads. -/
def loads (o : Fin 2) (B : Blocks) : Loads where
  x i := B.x1 ((Rect.unit (s := S2x1x1024) ![o.val, 0, 0] S1x1x1024.size (in3 (by omega) (by omega) (by omega))).toLoadRect.idx i)
  h j := LoadRect.valAlong (LoadRect.numel_consLift (Rect.unit (s := S3x1024) ![j.val, 0] S1x1024.size (in2 (by omega) (by omega))).toLoadRect
      ![1, 3, 1024] (by decide) (by decide)) fun i =>
    B.x4 (((Rect.unit (s := S2x3x1024) ![o.val, 0, 0] S1x3x1024.size (in3 (by omega) (by omega) (by omega))).withinL
      ((Rect.unit (s := S3x1024) ![j.val, 0] S1x1024.size (in2 (by omega) (by omega))).toLoadRect.consLift ![1, 3, 1024] (by decide) (by decide))
      (fun _ => rfl)).idx i)
  dt i := B.x2 ((Rect.unit (s := S2x1x128) ![o.val, 0, 0] S1x1x128.size (in3 (by omega) (by omega) (by omega))).toLoadRect.idx i)
  z i := B.x0 ((Rect.unit (s := S2x1x512) ![o.val, 0, 0] S1x1x512.size (in3 (by omega) (by omega) (by omega))).toLoadRect.idx i)
  u i := B.x3 ((Rect.unit (s := S2x1x256) ![o.val, 0, 0] S1x1x256.size (in3 (by omega) (by omega) (by omega))).toLoadRect.idx i)
  st j := LoadRect.valAlong (LoadRect.numel_consLift (Rect.unit (s := S8x64x128) ![j.val, 0, 0] S1x64x128.size (in3 (by omega) (by omega) (by omega))).toLoadRect
      ![1, 8, 64, 128] (by decide) (by decide)) fun i =>
    B.x5 (((Rect.unit (s := S2x8x64x128) ![o.val, 0, 0, 0] S1x8x64x128.size (in4 (by omega) (by omega) (by omega) (by omega))).withinL
      ((Rect.unit (s := S8x64x128) ![j.val, 0, 0] S1x64x128.size (in3 (by omega) (by omega) (by omega))).toLoadRect.consLift ![1, 8, 64, 128] (by decide) (by decide))
      (fun _ => rfl)).idx i)
  pl i := B.x6 ((Rect.unit (s := S2x15x256) ![o.val, 0, 0] S1x15x256.size (in3 (by omega) (by omega) (by omega))).toLoadRect.idx i)
  cw j i := B.x7 ((Rect.unit (s := S4x1024) ![j.val, 0] S1x1024.size (in2 (by omega) (by omega))).toLoadRect.idx i)
  cb i := B.x8 ((Rect.unit (s := S1x1024) ![0, 0] S1x1024.size (in2 (by omega) (by omega))).toLoadRect.idx i)
  db i := B.x9 ((Rect.unit (s := S1x128) ![0, 0] S1x128.size (in2 (by omega) (by omega))).toLoadRect.idx i)
  a i := B.x10 ((Rect.unit (s := S1x128) ![0, 0] S1x128.size (in2 (by omega) (by omega))).toLoadRect.idx i)
  dk j i := B.x11 ((Rect.unit (s := S1x512) ![0, 128 * j.val] S1x128.size (in2 (by omega) (by omega))).toLoadRect.idx i)
  ng i := B.x12 ((Rect.unit (s := S1x512) ![0, 0] S1x512.size (in2 (by omega) (by omega))).toLoadRect.idx i)
  pw i := B.x13 ((Rect.unit (s := S256x256) ![0, 0] S256x256.size (in2 (by omega) (by omega))).toLoadRect.idx i)
  ps i := B.x14 ((Rect.unit (s := S1x256) ![0, 0] S1x256.size (in2 (by omega) (by omega))).toLoadRect.idx i)
  ex i := B.x15 ((Rect.unit (s := S128x512) ![0, 0] S128x512.size (in2 (by omega) (by omega))).toLoadRect.idx i)

namespace Blocks

variable (B : Blocks)

/-- What sequence `o` of a grid point's two reads, entry by entry. -/
def step (o : Fin 2) : Step where
  x c := B.x1 (ix3 o 0 c)
  h j c := B.x4 (ix3 o j c)
  dt c := B.x2 (ix3 o 0 c)
  z c := B.x0 (ix3 o 0 c)
  u c := B.x3 (ix3 o 0 c)
  st h p n := B.x5 (ix4 o h p n)
  pl j c := B.x6 (ix3 o j c)
  cw j c := B.x7 (ix2 j c)
  cb c := B.x8 (ix2 0 c)
  db c := B.x9 (ix2 0 c)
  a c := B.x10 (ix2 0 c)
  dk c := B.x11 (ix2 0 c)
  ng c := B.x12 (ix2 0 c)
  pw j c := B.x13 (ix2 j c)
  ps c := B.x14 (ix2 0 c)

end Blocks

/-- Two indices of an array of two axes are equal when their coordinates are. -/
theorem eq2 {A D : ℕ} {x y : Shape.Idx ⟨2, ![A, D]⟩} (h0 : (x 0).val = (y 0).val) (h1 : (x 1).val = (y 1).val) : x = y := by
  funext a
  match a with
  | ⟨0, _⟩ => exact Fin.ext h0
  | ⟨1, _⟩ => exact Fin.ext h1

/-- Two indices of an array of three axes are equal when their coordinates are. -/
theorem eq3 {A D E : ℕ} {x y : Shape.Idx ⟨3, ![A, D, E]⟩} (h0 : (x 0).val = (y 0).val) (h1 : (x 1).val = (y 1).val)
    (h2 : (x 2).val = (y 2).val) : x = y := by
  funext a
  match a with
  | ⟨0, _⟩ => exact Fin.ext h0
  | ⟨1, _⟩ => exact Fin.ext h1
  | ⟨2, _⟩ => exact Fin.ext h2

/-- The loaded arrays of sequence `o` hold the blocks' entries. -/
theorem loads_step (o : Fin 2) (B : Blocks) : (loads o B).step = B.step o := by
  unfold loads Loads.step Blocks.step
  rw [Step.mk.injEq]
  refine ⟨?_, ?_, ?_, ?_, ?_, ?_, ?_, ?_, ?_, ?_, ?_, ?_, ?_, ?_, ?_⟩
  · exact funext fun c => congrArg B.x1 (eq3 (show o.val + 1 * 0 = o.val by omega) rfl (show 0 + 1 * c.val = c.val by omega))
  · refine funext fun j => funext fun c => congrArg B.x4 (lift_idx _ _ _ _ _ _ _ _ rfl fun i => ?_)
    match i with
    | ⟨0, _⟩ => exact (show j.val = 0 + (j.val + 1 * 0) by omega)
    | ⟨1, _⟩ => exact (show c.val = 0 + (0 + 1 * c.val) by omega)
  · exact funext fun c => congrArg B.x2 (eq3 (show o.val + 1 * 0 = o.val by omega) rfl (show 0 + 1 * c.val = c.val by omega))
  · exact funext fun c => congrArg B.x0 (eq3 (show o.val + 1 * 0 = o.val by omega) rfl (show 0 + 1 * c.val = c.val by omega))
  · exact funext fun c => congrArg B.x3 (eq3 (show o.val + 1 * 0 = o.val by omega) rfl (show 0 + 1 * c.val = c.val by omega))
  · refine funext fun j => funext fun p => funext fun n => congrArg B.x5 ?_
    refine (congrArg _ (congrArg _ (rfl : _ = ix3 (0 : Fin 1) p n))).trans (lift_idx _ _ _ _ _ _ _ _ rfl fun i => ?_)
    match i with
    | ⟨0, _⟩ => exact (show j.val = 0 + (j.val + 1 * 0) by omega)
    | ⟨1, _⟩ => exact (show p.val = 0 + (0 + 1 * p.val) by omega)
    | ⟨2, _⟩ => exact (show n.val = 0 + (0 + 1 * n.val) by omega)
  · exact funext fun j => funext fun c => congrArg B.x6 (eq3 (show o.val + 1 * 0 = o.val by omega) (show 0 + 1 * j.val = j.val by omega)
      (show 0 + 1 * c.val = c.val by omega))
  · exact funext fun j => funext fun c => congrArg B.x7 (eq2 (show j.val + 1 * 0 = j.val by omega) (show 0 + 1 * c.val = c.val by omega))
  · exact funext fun c => congrArg B.x8 (eq2 rfl (show 0 + 1 * c.val = c.val by omega))
  · exact funext fun c => congrArg B.x9 (eq2 rfl (show 0 + 1 * c.val = c.val by omega))
  · exact funext fun c => congrArg B.x10 (eq2 rfl (show 0 + 1 * c.val = c.val by omega))
  · exact funext fun c => congrArg B.x11 (eq2 rfl (show 128 * (c.val / 128) + 1 * (c.val % 128) = c.val by omega))
  · exact funext fun c => congrArg B.x12 (eq2 rfl (show 0 + 1 * c.val = c.val by omega))
  · exact funext fun j => funext fun c => congrArg B.x13 (eq2 (show 0 + 1 * j.val = j.val by omega) (show 0 + 1 * c.val = c.val by omega))
  · exact funext fun c => congrArg B.x14 (eq2 rfl (show 0 + 1 * c.val = c.val by omega))

/-- The new states of the two sequences. -/
def states (B : Blocks) (y : S2x8x64x128.Idx) : EReal :=
  (B.step (y 0)).new (y 1) (y 2) (y 3)

/-- The gated rows of the two sequences. -/
def normed (B : Blocks) (y : S2x1x512.Idx) : EReal := (B.step (y 0)).norm (y 2)

/-- The pooled rows of the two sequences. -/
def pooled (B : Blocks) (y : S2x1x256.Idx) : EReal := (B.step (y 0)).pool (y 2)

/-- The moved convolution windows of the two sequences. -/
def kept (B : Blocks) (y : S2x3x1024.Idx) : EReal := (B.step (y 0)).keep (y 1) (y 2)

/-- The moved pooling windows of the two sequences. -/
def held (B : Blocks) (y : S2x15x256.Idx) : EReal := (B.step (y 0)).hold (y 1) (y 2)

/-- The first 64 rows of a pair's states, stored as a head's. -/
def lo (v : Vec Ideal S128x128 .f32) : Vec Ideal S1x64x128 .f32 :=
  shapeCast S1x64x128 (extractStridedSlice S64x128 ![0, 0] v slices_S128x128_o0_0_S64x128) shapeCasts_S64x128_S1x64x128

/-- The last 64 rows of a pair's states, stored as a head's. -/
def hi (v : Vec Ideal S128x128 .f32) : Vec Ideal S1x64x128 .f32 :=
  shapeCast S1x64x128 (extractStridedSlice S64x128 ![64, 0] v slices_S128x128_o64_0_S64x128) shapeCasts_S64x128_S1x64x128

theorem lo_apply (v : Vec Ideal S128x128 .f32) (p : Fin 64) (n : Fin 128) : lo v (ix3 0 p n) = v (ix2 ⟨p.val, by omega⟩ n) := by
  pointwise [lo]

theorem hi_apply (v : Vec Ideal S128x128 .f32) (p : Fin 64) (n : Fin 128) : hi v (ix3 0 p n) = v (ix2 ⟨64 + p.val, by omega⟩ n) := by
  pointwise [hi]

/-- A head's states, stored at their place, are the whole array's there. -/
theorem state_piece (G : S2x8x64x128.Idx → EReal) (o j : ℕ) (ho : o < 2) (hj : j < 8)
    (b : ∀ a, (![j, 0, 0] : Fin 3 → ℕ) a + S1x64x128.size a ≤ S8x64x128.size a)
    (b' : ∀ a, (![o, 0, 0, 0] : Fin 4 → ℕ) a + S1x8x64x128.size a ≤ S2x8x64x128.size a)
    (h0 : S1x8x64x128.size 0 = 1) (hs : ∀ i, S1x8x64x128.size (Fin.succ i) = S8x64x128.size i)
    (hR : ((Rect.unit (s := S8x64x128) ![j, 0, 0] S1x64x128.size b).consLift S1x8x64x128.size h0 hs).shape.numel
      = (Rect.unit (s := S8x64x128) ![j, 0, 0] S1x64x128.size b).shape.numel)
    (h1 : ∀ a, (Rect.unit (s := S2x8x64x128) ![o, 0, 0, 0] S1x8x64x128.size b').stride a = 1)
    (w : S1x64x128.Idx → EReal) (hw : ∀ (p : Fin 64) (n : Fin 128), w (ix3 0 p n) = G (ix4 (⟨o, ho⟩ : Fin 2) (⟨j, hj⟩ : Fin 8) p n))
    (x : ((Rect.unit (s := S8x64x128) ![j, 0, 0] S1x64x128.size b).consLift S1x8x64x128.size h0 hs).shape.Idx) :
    Rect.payAlong hR w x = G (((Rect.unit (s := S2x8x64x128) ![o, 0, 0, 0] S1x8x64x128.size b').within
        ((Rect.unit (s := S8x64x128) ![j, 0, 0] S1x64x128.size b).consLift S1x8x64x128.size h0 hs) h1).emb x) := by
  have l0 : (x 0).val < 1 := (x 0).isLt
  have l1 : (x 1).val < 1 := (x 1).isLt
  have l2 : (x 2).val < 64 := (x 2).isLt
  have l3 : (x 3).val < 128 := (x 3).isLt
  refine (Rect.payAlong_consLift _ _ _ _ w _ x (ix3 (0 : Fin 1) (⟨(x 2).val, l2⟩ : Fin 64) (⟨(x 3).val, l3⟩ : Fin 128)) (fun i => ?_)).trans
    ((hw _ _).trans (congrArg G ?_))
  · match i with
    | ⟨0, _⟩ => exact (show 0 = (x 1).val by omega)
    | ⟨1, _⟩ => rfl
    | ⟨2, _⟩ => rfl
  · funext a
    match a with
    | ⟨0, _⟩ => exact Fin.ext (show o = o + 0 + 1 * (x 0).val by omega)
    | ⟨1, _⟩ => exact Fin.ext (show j = 0 + j + 1 * (x 1).val by omega)
    | ⟨2, _⟩ => exact Fin.ext (show (x 2).val = 0 + 0 + 1 * (x 2).val by omega)
    | ⟨3, _⟩ => exact Fin.ext (show (x 3).val = 0 + 0 + 1 * (x 3).val by omega)

/-- Some rows of a sequence's window, stored at their place, are the whole array's there. -/
theorem rows_piece {R N : ℕ} (G : Shape.Idx ⟨3, ![2, R, N]⟩ → EReal) (o j k : ℕ) (ho : o < 2) (hj : j + k ≤ R)
    (b : ∀ a, (![j, 0] : Fin 2 → ℕ) a + (![k, N] : Fin 2 → ℕ) a ≤ (![R, N] : Fin 2 → ℕ) a)
    (b' : ∀ a, (![o, 0, 0] : Fin 3 → ℕ) a + (![1, R, N] : Fin 3 → ℕ) a ≤ (![2, R, N] : Fin 3 → ℕ) a)
    (h0 : (![1, R, N] : Fin 3 → ℕ) 0 = 1) (hs : ∀ i, (![1, R, N] : Fin 3 → ℕ) (Fin.succ i) = (![R, N] : Fin 2 → ℕ) i)
    (hR : ((Rect.unit (s := ⟨2, ![R, N]⟩) ![j, 0] ![k, N] b).consLift ![1, R, N] h0 hs).shape.numel
      = (Rect.unit (s := ⟨2, ![R, N]⟩) ![j, 0] ![k, N] b).shape.numel)
    (h1 : ∀ a, (Rect.unit (s := ⟨3, ![2, R, N]⟩) ![o, 0, 0] ![1, R, N] b').stride a = 1)
    (w : Shape.Idx ⟨2, ![k, N]⟩ → EReal)
    (hw : ∀ (r : Fin k) (c : Fin N), w (ix2 r c) = G (ix3 (⟨o, ho⟩ : Fin 2) (⟨j + r.val, by omega⟩ : Fin R) c))
    (x : ((Rect.unit (s := ⟨2, ![R, N]⟩) ![j, 0] ![k, N] b).consLift ![1, R, N] h0 hs).shape.Idx) :
    Rect.payAlong hR w x = G (((Rect.unit (s := ⟨3, ![2, R, N]⟩) ![o, 0, 0] ![1, R, N] b').within
        ((Rect.unit (s := ⟨2, ![R, N]⟩) ![j, 0] ![k, N] b).consLift ![1, R, N] h0 hs) h1).emb x) := by
  have l0 : (x 0).val < 1 := (x 0).isLt
  have l1 : (x 1).val < k := (x 1).isLt
  have l2 : (x 2).val < N := (x 2).isLt
  refine (Rect.payAlong_consLift _ _ _ _ w _ x (ix2 (⟨(x 1).val, l1⟩ : Fin k) (⟨(x 2).val, l2⟩ : Fin N)) (fun i => ?_)).trans
    ((hw _ _).trans (congrArg G (eq3 ?_ ?_ ?_)))
  · match i with
    | ⟨0, _⟩ => rfl
    | ⟨1, _⟩ => rfl
  · exact (show o = o + 0 + 1 * (x 0).val by omega)
  · exact (show j + (x 1).val = 0 + j + 1 * (x 1).val by omega)
  · exact (show (x 2).val = 0 + 0 + 1 * (x 2).val by omega)

/-- A sequence's row, stored at its place, is the whole array's there. -/
theorem row_piece {N : ℕ} (G : Shape.Idx ⟨3, ![2, 1, N]⟩ → EReal) (o : ℕ) (ho : o < 2)
    (b' : ∀ a, (![o, 0, 0] : Fin 3 → ℕ) a + (![1, 1, N] : Fin 3 → ℕ) a ≤ (![2, 1, N] : Fin 3 → ℕ) a)
    (w : Shape.Idx ⟨3, ![1, 1, N]⟩ → EReal) (hw : ∀ c : Fin N, w (ix3 0 0 c) = G (ix3 (⟨o, ho⟩ : Fin 2) 0 c))
    (x : Shape.Idx ⟨3, ![1, 1, N]⟩) : w x = G ((Rect.unit (s := ⟨3, ![2, 1, N]⟩) ![o, 0, 0] ![1, 1, N] b').emb x) := by
  have l0 : (x 0).val < 1 := (x 0).isLt
  have l1 : (x 1).val < 1 := (x 1).isLt
  have hx : x = ix3 0 0 (x 2) := eq3 (show (x 0).val = 0 by omega) (show (x 1).val = 0 by omega) rfl
  refine (congrArg w hx).trans ((hw (x 2)).trans (congrArg G (eq3 ?_ ?_ ?_)))
  · exact (show o = o + 1 * (x 0).val by omega)
  · exact (show 0 = 0 + 1 * (x 1).val by omega)
  · exact (show (x 2).val = 0 + 1 * (x 2).val by omega)

/-- The new row of a convolution window, as it is stored. -/
theorem new_conv (o : Fin 2) (B : Blocks) (r : Fin 1) (c : Fin 1024) :
    shapeCast S1x1024 (loads o B).x shapeCasts_S1x1x1024_S1x1024 (ix2 r c) = kept B (ix3 o (⟨2 + r.val, by omega⟩ : Fin 3) c) := by
  have hr : r = 0 := by omega
  subst hr
  refine Eq.trans ?_ (congrFun (congrArg Step.x (loads_step o B)) c)
  show _ = (loads o B).x (ix3 0 0 c)
  generalize (loads o B).x = v
  pointwise []

/-- The kept rows of a convolution window, as they are stored. -/
theorem old_conv (o : Fin 2) (j : ℕ) (hj : j < 2) (B : Blocks) (r : Fin 1) (c : Fin 1024) :
    (loads o B).h (⟨j + 1, by omega⟩ : Fin 3) (ix2 r c) = kept B (ix3 o (⟨j + r.val, by omega⟩ : Fin 3) c) := by
  have hr : r = 0 := by omega
  subst hr
  refine (congrFun (congrFun (congrArg Step.h (loads_step o B)) (⟨j + 1, by omega⟩ : Fin 3)) c).trans ?_
  exact ((B.step o).keep_lt (j := (⟨j + 0, by omega⟩ : Fin 3)) (show j + 0 < 2 by omega) c).symm

/-- The new row of a pooling window, as it is stored. -/
theorem new_pool (o : Fin 2) (B : Blocks) (r : Fin 1) (c : Fin 256) :
    shapeCast S1x256 (loads o B).u shapeCasts_S1x1x256_S1x256 (ix2 r c) = held B (ix3 o (⟨14 + r.val, by omega⟩ : Fin 15) c) := by
  have hr : r = 0 := by omega
  subst hr
  refine Eq.trans ?_ (congrFun (congrArg Step.u (loads_step o B)) c)
  show _ = (loads o B).u (ix3 0 0 c)
  generalize (loads o B).u = v
  pointwise []

/-- The kept rows of a pooling window, as they are stored. -/
theorem old_pool (o : Fin 2) (B : Blocks) (b : ∀ a, (![1, 0] : Fin 2 → ℕ) a + (![14, 256] : Fin 2 → ℕ) a ≤ (![15, 256] : Fin 2 → ℕ) a)
    (b' : ∀ a, (![o.val, 0, 0] : Fin 3 → ℕ) a + (![1, 15, 256] : Fin 3 → ℕ) a ≤ (![2, 15, 256] : Fin 3 → ℕ) a)
    (h0 : (![1, 15, 256] : Fin 3 → ℕ) 0 = 1) (hs : ∀ i, (![1, 15, 256] : Fin 3 → ℕ) (Fin.succ i) = (![15, 256] : Fin 2 → ℕ) i)
    (h1 : ∀ a, (Rect.unit (s := S2x15x256) ![o.val, 0, 0] ![1, 15, 256] b').stride a = 1)
    (hR : (Rect.unit (s := S15x256) ![1, 0] ![14, 256] b).toLoadRect.shape.numel
      = ((Rect.unit (s := S2x15x256) ![o.val, 0, 0] ![1, 15, 256] b').withinL
        ((Rect.unit (s := S15x256) ![1, 0] ![14, 256] b).toLoadRect.consLift ![1, 15, 256] h0 hs) h1).shape.numel)
    (r : Fin 14) (c : Fin 256) :
    LoadRect.valAlong hR (fun i => B.x6 (((Rect.unit (s := S2x15x256) ![o.val, 0, 0] ![1, 15, 256] b').withinL
        ((Rect.unit (s := S15x256) ![1, 0] ![14, 256] b).toLoadRect.consLift ![1, 15, 256] h0 hs) h1).idx i)) (ix2 r c)
      = held B (ix3 o (⟨0 + r.val, by omega⟩ : Fin 15) c) := by
  refine Eq.trans (congrArg B.x6 (lift_idx _ _ _ _ _ _ _ (ix3 o (⟨0 + r.val + 1, by omega⟩ : Fin 15) c) rfl fun i => ?_))
    ((B.step o).hold_lt (j := (⟨0 + r.val, by omega⟩ : Fin 15)) (show 0 + r.val < 14 by omega) c).symm
  match i with
  | ⟨0, _⟩ => exact (show 0 + r.val + 1 = 0 + (1 + 1 * r.val) by omega)
  | ⟨1, _⟩ => exact (show c.val = 0 + (0 + 1 * c.val) by omega)

/-- The blocks' one-hot columns are loaded whole. -/
theorem ex_eq (o : Fin 2) (B : Blocks) (k : Fin 128) (c : Fin 512) : (loads o B).ex (ix2 k c) = B.x15 (ix2 k c) := by
  refine congrArg B.x15 (funext fun a => ?_)
  match a with
  | ⟨0, _⟩ => exact Fin.ext (show 0 + 1 * k.val = k.val by omega)
  | ⟨1, _⟩ => exact Fin.ext (show 0 + 1 * c.val = c.val by omega)

section Heads

variable (q : Loads) (he : ∀ (k : Fin 128) (c : Fin 512), q.ex (ix2 k c) = if k.val = c.val / 64 then 1 else 0)

include he

theorem head0 (p : Fin 64) (n : Fin 128) : lo q.new0 (ix3 0 p n) = q.step.new 0 p n :=
  (lo_apply _ p n).trans ((q.new0_apply he _ n).trans (congrArg₂ (fun a b => q.step.new a b n)
    (Fin.ext (show p.val / 64 = 0 by omega)) (Fin.ext (show p.val % 64 = p.val by omega))))

theorem head1 (p : Fin 64) (n : Fin 128) : hi q.new0 (ix3 0 p n) = q.step.new 1 p n :=
  (hi_apply _ p n).trans ((q.new0_apply he _ n).trans (congrArg₂ (fun a b => q.step.new a b n)
    (Fin.ext (show (64 + p.val) / 64 = 1 by omega)) (Fin.ext (show (64 + p.val) % 64 = p.val by omega))))

theorem head2 (p : Fin 64) (n : Fin 128) : lo q.new1 (ix3 0 p n) = q.step.new 2 p n :=
  (lo_apply _ p n).trans ((q.new1_apply he _ n).trans (congrArg₂ (fun a b => q.step.new a b n)
    (Fin.ext (show 2 + p.val / 64 = 2 by omega)) (Fin.ext (show p.val % 64 = p.val by omega))))

theorem head3 (p : Fin 64) (n : Fin 128) : hi q.new1 (ix3 0 p n) = q.step.new 3 p n :=
  (hi_apply _ p n).trans ((q.new1_apply he _ n).trans (congrArg₂ (fun a b => q.step.new a b n)
    (Fin.ext (show 2 + (64 + p.val) / 64 = 3 by omega)) (Fin.ext (show (64 + p.val) % 64 = p.val by omega))))

theorem head4 (p : Fin 64) (n : Fin 128) : lo q.new2 (ix3 0 p n) = q.step.new 4 p n :=
  (lo_apply _ p n).trans ((q.new2_apply he _ n).trans (congrArg₂ (fun a b => q.step.new a b n)
    (Fin.ext (show 4 + p.val / 64 = 4 by omega)) (Fin.ext (show p.val % 64 = p.val by omega))))

theorem head5 (p : Fin 64) (n : Fin 128) : hi q.new2 (ix3 0 p n) = q.step.new 5 p n :=
  (hi_apply _ p n).trans ((q.new2_apply he _ n).trans (congrArg₂ (fun a b => q.step.new a b n)
    (Fin.ext (show 4 + (64 + p.val) / 64 = 5 by omega)) (Fin.ext (show (64 + p.val) % 64 = p.val by omega))))

theorem head6 (p : Fin 64) (n : Fin 128) : lo q.new3 (ix3 0 p n) = q.step.new 6 p n :=
  (lo_apply _ p n).trans ((q.new3_apply he _ n).trans (congrArg₂ (fun a b => q.step.new a b n)
    (Fin.ext (show 6 + p.val / 64 = 6 by omega)) (Fin.ext (show p.val % 64 = p.val by omega))))

theorem head7 (p : Fin 64) (n : Fin 128) : hi q.new3 (ix3 0 p n) = q.step.new 7 p n :=
  (hi_apply _ p n).trans ((q.new3_apply he _ n).trans (congrArg₂ (fun a b => q.step.new a b n)
    (Fin.ext (show 6 + (64 + p.val) / 64 = 7 by omega)) (Fin.ext (show (64 + p.val) % 64 = p.val by omega))))

end Heads

section Body

variable {c : Dev nD} {i : grid0.Coords} {arg1 : Memref sig .tc .vmem S2x1x512 .f32} {harg1 : arg1.IsWhole} {arg2 : Memref sig .tc .vmem S2x1x1024 .f32} {harg2 : arg2.IsWhole} {arg3 : Memref sig .tc .vmem S2x1x128 .f32} {harg3 : arg3.IsWhole} {arg4 : Memref sig .tc .vmem S2x1x256 .f32} {harg4 : arg4.IsWhole} {arg5 : Memref sig .tc .vmem S2x3x1024 .f32} {harg5 : arg5.IsWhole} {arg6 : Memref sig .tc .vmem S2x8x64x128 .f32} {harg6 : arg6.IsWhole} {arg7 : Memref sig .tc .vmem S2x15x256 .f32} {harg7 : arg7.IsWhole} {arg8 : Memref sig .tc .vmem S4x1024 .f32} {harg8 : arg8.IsWhole} {arg9 : Memref sig .tc .vmem S1x1024 .f32} {harg9 : arg9.IsWhole} {arg10 : Memref sig .tc .vmem S1x128 .f32} {harg10 : arg10.IsWhole} {arg11 : Memref sig .tc .vmem S1x128 .f32} {harg11 : arg11.IsWhole} {arg12 : Memref sig .tc .vmem S1x512 .f32} {harg12 : arg12.IsWhole} {arg13 : Memref sig .tc .vmem S1x512 .f32} {harg13 : arg13.IsWhole} {arg14 : Memref sig .tc .vmem S256x256 .bf16} {harg14 : arg14.IsWhole} {arg15 : Memref sig .tc .vmem S1x256 .f32} {harg15 : arg15.IsWhole} {arg16 : Memref sig .tc .vmem S128x512 .f32} {harg16 : arg16.IsWhole} {arg17 : Memref sig .tc .vmem S2x1x512 .f32} {harg17 : arg17.IsWhole} {arg18 : Memref sig .tc .vmem S2x1x256 .f32} {harg18 : arg18.IsWhole} {arg19 : Memref sig .tc .vmem S2x3x1024 .f32} {harg19 : arg19.IsWhole} {arg20 : Memref sig .tc .vmem S2x8x64x128 .f32} {harg20 : arg20.IsWhole} {arg21 : Memref sig .tc .vmem S2x15x256 .f32} {harg21 : arg21.IsWhole}
    (B : Blocks)

/-- What the point leaves of the gated rows. -/
theorem out16 (he : ∀ (k : Fin 128) (c : Fin 512), B.x15 (ix2 k c) = if k.val = c.val / 64 then 1 else 0) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 B.x0 B.x1 B.x2 B.x3 B.x4 B.x5 B.x6 B.x7 B.x8 B.x9 B.x10 B.x11 B.x12 B.x13 B.x14 B.x15 = normed B := by
  funext y
  unfold out0_A_16
  refine View.read_writes_apply_of_pieces _ _ (normed B) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 B.x0 B.x1 B.x2 B.x3 B.x4 B.x5 B.x6 B.x7 B.x8 B.x9 B.x10 B.x11 B.x12 B.x13 B.x14 B.x15 y)
  have e0 (k : Fin 128) (c : Fin 512) := (ex_eq 0 B k c).trans (he k c)
  have e1 (k : Fin 128) (c : Fin 512) := (ex_eq 1 B k c).trans (he k c)
  have h36 : r_36 c arg2 harg2 arg5 harg5 arg8 harg8 arg9 harg9 B.x1 B.x4 B.x7 B.x8 = (loads 1 B).mix := by
    simp only [r_36, r, r_1, r_10, r_11, r_12, r_13, r_14, r_15, r_16, r_17, r_18, r_19, r_2, r_20, r_21, r_22, r_23, r_24, r_25, r_26, r_27, r_28, r_29, r_3, r_30, r_31, r_32, r_33, r_34, r_35, r_37, r_39, r_4, r_41, r_42, r_43, r_44, r_46, r_47, r_48, r_49, r_5, r_51, r_52, r_53, r_55, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
    rfl
  have h38 : r_38 c arg3 harg3 arg10 harg10 arg11 harg11 arg16 harg16 B.x2 B.x9 B.x10 B.x15 = (loads 1 B).dec := by
    simp only [r_38, h36, r, r_1, r_10, r_11, r_12, r_13, r_14, r_15, r_16, r_17, r_18, r_19, r_2, r_20, r_21, r_22, r_23, r_24, r_25, r_26, r_27, r_28, r_29, r_3, r_30, r_31, r_32, r_33, r_34, r_35, r_37, r_39, r_4, r_41, r_42, r_43, r_44, r_46, r_47, r_48, r_49, r_5, r_51, r_52, r_53, r_55, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
    rfl
  have h40 : r_40 c arg2 harg2 arg3 harg3 arg5 harg5 arg8 harg8 arg9 harg9 arg10 harg10 arg11 harg11 arg16 harg16 B.x1 B.x2 B.x4 B.x7 B.x8 B.x9 B.x10 B.x15 = (loads 1 B).inp := by
    simp only [r_40, h36, h38, r, r_1, r_10, r_11, r_12, r_13, r_14, r_15, r_16, r_17, r_18, r_19, r_2, r_20, r_21, r_22, r_23, r_24, r_25, r_26, r_27, r_28, r_29, r_3, r_30, r_31, r_32, r_33, r_34, r_35, r_37, r_39, r_4, r_41, r_42, r_43, r_44, r_46, r_47, r_48, r_49, r_5, r_51, r_52, r_53, r_55, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
    rfl
  have h45 : r_45 c arg2 harg2 arg3 harg3 arg5 harg5 arg6 harg6 arg8 harg8 arg9 harg9 arg10 harg10 arg11 harg11 arg12 harg12 arg16 harg16 B.x1 B.x2 B.x4 B.x5 B.x7 B.x8 B.x9 B.x10 B.x11 B.x15 = (loads 1 B).y0 := by
    simp only [r_45, h36, h38, h40, r, r_1, r_10, r_11, r_12, r_13, r_14, r_15, r_16, r_17, r_18, r_19, r_2, r_20, r_21, r_22, r_23, r_24, r_25, r_26, r_27, r_28, r_29, r_3, r_30, r_31, r_32, r_33, r_34, r_35, r_37, r_39, r_4, r_41, r_42, r_43, r_44, r_46, r_47, r_48, r_49, r_5, r_51, r_52, r_53, r_55, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
    rfl
  have h50 : r_50 c arg2 harg2 arg3 harg3 arg5 harg5 arg6 harg6 arg8 harg8 arg9 harg9 arg10 harg10 arg11 harg11 arg12 harg12 arg16 harg16 B.x1 B.x2 B.x4 B.x5 B.x7 B.x8 B.x9 B.x10 B.x11 B.x15 = (loads 1 B).y1 := by
    simp only [r_50, h36, h38, h40, h45, r, r_1, r_10, r_11, r_12, r_13, r_14, r_15, r_16, r_17, r_18, r_19, r_2, r_20, r_21, r_22, r_23, r_24, r_25, r_26, r_27, r_28, r_29, r_3, r_30, r_31, r_32, r_33, r_34, r_35, r_37, r_39, r_4, r_41, r_42, r_43, r_44, r_46, r_47, r_48, r_49, r_5, r_51, r_52, r_53, r_55, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
    rfl
  have h54 : r_54 c arg2 harg2 arg3 harg3 arg5 harg5 arg6 harg6 arg8 harg8 arg9 harg9 arg10 harg10 arg11 harg11 arg12 harg12 arg16 harg16 B.x1 B.x2 B.x4 B.x5 B.x7 B.x8 B.x9 B.x10 B.x11 B.x15 = (loads 1 B).y2 := by
    simp only [r_54, h36, h38, h40, h45, h50, r, r_1, r_10, r_11, r_12, r_13, r_14, r_15, r_16, r_17, r_18, r_19, r_2, r_20, r_21, r_22, r_23, r_24, r_25, r_26, r_27, r_28, r_29, r_3, r_30, r_31, r_32, r_33, r_34, r_35, r_37, r_39, r_4, r_41, r_42, r_43, r_44, r_46, r_47, r_48, r_49, r_5, r_51, r_52, r_53, r_55, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
    rfl
  have h56 : r_56 c arg2 harg2 arg3 harg3 arg5 harg5 arg6 harg6 arg8 harg8 arg9 harg9 arg10 harg10 arg11 harg11 arg16 harg16 B.x1 B.x2 B.x4 B.x5 B.x7 B.x8 B.x9 B.x10 B.x15 = (loads 1 B).new3 := by
    simp only [r_56, h36, h38, h40, h45, h50, h54, r, r_1, r_10, r_11, r_12, r_13, r_14, r_15, r_16, r_17, r_18, r_19, r_2, r_20, r_21, r_22, r_23, r_24, r_25, r_26, r_27, r_28, r_29, r_3, r_30, r_31, r_32, r_33, r_34, r_35, r_37, r_39, r_4, r_41, r_42, r_43, r_44, r_46, r_47, r_48, r_49, r_5, r_51, r_52, r_53, r_55, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
    rfl
  have h2 : r_2 c arg2 harg2 arg5 harg5 arg8 harg8 arg9 harg9 B.x1 B.x4 B.x7 B.x8 = (loads 0 B).mix := by
    simp only [r_2, r, r_1, r_10, r_12, r_13, r_14, r_15, r_17, r_18, r_19, r_21, r_23, r_24, r_25, r_26, r_27, r_28, r_29, r_3, r_30, r_31, r_32, r_33, r_34, r_35, r_36, r_37, r_38, r_39, r_4, r_40, r_41, r_42, r_43, r_44, r_45, r_46, r_47, r_48, r_49, r_50, r_51, r_52, r_53, r_54, r_55, r_56, r_57, r_58, r_59, r_6, r_60, r_61, r_62, r_63, r_64, r_65, r_66, r_67, r_8, r_9, v115, v119, v14, v158, v162, v201, v205, v26, v282, v342, v357, v363, v375, v421, v425, v464, v468, v507, v511, v550, v554, v630, v691, v72, v76, v8, load_eq]
    rfl
  have h5 : r_5 c arg3 harg3 arg10 harg10 arg11 harg11 arg16 harg16 B.x2 B.x9 B.x10 B.x15 = (loads 0 B).dec := by
    simp only [r_5, h2, r, r_1, r_10, r_12, r_13, r_14, r_15, r_17, r_18, r_19, r_21, r_23, r_24, r_25, r_26, r_27, r_28, r_29, r_3, r_30, r_31, r_32, r_33, r_34, r_35, r_36, r_37, r_38, r_39, r_4, r_40, r_41, r_42, r_43, r_44, r_45, r_46, r_47, r_48, r_49, r_50, r_51, r_52, r_53, r_54, r_55, r_56, r_57, r_58, r_59, r_6, r_60, r_61, r_62, r_63, r_64, r_65, r_66, r_67, r_8, r_9, v115, v119, v14, v158, v162, v201, v205, v26, v282, v342, v357, v363, v375, v421, v425, v464, v468, v507, v511, v550, v554, v630, v691, v72, v76, v8, load_eq]
    rfl
  have h7 : r_7 c arg2 harg2 arg3 harg3 arg5 harg5 arg8 harg8 arg9 harg9 arg10 harg10 arg11 harg11 arg16 harg16 B.x1 B.x2 B.x4 B.x7 B.x8 B.x9 B.x10 B.x15 = (loads 0 B).inp := by
    simp only [r_7, h2, h5, r, r_1, r_10, r_12, r_13, r_14, r_15, r_17, r_18, r_19, r_21, r_23, r_24, r_25, r_26, r_27, r_28, r_29, r_3, r_30, r_31, r_32, r_33, r_34, r_35, r_36, r_37, r_38, r_39, r_4, r_40, r_41, r_42, r_43, r_44, r_45, r_46, r_47, r_48, r_49, r_50, r_51, r_52, r_53, r_54, r_55, r_56, r_57, r_58, r_59, r_6, r_60, r_61, r_62, r_63, r_64, r_65, r_66, r_67, r_8, r_9, v115, v119, v14, v158, v162, v201, v205, v26, v282, v342, v357, v363, v375, v421, v425, v464, v468, v507, v511, v550, v554, v630, v691, v72, v76, v8, load_eq]
    rfl
  have h11 : r_11 c arg2 harg2 arg3 harg3 arg5 harg5 arg6 harg6 arg8 harg8 arg9 harg9 arg10 harg10 arg11 harg11 arg12 harg12 arg16 harg16 B.x1 B.x2 B.x4 B.x5 B.x7 B.x8 B.x9 B.x10 B.x11 B.x15 = (loads 0 B).y0 := by
    simp only [r_11, h2, h5, h7, r, r_1, r_10, r_12, r_13, r_14, r_15, r_17, r_18, r_19, r_21, r_23, r_24, r_25, r_26, r_27, r_28, r_29, r_3, r_30, r_31, r_32, r_33, r_34, r_35, r_36, r_37, r_38, r_39, r_4, r_40, r_41, r_42, r_43, r_44, r_45, r_46, r_47, r_48, r_49, r_50, r_51, r_52, r_53, r_54, r_55, r_56, r_57, r_58, r_59, r_6, r_60, r_61, r_62, r_63, r_64, r_65, r_66, r_67, r_8, r_9, v115, v119, v14, v158, v162, v201, v205, v26, v282, v342, v357, v363, v375, v421, v425, v464, v468, v507, v511, v550, v554, v630, v691, v72, v76, v8, load_eq]
    rfl
  have h16 : r_16 c arg2 harg2 arg3 harg3 arg5 harg5 arg6 harg6 arg8 harg8 arg9 harg9 arg10 harg10 arg11 harg11 arg12 harg12 arg16 harg16 B.x1 B.x2 B.x4 B.x5 B.x7 B.x8 B.x9 B.x10 B.x11 B.x15 = (loads 0 B).y1 := by
    simp only [r_16, h2, h5, h7, h11, r, r_1, r_10, r_12, r_13, r_14, r_15, r_17, r_18, r_19, r_21, r_23, r_24, r_25, r_26, r_27, r_28, r_29, r_3, r_30, r_31, r_32, r_33, r_34, r_35, r_36, r_37, r_38, r_39, r_4, r_40, r_41, r_42, r_43, r_44, r_45, r_46, r_47, r_48, r_49, r_50, r_51, r_52, r_53, r_54, r_55, r_56, r_57, r_58, r_59, r_6, r_60, r_61, r_62, r_63, r_64, r_65, r_66, r_67, r_8, r_9, v115, v119, v14, v158, v162, v201, v205, v26, v282, v342, v357, v363, v375, v421, v425, v464, v468, v507, v511, v550, v554, v630, v691, v72, v76, v8, load_eq]
    rfl
  have h20 : r_20 c arg2 harg2 arg3 harg3 arg5 harg5 arg6 harg6 arg8 harg8 arg9 harg9 arg10 harg10 arg11 harg11 arg12 harg12 arg16 harg16 B.x1 B.x2 B.x4 B.x5 B.x7 B.x8 B.x9 B.x10 B.x11 B.x15 = (loads 0 B).y2 := by
    simp only [r_20, h2, h5, h7, h11, h16, r, r_1, r_10, r_12, r_13, r_14, r_15, r_17, r_18, r_19, r_21, r_23, r_24, r_25, r_26, r_27, r_28, r_29, r_3, r_30, r_31, r_32, r_33, r_34, r_35, r_36, r_37, r_38, r_39, r_4, r_40, r_41, r_42, r_43, r_44, r_45, r_46, r_47, r_48, r_49, r_50, r_51, r_52, r_53, r_54, r_55, r_56, r_57, r_58, r_59, r_6, r_60, r_61, r_62, r_63, r_64, r_65, r_66, r_67, r_8, r_9, v115, v119, v14, v158, v162, v201, v205, v26, v282, v342, v357, v363, v375, v421, v425, v464, v468, v507, v511, v550, v554, v630, v691, v72, v76, v8, load_eq]
    rfl
  have h22 : r_22 c arg2 harg2 arg3 harg3 arg5 harg5 arg6 harg6 arg8 harg8 arg9 harg9 arg10 harg10 arg11 harg11 arg16 harg16 B.x1 B.x2 B.x4 B.x5 B.x7 B.x8 B.x9 B.x10 B.x15 = (loads 0 B).new3 := by
    simp only [r_22, h2, h5, h7, h11, h16, h20, r, r_1, r_10, r_12, r_13, r_14, r_15, r_17, r_18, r_19, r_21, r_23, r_24, r_25, r_26, r_27, r_28, r_29, r_3, r_30, r_31, r_32, r_33, r_34, r_35, r_36, r_37, r_38, r_39, r_4, r_40, r_41, r_42, r_43, r_44, r_45, r_46, r_47, r_48, r_49, r_50, r_51, r_52, r_53, r_54, r_55, r_56, r_57, r_58, r_59, r_6, r_60, r_61, r_62, r_63, r_64, r_65, r_66, r_67, r_8, r_9, v115, v119, v14, v158, v162, v201, v205, v26, v282, v342, v357, v363, v375, v421, v425, v464, v468, v507, v511, v550, v554, v630, v691, v72, v76, v8, load_eq]
    rfl
  dsimp only [kernelRun0_A]
  simp only [h36, h38, h40, h45, h50, h54, h56, h2, h5, h7, h11, h16, h20, h22, r, r_1, r_10, r_12, r_13, r_14, r_15, r_17, r_18, r_19, r_21, r_23, r_24, r_25, r_26, r_27, r_28, r_29, r_3, r_30, r_31, r_32, r_33, r_34, r_35, r_37, r_39, r_4, r_41, r_42, r_43, r_44, r_46, r_47, r_48, r_49, r_51, r_52, r_53, r_55, r_57, r_58, r_59, r_6, r_60, r_61, r_62, r_63, r_64, r_65, r_66, r_67, r_8, r_9, v115, v119, v14, v158, v162, v201, v205, v26, v282, v342, v357, v363, v375, v421, v425, v464, v468, v507, v511, v550, v554, v630, v691, v72, v76, v8, load_eq]
  refine List.forall_mem_cons.2 ⟨row_piece (normed B) 1 (by omega) inb_S2x1x512_S1x1x512_1_0_0 _ (fun c => ((loads 1 B).y_apply e1 c).trans (congrArg (fun q => Step.norm q c) (loads_step 1 B))), ?_⟩
  refine List.forall_mem_cons.2 ⟨row_piece (normed B) 0 (by omega) inb_S2x1x512_S1x1x512_0_0_0 _ (fun c => ((loads 0 B).y_apply e0 c).trans (congrArg (fun q => Step.norm q c) (loads_step 0 B))), ?_⟩
  exact List.forall_mem_nil _

/-- What the point leaves of the pooled rows. -/
theorem out17 :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 B.x0 B.x1 B.x2 B.x3 B.x4 B.x5 B.x6 B.x7 B.x8 B.x9 B.x10 B.x11 B.x12 B.x13 B.x14 B.x15 = pooled B := by
  funext y
  unfold out0_A_17
  refine View.read_writes_apply_of_pieces _ _ (pooled B) _ ?_ y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 B.x0 B.x1 B.x2 B.x3 B.x4 B.x5 B.x6 B.x7 B.x8 B.x9 B.x10 B.x11 B.x12 B.x13 B.x14 B.x15 y)
  dsimp only [kernelRun0_A]
  simp only [r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
  refine List.forall_mem_cons.2 ⟨row_piece (pooled B) 1 (by omega) inb_S2x1x256_S1x1x256_1_0_0 _ (fun c => ((loads 1 B).pool_apply c).trans (congrArg (fun q => Step.pool q c) (loads_step 1 B))), ?_⟩
  refine List.forall_mem_cons.2 ⟨row_piece (pooled B) 0 (by omega) inb_S2x1x256_S1x1x256_0_0_0 _ (fun c => ((loads 0 B).pool_apply c).trans (congrArg (fun q => Step.pool q c) (loads_step 0 B))), ?_⟩
  exact List.forall_mem_nil _

/-- What the point leaves of the convolution windows. -/
theorem out18 :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 B.x0 B.x1 B.x2 B.x3 B.x4 B.x5 B.x6 B.x7 B.x8 B.x9 B.x10 B.x11 B.x12 B.x13 B.x14 B.x15 = kept B := by
  funext y
  unfold out0_A_18
  refine View.read_writes_apply_of_pieces _ _ (kept B) _ ?_ y (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 B.x0 B.x1 B.x2 B.x3 B.x4 B.x5 B.x6 B.x7 B.x8 B.x9 B.x10 B.x11 B.x12 B.x13 B.x14 B.x15 y)
  dsimp only [kernelRun0_A]
  simp only [r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
  refine List.forall_mem_cons.2 ⟨rows_piece (kept B) 1 2 1 (by omega) (by omega) _ _ _ _ _ (fun _ => rfl) _ (new_conv 1 B), ?_⟩
  refine List.forall_mem_cons.2 ⟨rows_piece (kept B) 1 1 1 (by omega) (by omega) _ _ _ _ _ (fun _ => rfl) _ (old_conv 1 1 (by omega) B), ?_⟩
  refine List.forall_mem_cons.2 ⟨rows_piece (kept B) 1 0 1 (by omega) (by omega) _ _ _ _ _ (fun _ => rfl) _ (old_conv 1 0 (by omega) B), ?_⟩
  refine List.forall_mem_cons.2 ⟨rows_piece (kept B) 0 2 1 (by omega) (by omega) _ _ _ _ _ (fun _ => rfl) _ (new_conv 0 B), ?_⟩
  refine List.forall_mem_cons.2 ⟨rows_piece (kept B) 0 1 1 (by omega) (by omega) _ _ _ _ _ (fun _ => rfl) _ (old_conv 0 1 (by omega) B), ?_⟩
  refine List.forall_mem_cons.2 ⟨rows_piece (kept B) 0 0 1 (by omega) (by omega) _ _ _ _ _ (fun _ => rfl) _ (old_conv 0 0 (by omega) B), ?_⟩
  exact List.forall_mem_nil _

/-- What the point leaves of the states. -/
theorem out19 (he : ∀ (k : Fin 128) (c : Fin 512), B.x15 (ix2 k c) = if k.val = c.val / 64 then 1 else 0) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 B.x0 B.x1 B.x2 B.x3 B.x4 B.x5 B.x6 B.x7 B.x8 B.x9 B.x10 B.x11 B.x12 B.x13 B.x14 B.x15 = states B := by
  funext y
  unfold out0_A_19
  refine View.read_writes_apply_of_pieces _ _ (states B) _ ?_ y (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 B.x0 B.x1 B.x2 B.x3 B.x4 B.x5 B.x6 B.x7 B.x8 B.x9 B.x10 B.x11 B.x12 B.x13 B.x14 B.x15 y)
  have e0 (k : Fin 128) (c : Fin 512) := (ex_eq 0 B k c).trans (he k c)
  have e1 (k : Fin 128) (c : Fin 512) := (ex_eq 1 B k c).trans (he k c)
  dsimp only [kernelRun0_A]
  simp only [r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
  refine List.forall_mem_cons.2 ⟨state_piece (states B) 1 7 (by omega) (by omega) _ _ _ _ _ (fun _ => rfl) _ (fun p n => (head7 (loads 1 B) e1 p n).trans (congrArg (fun q => Step.new q 7 p n) (loads_step 1 B))), ?_⟩
  refine List.forall_mem_cons.2 ⟨state_piece (states B) 1 6 (by omega) (by omega) _ _ _ _ _ (fun _ => rfl) _ (fun p n => (head6 (loads 1 B) e1 p n).trans (congrArg (fun q => Step.new q 6 p n) (loads_step 1 B))), ?_⟩
  refine List.forall_mem_cons.2 ⟨state_piece (states B) 1 5 (by omega) (by omega) _ _ _ _ _ (fun _ => rfl) _ (fun p n => (head5 (loads 1 B) e1 p n).trans (congrArg (fun q => Step.new q 5 p n) (loads_step 1 B))), ?_⟩
  refine List.forall_mem_cons.2 ⟨state_piece (states B) 1 4 (by omega) (by omega) _ _ _ _ _ (fun _ => rfl) _ (fun p n => (head4 (loads 1 B) e1 p n).trans (congrArg (fun q => Step.new q 4 p n) (loads_step 1 B))), ?_⟩
  refine List.forall_mem_cons.2 ⟨state_piece (states B) 1 3 (by omega) (by omega) _ _ _ _ _ (fun _ => rfl) _ (fun p n => (head3 (loads 1 B) e1 p n).trans (congrArg (fun q => Step.new q 3 p n) (loads_step 1 B))), ?_⟩
  refine List.forall_mem_cons.2 ⟨state_piece (states B) 1 2 (by omega) (by omega) _ _ _ _ _ (fun _ => rfl) _ (fun p n => (head2 (loads 1 B) e1 p n).trans (congrArg (fun q => Step.new q 2 p n) (loads_step 1 B))), ?_⟩
  refine List.forall_mem_cons.2 ⟨state_piece (states B) 1 1 (by omega) (by omega) _ _ _ _ _ (fun _ => rfl) _ (fun p n => (head1 (loads 1 B) e1 p n).trans (congrArg (fun q => Step.new q 1 p n) (loads_step 1 B))), ?_⟩
  refine List.forall_mem_cons.2 ⟨state_piece (states B) 1 0 (by omega) (by omega) _ _ _ _ _ (fun _ => rfl) _ (fun p n => (head0 (loads 1 B) e1 p n).trans (congrArg (fun q => Step.new q 0 p n) (loads_step 1 B))), ?_⟩
  refine List.forall_mem_cons.2 ⟨state_piece (states B) 0 7 (by omega) (by omega) _ _ _ _ _ (fun _ => rfl) _ (fun p n => (head7 (loads 0 B) e0 p n).trans (congrArg (fun q => Step.new q 7 p n) (loads_step 0 B))), ?_⟩
  refine List.forall_mem_cons.2 ⟨state_piece (states B) 0 6 (by omega) (by omega) _ _ _ _ _ (fun _ => rfl) _ (fun p n => (head6 (loads 0 B) e0 p n).trans (congrArg (fun q => Step.new q 6 p n) (loads_step 0 B))), ?_⟩
  refine List.forall_mem_cons.2 ⟨state_piece (states B) 0 5 (by omega) (by omega) _ _ _ _ _ (fun _ => rfl) _ (fun p n => (head5 (loads 0 B) e0 p n).trans (congrArg (fun q => Step.new q 5 p n) (loads_step 0 B))), ?_⟩
  refine List.forall_mem_cons.2 ⟨state_piece (states B) 0 4 (by omega) (by omega) _ _ _ _ _ (fun _ => rfl) _ (fun p n => (head4 (loads 0 B) e0 p n).trans (congrArg (fun q => Step.new q 4 p n) (loads_step 0 B))), ?_⟩
  refine List.forall_mem_cons.2 ⟨state_piece (states B) 0 3 (by omega) (by omega) _ _ _ _ _ (fun _ => rfl) _ (fun p n => (head3 (loads 0 B) e0 p n).trans (congrArg (fun q => Step.new q 3 p n) (loads_step 0 B))), ?_⟩
  refine List.forall_mem_cons.2 ⟨state_piece (states B) 0 2 (by omega) (by omega) _ _ _ _ _ (fun _ => rfl) _ (fun p n => (head2 (loads 0 B) e0 p n).trans (congrArg (fun q => Step.new q 2 p n) (loads_step 0 B))), ?_⟩
  refine List.forall_mem_cons.2 ⟨state_piece (states B) 0 1 (by omega) (by omega) _ _ _ _ _ (fun _ => rfl) _ (fun p n => (head1 (loads 0 B) e0 p n).trans (congrArg (fun q => Step.new q 1 p n) (loads_step 0 B))), ?_⟩
  refine List.forall_mem_cons.2 ⟨state_piece (states B) 0 0 (by omega) (by omega) _ _ _ _ _ (fun _ => rfl) _ (fun p n => (head0 (loads 0 B) e0 p n).trans (congrArg (fun q => Step.new q 0 p n) (loads_step 0 B))), ?_⟩
  exact List.forall_mem_nil _

/-- What the point leaves of the pooling windows. -/
theorem out20 :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 B.x0 B.x1 B.x2 B.x3 B.x4 B.x5 B.x6 B.x7 B.x8 B.x9 B.x10 B.x11 B.x12 B.x13 B.x14 B.x15 = held B := by
  funext y
  unfold out0_A_20
  refine View.read_writes_apply_of_pieces _ _ (held B) _ ?_ y (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 B.x0 B.x1 B.x2 B.x3 B.x4 B.x5 B.x6 B.x7 B.x8 B.x9 B.x10 B.x11 B.x12 B.x13 B.x14 B.x15 y)
  dsimp only [kernelRun0_A]
  simp only [r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_61, r_62, r_63, r_64, r_65, r_66, r_67, r_7, r_8, r_9, v115, v119, v14, v158, v162, v201, v205, v26, v282, v342, v357, v363, v375, v421, v425, v464, v468, v507, v511, v550, v554, v630, v691, v72, v76, v8, load_eq]
  refine List.forall_mem_cons.2 ⟨rows_piece (held B) 1 14 1 (by omega) (by omega) _ _ _ _ _ (fun _ => rfl) _ (new_pool 1 B), ?_⟩
  refine List.forall_mem_cons.2 ⟨rows_piece (held B) 1 0 14 (by omega) (by omega) _ _ _ _ _ (fun _ => rfl) _ (old_pool 1 B _ _ _ _ _ _), ?_⟩
  refine List.forall_mem_cons.2 ⟨rows_piece (held B) 0 14 1 (by omega) (by omega) _ _ _ _ _ (fun _ => rfl) _ (new_pool 0 B), ?_⟩
  refine List.forall_mem_cons.2 ⟨rows_piece (held B) 0 0 14 (by omega) (by omega) _ _ _ _ _ (fun _ => rfl) _ (old_pool 0 B _ _ _ _ _ _), ?_⟩
  exact List.forall_mem_nil _

end Body

section Left

variable {c : Dev nD} {i : grid0.Coords} {arg1 : Memref sig .tc .vmem S2x1x512 .f32} {harg1 : arg1.IsWhole} {arg2 : Memref sig .tc .vmem S2x1x1024 .f32} {harg2 : arg2.IsWhole} {arg3 : Memref sig .tc .vmem S2x1x128 .f32} {harg3 : arg3.IsWhole} {arg4 : Memref sig .tc .vmem S2x1x256 .f32} {harg4 : arg4.IsWhole} {arg5 : Memref sig .tc .vmem S2x3x1024 .f32} {harg5 : arg5.IsWhole} {arg6 : Memref sig .tc .vmem S2x8x64x128 .f32} {harg6 : arg6.IsWhole} {arg7 : Memref sig .tc .vmem S2x15x256 .f32} {harg7 : arg7.IsWhole} {arg8 : Memref sig .tc .vmem S4x1024 .f32} {harg8 : arg8.IsWhole} {arg9 : Memref sig .tc .vmem S1x1024 .f32} {harg9 : arg9.IsWhole} {arg10 : Memref sig .tc .vmem S1x128 .f32} {harg10 : arg10.IsWhole} {arg11 : Memref sig .tc .vmem S1x128 .f32} {harg11 : arg11.IsWhole} {arg12 : Memref sig .tc .vmem S1x512 .f32} {harg12 : arg12.IsWhole} {arg13 : Memref sig .tc .vmem S1x512 .f32} {harg13 : arg13.IsWhole} {arg14 : Memref sig .tc .vmem S256x256 .bf16} {harg14 : arg14.IsWhole} {arg15 : Memref sig .tc .vmem S1x256 .f32} {harg15 : arg15.IsWhole} {arg16 : Memref sig .tc .vmem S128x512 .f32} {harg16 : arg16.IsWhole} {arg17 : Memref sig .tc .vmem S2x1x512 .f32} {harg17 : arg17.IsWhole} {arg18 : Memref sig .tc .vmem S2x1x256 .f32} {harg18 : arg18.IsWhole} {arg19 : Memref sig .tc .vmem S2x3x1024 .f32} {harg19 : arg19.IsWhole} {arg20 : Memref sig .tc .vmem S2x8x64x128 .f32} {harg20 : arg20.IsWhole} {arg21 : Memref sig .tc .vmem S2x15x256 .f32} {harg21 : arg21.IsWhole}
    (x0 : Vec Ideal S2x1x512 .f32) (x1 : Vec Ideal S2x1x1024 .f32) (x2 : Vec Ideal S2x1x128 .f32) (x3 : Vec Ideal S2x1x256 .f32) (x4 : Vec Ideal S2x3x1024 .f32) (x5 : Vec Ideal S2x8x64x128 .f32) (x6 : Vec Ideal S2x15x256 .f32) (x7 : Vec Ideal S4x1024 .f32) (x8 : Vec Ideal S1x1024 .f32) (x9 : Vec Ideal S1x128 .f32) (x10 : Vec Ideal S1x128 .f32) (x11 : Vec Ideal S1x512 .f32) (x12 : Vec Ideal S1x512 .f32) (x13 : Vec Ideal S256x256 .bf16) (x14 : Vec Ideal S1x256 .f32) (x15 : Vec Ideal S128x512 .f32)

/-- What the point leaves of the gated rows, from the sixteen blocks one by one. -/
theorem left16 (he : ∀ (k : Fin 128) (c : Fin 512), x15 (ix2 k c) = if k.val = c.val / 64 then 1 else 0) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 = normed ⟨x0, x1, x2, x3, x4, x5, x6, x7, x8, x9, x10, x11, x12, x13, x14, x15⟩ :=
  out16 (⟨x0, x1, x2, x3, x4, x5, x6, x7, x8, x9, x10, x11, x12, x13, x14, x15⟩ : Blocks) he

/-- What the point leaves of the pooled rows, from the sixteen blocks one by one. -/
theorem left17 :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 = pooled ⟨x0, x1, x2, x3, x4, x5, x6, x7, x8, x9, x10, x11, x12, x13, x14, x15⟩ :=
  out17 (⟨x0, x1, x2, x3, x4, x5, x6, x7, x8, x9, x10, x11, x12, x13, x14, x15⟩ : Blocks)

/-- What the point leaves of the convolution windows, from the sixteen blocks one by one. -/
theorem left18 :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 = kept ⟨x0, x1, x2, x3, x4, x5, x6, x7, x8, x9, x10, x11, x12, x13, x14, x15⟩ :=
  out18 (⟨x0, x1, x2, x3, x4, x5, x6, x7, x8, x9, x10, x11, x12, x13, x14, x15⟩ : Blocks)

/-- What the point leaves of the new states, from the sixteen blocks one by one. -/
theorem left19 (he : ∀ (k : Fin 128) (c : Fin 512), x15 (ix2 k c) = if k.val = c.val / 64 then 1 else 0) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 = states ⟨x0, x1, x2, x3, x4, x5, x6, x7, x8, x9, x10, x11, x12, x13, x14, x15⟩ :=
  out19 (⟨x0, x1, x2, x3, x4, x5, x6, x7, x8, x9, x10, x11, x12, x13, x14, x15⟩ : Blocks) he

/-- What the point leaves of the pooling windows, from the sixteen blocks one by one. -/
theorem left20 :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 = held ⟨x0, x1, x2, x3, x4, x5, x6, x7, x8, x9, x10, x11, x12, x13, x14, x15⟩ :=
  out20 (⟨x0, x1, x2, x3, x4, x5, x6, x7, x8, x9, x10, x11, x12, x13, x14, x15⟩ : Blocks)

end Left

end Cert.Sample

end
-- ==== Proof.SampleArray.lean ====
/- The decode step's whole arrays: each of the 32 sequences' rows, windows and states as functions of the arguments. -/
module

public import proofs.«01_k».proof.Proof.SampleOut

@[expose] public section

noncomputable section

namespace Cert.Sample

open Idealize.ShloMosaic Idealize.ShloMosaic.TcCoe Cert.Kernel4Ideal Cert.Kernel4Ideal.Gen

/-- The arguments of the step. -/
structure Args where
  a0 : Vec Ideal S32x512 .f32
  a1 : Vec Ideal S32x1024 .f32
  a2 : Vec Ideal S32x128 .f32
  a3 : Vec Ideal S32x256 .f32
  a4 : Vec Ideal S32x3x1024 .f32
  a5 : Vec Ideal S32x8x64x128 .f32
  a6 : Vec Ideal S32x15x256 .f32
  a7 : Vec Ideal S4x1024 .f32
  a8 : Vec Ideal S1x1024 .f32
  a9 : Vec Ideal S1x128 .f32
  a10 : Vec Ideal S1x128 .f32
  a11 : Vec Ideal S1x512 .f32
  a12 : Vec Ideal S1x512 .f32
  a13 : Vec Ideal S256x256 .bf16
  a14 : Vec Ideal S1x256 .f32

namespace Args

variable (A : Args)

/-- What sequence `b` reads, entry by entry. -/
def step (b : Fin 32) : Step where
  x c := A.a1 (ix2 b c)
  h j c := A.a4 (ix3 b j c)
  dt c := A.a2 (ix2 b c)
  z c := A.a0 (ix2 b c)
  u c := A.a3 (ix2 b c)
  st h p n := A.a5 (ix4 b h p n)
  pl j c := A.a6 (ix3 b j c)
  cw j c := A.a7 (ix2 j c)
  cb c := A.a8 (ix2 0 c)
  db c := A.a9 (ix2 0 c)
  a c := A.a10 (ix2 0 c)
  dk c := A.a11 (ix2 0 c)
  ng c := A.a12 (ix2 0 c)
  pw j c := A.a13 (ix2 j c)
  ps c := A.a14 (ix2 0 c)

/-- Every sequence's gated row. -/
def normed (y : S32x1x512.Idx) : EReal := (A.step (y 0)).norm (y 2)

/-- Every sequence's pooled row. -/
def pooled (y : S32x1x256.Idx) : EReal := (A.step (y 0)).pool (y 2)

/-- Every sequence's moved convolution window. -/
def kept (y : S32x3x1024.Idx) : EReal := (A.step (y 0)).keep (y 1) (y 2)

/-- Every sequence's new states. -/
def states (y : S32x8x64x128.Idx) : EReal := (A.step (y 0)).new (y 1) (y 2) (y 3)

/-- Every sequence's moved pooling window. -/
def held (y : S32x15x256.Idx) : EReal := (A.step (y 0)).hold (y 1) (y 2)

end Args

/-- The number 64 at every column. -/
def wide : IVec S1x512 32 := broadcastInDim S1x512 ![] bcast_S_S1x512 (constantI S_ 32 64#32)

/-- Every column's own number. -/
def cols : IVec S1x512 32 := broadcastInDim S1x512 ![1] bcast_S512_S1x512_1 (iotaInDim S512 32 0)

/-- The head every column belongs to. -/
def heads : IVec S1x512 32 :=
  select (andi (cmpi .ne (signi cols) (broadcastInDim S1x512 ![] bcast_S_S1x512 (signi (constantI S_ 32 64#32))))
      (cmpi .ne (Host.remsi cols wide) (broadcastInDim S1x512 ![] bcast_S_S1x512 (constantI S_ 32 0#32))))
    (subi (Host.divsi cols wide) (broadcastInDim S1x512 ![] bcast_S_S1x512 (constantI S_ 32 1#32))) (Host.divsi cols wide)

/-- The one-hot columns of the heads. -/
def expand : Vec Ideal S128x512 .f32 :=
  uitofp (F := Ideal) .f32 (cmpi .eq (broadcastInDim S128x512 ![0, 1] bcast_S128x1_S128x512_0_1
      (broadcastInDim S128x1 ![0] bcast_S128_S128x1_0 (iotaInDim S128 32 0)))
    (broadcastInDim S128x512 ![0, 1] bcast_S1x512_S128x512_0_1 heads))

/-- Column `c` belongs to head `c / 64`. -/
theorem heads_apply (c : Fin 512) : heads (ix2 0 c) = BitVec.ofNat 32 (c.val / 64) := by
  pointwise [heads, wide, cols]
  revert c
  decide +kernel

/-- The one-hot columns mark each column's head. -/
theorem expand_apply (k : Fin 128) (c : Fin 512) : expand (ix2 k c) = if k.val = c.val / 64 then 1 else 0 := by
  unfold expand
  have h := heads_apply c
  generalize heads = v at h ⊢
  pointwise []
  rw [h]
  by_cases e : k.val = c.val / 64
  · rw [if_pos e, e]
    have hb : IntOp.cmpi CmpIPredicate.eq (BitVec.ofNat 32 (c.val / 64)) (BitVec.ofNat 32 (c.val / 64)) = 1#1 := by
      simp [IntOp.cmpi]
    rw [hb]
    show (((1#1).toNat : ℝ) : EReal) = 1
    simp
  · rw [if_neg e]
    have hn : (BitVec.ofNat 32 k.val == BitVec.ofNat 32 (c.val / 64)) = false := by
      refine beq_false_of_ne fun q => e ?_
      have q' := congrArg BitVec.toNat q
      rw [BitVec.toNat_ofNat, BitVec.toNat_ofNat, Nat.mod_eq_of_lt (by omega), Nat.mod_eq_of_lt (by omega)] at q'
      exact q'
    have hb : IntOp.cmpi CmpIPredicate.eq (BitVec.ofNat 32 k.val) (BitVec.ofNat 32 (c.val / 64)) = 0#1 :=
      congrArg BitVec.ofBool hn
    rw [hb]
    show (((0#1).toNat : ℝ) : EReal) = 0
    simp

variable (m : (ℓ : Loc nD τ sig) → Buf (Elt Ideal) ℓ)

/-- The one-hot columns as the region finds them. -/
theorem V_expand (c : Dev nD) : V m c main_v8 = expand := by
  unfold V
  simp only [hostOps0, hostOps0_1, hostOps0_2, List.flatten_cons, List.flatten_nil, List.append_nil, List.cons_append, List.nil_append]
  after_results
  rfl

/-- The gates as the region finds them. -/
theorem V_gates (c : Dev nD) : V m c main_v9 = shapeCast S32x1x512 (m ((c : Thread nD τ).loc main_arg0)) shapeCasts_S32x512_S32x1x512 := by
  unfold V
  simp only [hostOps0, hostOps0_1, hostOps0_2, List.flatten_cons, List.flatten_nil, List.append_nil, List.cons_append, List.nil_append]
  after_results
  rfl

/-- The rows as the region finds them. -/
theorem V_rows (c : Dev nD) : V m c main_v10 = shapeCast S32x1x1024 (m ((c : Thread nD τ).loc main_arg1)) shapeCasts_S32x1024_S32x1x1024 := by
  unfold V
  simp only [hostOps0, hostOps0_1, hostOps0_2, List.flatten_cons, List.flatten_nil, List.append_nil, List.cons_append, List.nil_append]
  after_results
  rfl

/-- The widths as the region finds them. -/
theorem V_widths (c : Dev nD) : V m c main_v11 = shapeCast S32x1x128 (m ((c : Thread nD τ).loc main_arg2)) shapeCasts_S32x128_S32x1x128 := by
  unfold V
  simp only [hostOps0, hostOps0_1, hostOps0_2, List.flatten_cons, List.flatten_nil, List.append_nil, List.cons_append, List.nil_append]
  after_results
  rfl

/-- The inputs as the region finds them. -/
theorem V_inputs (c : Dev nD) : V m c main_v12 = shapeCast S32x1x256 (m ((c : Thread nD τ).loc main_arg3)) shapeCasts_S32x256_S32x1x256 := by
  unfold V
  simp only [hostOps0, hostOps0_1, hostOps0_2, List.flatten_cons, List.flatten_nil, List.append_nil, List.cons_append, List.nil_append]
  after_results
  rfl

/-- Rows as slabs of one row, read at a sequence and a column. -/
theorem slab_apply {N : ℕ} (x : Vec Ideal ⟨2, ![32, N]⟩ .f32) (h : (⟨2, ![32, N]⟩ : Shape).ShapeCasts ⟨3, ![32, 1, N]⟩) (b : Fin 32) (c : Fin N) :
    shapeCast ⟨3, ![32, 1, N]⟩ x h (ix3 b 0 c) = x (ix2 b c) := by
  refine shapeCast_apply x h (ix3 b 0 c) (ix2 b c) ?_
  rw [Shape.rowMajor_val_two, Shape.rowMajor_val_three]
  show b.val * N + c.val = (b.val * 1 + 0) * N + c.val
  rw [Nat.mul_one, Nat.add_zero]

/-- Which block of its array each window is at, at each grid point: the two sequences' own, or always the same one. -/
theorem index_at : ∀ t : Fin grid0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = t.val ∧ win0_4.index t 1 = 0 ∧ win0_4.index t 2 = 0)
    ∧ (win0_5.index t 0 = t.val ∧ win0_5.index t 1 = 0 ∧ win0_5.index t 2 = 0 ∧ win0_5.index t 3 = 0)
    ∧ (win0_6.index t 0 = t.val ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0)
    ∧ (win0_16.index t 0 = t.val ∧ win0_16.index t 1 = 0 ∧ win0_16.index t 2 = 0)
    ∧ (win0_17.index t 0 = t.val ∧ win0_17.index t 1 = 0 ∧ win0_17.index t 2 = 0)
    ∧ (win0_18.index t 0 = t.val ∧ win0_18.index t 1 = 0 ∧ win0_18.index t 2 = 0)
    ∧ (win0_19.index t 0 = t.val ∧ win0_19.index t 1 = 0 ∧ win0_19.index t 2 = 0 ∧ win0_19.index t 3 = 0)
    ∧ (win0_20.index t 0 = t.val ∧ win0_20.index t 1 = 0 ∧ win0_20.index t 2 = 0) := by
  decide +kernel

/-- The sequence at place `o` of a point's two. -/
def seq (t : Fin grid0.N) (o : Fin 2) : Fin 32 := ⟨2 * t.val + o.val, by have : t.val < 16 := t.isLt; omega⟩

/-- The blocks staged at a point. -/
def blocks (c : Dev nD) (t : Fin grid0.N) : Blocks where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t

/-- The arguments as launched. -/
def launched (c : Dev nD) : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)

/-- Two indices of an array of four axes are equal when their coordinates are. -/
theorem eq4 {A D E G : ℕ} {x y : Shape.Idx ⟨4, ![A, D, E, G]⟩} (h0 : (x 0).val = (y 0).val) (h1 : (x 1).val = (y 1).val)
    (h2 : (x 2).val = (y 2).val) (h3 : (x 3).val = (y 3).val) : x = y := by
  funext a
  match a with
  | ⟨0, _⟩ => exact Fin.ext h0
  | ⟨1, _⟩ => exact Fin.ext h1
  | ⟨2, _⟩ => exact Fin.ext h2
  | ⟨3, _⟩ => exact Fin.ext h3

/-- The point's gates are its sequences'. -/
theorem stage0 (c : Dev nD) (t : Fin grid0.N) (o : Fin 2) (k : Fin 512) :
    (blocks m c t).x0 (ix3 o 0 k) = (launched m c).a0 (ix2 (seq t o) k) := by
  have e := (index_at t).1
  refine Eq.trans (congrArg (V m c main_v9) (eq3 (y := ix3 (seq t o) 0 k) ?_ ?_ ?_)) ((congrFun (V_gates m c) _).trans (slab_apply _ _ _ k))
  · show win0_0.index t 0 * 2 + 1 * o.val = 2 * t.val + o.val
    rw [e.1]; omega
  · show win0_0.index t 1 * 1 + 1 * 0 = 0
    rw [e.2.1]
  · show win0_0.index t 2 * 512 + 1 * k.val = k.val
    rw [e.2.2]; omega

/-- The point's rows are its sequences'. -/
theorem stage1 (c : Dev nD) (t : Fin grid0.N) (o : Fin 2) (k : Fin 1024) :
    (blocks m c t).x1 (ix3 o 0 k) = (launched m c).a1 (ix2 (seq t o) k) := by
  have e := (index_at t).2.1
  refine Eq.trans (congrArg (V m c main_v10) (eq3 (y := ix3 (seq t o) 0 k) ?_ ?_ ?_)) ((congrFun (V_rows m c) _).trans (slab_apply _ _ _ k))
  · show win0_1.index t 0 * 2 + 1 * o.val = 2 * t.val + o.val
    rw [e.1]; omega
  · show win0_1.index t 1 * 1 + 1 * 0 = 0
    rw [e.2.1]
  · show win0_1.index t 2 * 1024 + 1 * k.val = k.val
    rw [e.2.2]; omega

/-- The point's widths are its sequences'. -/
theorem stage2 (c : Dev nD) (t : Fin grid0.N) (o : Fin 2) (k : Fin 128) :
    (blocks m c t).x2 (ix3 o 0 k) = (launched m c).a2 (ix2 (seq t o) k) := by
  have e := (index_at t).2.2.1
  refine Eq.trans (congrArg (V m c main_v11) (eq3 (y := ix3 (seq t o) 0 k) ?_ ?_ ?_)) ((congrFun (V_widths m c) _).trans (slab_apply _ _ _ k))
  · show win0_2.index t 0 * 2 + 1 * o.val = 2 * t.val + o.val
    rw [e.1]; omega
  · show win0_2.index t 1 * 1 + 1 * 0 = 0
    rw [e.2.1]
  · show win0_2.index t 2 * 128 + 1 * k.val = k.val
    rw [e.2.2]; omega

/-- The point's inputs are its sequences'. -/
theorem stage3 (c : Dev nD) (t : Fin grid0.N) (o : Fin 2) (k : Fin 256) :
    (blocks m c t).x3 (ix3 o 0 k) = (launched m c).a3 (ix2 (seq t o) k) := by
  have e := (index_at t).2.2.2.1
  refine Eq.trans (congrArg (V m c main_v12) (eq3 (y := ix3 (seq t o) 0 k) ?_ ?_ ?_)) ((congrFun (V_inputs m c) _).trans (slab_apply _ _ _ k))
  · show win0_3.index t 0 * 2 + 1 * o.val = 2 * t.val + o.val
    rw [e.1]; omega
  · show win0_3.index t 1 * 1 + 1 * 0 = 0
    rw [e.2.1]
  · show win0_3.index t 2 * 256 + 1 * k.val = k.val
    rw [e.2.2]; omega

/-- The point's windows are its sequences'. -/
theorem stage4 (c : Dev nD) (t : Fin grid0.N) (o : Fin 2) (j : Fin 3) (k : Fin 1024) :
    (blocks m c t).x4 (ix3 o j k) = (launched m c).a4 (ix3 (seq t o) j k) := by
  have e := (index_at t).2.2.2.2.1
  refine Eq.trans (congrArg (V m c main_arg4) (eq3 (y := ix3 (seq t o) j k) ?_ ?_ ?_)) (congrFun (V_main_arg4 m c) _)
  · show win0_4.index t 0 * 2 + 1 * o.val = 2 * t.val + o.val
    rw [e.1]; omega
  · show win0_4.index t 1 * 3 + 1 * j.val = j.val
    rw [e.2.1]; omega
  · show win0_4.index t 2 * 1024 + 1 * k.val = k.val
    rw [e.2.2]; omega

/-- The point's states are its sequences'. -/
theorem stage5 (c : Dev nD) (t : Fin grid0.N) (o : Fin 2) (h : Fin 8) (p : Fin 64) (n : Fin 128) :
    (blocks m c t).x5 (ix4 o h p n) = (launched m c).a5 (ix4 (seq t o) h p n) := by
  have e := (index_at t).2.2.2.2.2.1
  refine Eq.trans (congrArg (V m c main_arg5) (eq4 (y := ix4 (seq t o) h p n) ?_ ?_ ?_ ?_)) (congrFun (V_main_arg5 m c) _)
  · show win0_5.index t 0 * 2 + 1 * o.val = 2 * t.val + o.val
    rw [e.1]; omega
  · show win0_5.index t 1 * 8 + 1 * h.val = h.val
    rw [e.2.1]; omega
  · show win0_5.index t 2 * 64 + 1 * p.val = p.val
    rw [e.2.2.1]; omega
  · show win0_5.index t 3 * 128 + 1 * n.val = n.val
    rw [e.2.2.2]; omega

/-- The point's windows are its sequences'. -/
theorem stage6 (c : Dev nD) (t : Fin grid0.N) (o : Fin 2) (j : Fin 15) (k : Fin 256) :
    (blocks m c t).x6 (ix3 o j k) = (launched m c).a6 (ix3 (seq t o) j k) := by
  have e := (index_at t).2.2.2.2.2.2.1
  refine Eq.trans (congrArg (V m c main_arg6) (eq3 (y := ix3 (seq t o) j k) ?_ ?_ ?_)) (congrFun (V_main_arg6 m c) _)
  · show win0_6.index t 0 * 2 + 1 * o.val = 2 * t.val + o.val
    rw [e.1]; omega
  · show win0_6.index t 1 * 15 + 1 * j.val = j.val
    rw [e.2.1]; omega
  · show win0_6.index t 2 * 256 + 1 * k.val = k.val
    rw [e.2.2]; omega

/-- Argument 7 is staged whole at every point. -/
theorem stage7 (c : Dev nD) (t : Fin grid0.N) (j : Fin 4) (k : Fin 1024) :
    (blocks m c t).x7 (ix2 j k) = (launched m c).a7 (ix2 j k) := by
  have e := (index_at t).2.2.2.2.2.2.2.1
  refine Eq.trans (congrArg (V m c main_arg7) (eq2 (y := ix2 j k) ?_ ?_)) (congrFun (V_main_arg7 m c) _)
  · show win0_7.index t 0 * 4 + 1 * j.val = j.val
    rw [e.1]; omega
  · show win0_7.index t 1 * 1024 + 1 * k.val = k.val
    rw [e.2]; omega

/-- Argument 8 is staged whole at every point. -/
theorem stage8 (c : Dev nD) (t : Fin grid0.N) (j : Fin 1) (k : Fin 1024) :
    (blocks m c t).x8 (ix2 j k) = (launched m c).a8 (ix2 j k) := by
  have e := (index_at t).2.2.2.2.2.2.2.2.1
  refine Eq.trans (congrArg (V m c main_arg8) (eq2 (y := ix2 j k) ?_ ?_)) (congrFun (V_main_arg8 m c) _)
  · show win0_8.index t 0 * 1 + 1 * j.val = j.val
    rw [e.1]; omega
  · show win0_8.index t 1 * 1024 + 1 * k.val = k.val
    rw [e.2]; omega

/-- Argument 9 is staged whole at every point. -/
theorem stage9 (c : Dev nD) (t : Fin grid0.N) (j : Fin 1) (k : Fin 128) :
    (blocks m c t).x9 (ix2 j k) = (launched m c).a9 (ix2 j k) := by
  have e := (index_at t).2.2.2.2.2.2.2.2.2.1
  refine Eq.trans (congrArg (V m c main_arg9) (eq2 (y := ix2 j k) ?_ ?_)) (congrFun (V_main_arg9 m c) _)
  · show win0_9.index t 0 * 1 + 1 * j.val = j.val
    rw [e.1]; omega
  · show win0_9.index t 1 * 128 + 1 * k.val = k.val
    rw [e.2]; omega

/-- Argument 10 is staged whole at every point. -/
theorem stage10 (c : Dev nD) (t : Fin grid0.N) (j : Fin 1) (k : Fin 128) :
    (blocks m c t).x10 (ix2 j k) = (launched m c).a10 (ix2 j k) := by
  have e := (index_at t).2.2.2.2.2.2.2.2.2.2.1
  refine Eq.trans (congrArg (V m c main_arg10) (eq2 (y := ix2 j k) ?_ ?_)) (congrFun (V_main_arg10 m c) _)
  · show win0_10.index t 0 * 1 + 1 * j.val = j.val
    rw [e.1]; omega
  · show win0_10.index t 1 * 128 + 1 * k.val = k.val
    rw [e.2]; omega

/-- Argument 11 is staged whole at every point. -/
theorem stage11 (c : Dev nD) (t : Fin grid0.N) (j : Fin 1) (k : Fin 512) :
    (blocks m c t).x11 (ix2 j k) = (launched m c).a11 (ix2 j k) := by
  have e := (index_at t).2.2.2.2.2.2.2.2.2.2.2.1
  refine Eq.trans (congrArg (V m c main_arg11) (eq2 (y := ix2 j k) ?_ ?_)) (congrFun (V_main_arg11 m c) _)
  · show win0_11.index t 0 * 1 + 1 * j.val = j.val
    rw [e.1]; omega
  · show win0_11.index t 1 * 512 + 1 * k.val = k.val
    rw [e.2]; omega

/-- Argument 12 is staged whole at every point. -/
theorem stage12 (c : Dev nD) (t : Fin grid0.N) (j : Fin 1) (k : Fin 512) :
    (blocks m c t).x12 (ix2 j k) = (launched m c).a12 (ix2 j k) := by
  have e := (index_at t).2.2.2.2.2.2.2.2.2.2.2.2.1
  refine Eq.trans (congrArg (V m c main_arg12) (eq2 (y := ix2 j k) ?_ ?_)) (congrFun (V_main_arg12 m c) _)
  · show win0_12.index t 0 * 1 + 1 * j.val = j.val
    rw [e.1]; omega
  · show win0_12.index t 1 * 512 + 1 * k.val = k.val
    rw [e.2]; omega

/-- Argument 13 is staged whole at every point. -/
theorem stage13 (c : Dev nD) (t : Fin grid0.N) (j : Fin 256) (k : Fin 256) :
    (blocks m c t).x13 (ix2 j k) = (launched m c).a13 (ix2 j k) := by
  have e := (index_at t).2.2.2.2.2.2.2.2.2.2.2.2.2.1
  refine Eq.trans (congrArg (V m c main_arg13) (eq2 (y := ix2 j k) ?_ ?_)) (congrFun (V_main_arg13 m c) _)
  · show win0_13.index t 0 * 256 + 1 * j.val = j.val
    rw [e.1]; omega
  · show win0_13.index t 1 * 256 + 1 * k.val = k.val
    rw [e.2]; omega

/-- Argument 14 is staged whole at every point. -/
theorem stage14 (c : Dev nD) (t : Fin grid0.N) (j : Fin 1) (k : Fin 256) :
    (blocks m c t).x14 (ix2 j k) = (launched m c).a14 (ix2 j k) := by
  have e := (index_at t).2.2.2.2.2.2.2.2.2.2.2.2.2.2.1
  refine Eq.trans (congrArg (V m c main_arg14) (eq2 (y := ix2 j k) ?_ ?_)) (congrFun (V_main_arg14 m c) _)
  · show win0_14.index t 0 * 1 + 1 * j.val = j.val
    rw [e.1]; omega
  · show win0_14.index t 1 * 256 + 1 * k.val = k.val
    rw [e.2]; omega

/-- The one-hot columns are staged whole at every point. -/
theorem stage15 (c : Dev nD) (t : Fin grid0.N) (j : Fin 128) (k : Fin 512) :
    (blocks m c t).x15 (ix2 j k) = if j.val = k.val / 64 then 1 else 0 := by
  have e := (index_at t).2.2.2.2.2.2.2.2.2.2.2.2.2.2.2.1
  refine Eq.trans (congrArg (V m c main_v8) (eq2 (y := ix2 j k) ?_ ?_)) ((congrFun (V_expand m c) _).trans (expand_apply j k))
  · show win0_15.index t 0 * 128 + 1 * j.val = j.val
    rw [e.1]; omega
  · show win0_15.index t 1 * 512 + 1 * k.val = k.val
    rw [e.2]; omega

/-- What a sequence of a point reads is what it reads of the arguments. -/
theorem blocks_step (c : Dev nD) (t : Fin grid0.N) (o : Fin 2) : (blocks m c t).step o = (launched m c).step (seq t o) := by
  unfold Blocks.step Args.step
  rw [Step.mk.injEq]
  exact ⟨funext fun k => stage1 m c t o k, funext fun j => funext fun k => stage4 m c t o j k, funext fun k => stage2 m c t o k,
    funext fun k => stage0 m c t o k, funext fun k => stage3 m c t o k,
    funext fun h => funext fun p => funext fun n => stage5 m c t o h p n, funext fun j => funext fun k => stage6 m c t o j k,
    funext fun j => funext fun k => stage7 m c t j k, funext fun k => stage8 m c t 0 k, funext fun k => stage9 m c t 0 k,
    funext fun k => stage10 m c t 0 k, funext fun k => stage11 m c t 0 k, funext fun k => stage12 m c t 0 k,
    funext fun j => funext fun k => stage13 m c t j k, funext fun k => stage14 m c t 0 k⟩

/-- The point that handles sequence `b`. -/
def pt (b : Fin 32) : Fin grid0.N := ⟨b.val / 2, show b.val / 2 < 16 by omega⟩

/-- The sequence's place among its point's two. -/
def place (b : Fin 32) : Fin 2 := ⟨b.val % 2, by omega⟩

theorem seq_eq (b : Fin 32) : seq (pt b) (place b) = b := Fin.ext (show 2 * (b.val / 2) + b.val % 2 = b.val by omega)

/-- An array whose block at each point holds, sequence by sequence, what `G` does, is `G`. -/
theorem whole_of_blocks {R N : ℕ} (A G : Shape.Idx ⟨3, ![32, R, N]⟩ → EReal)
    (f : Fin grid0.N → Shape.Idx ⟨3, ![2, R, N]⟩ → Shape.Idx ⟨3, ![32, R, N]⟩) (B : Fin grid0.N → Shape.Idx ⟨3, ![2, R, N]⟩ → EReal)
    (hb : ∀ t i, A (f t i) = B t i) (h0 : ∀ t i, (f t i 0).val = t.val * 2 + 1 * (i 0).val)
    (h1 : ∀ t i, (f t i 1).val = 0 * R + 1 * (i 1).val) (h2 : ∀ t i, (f t i 2).val = 0 * N + 1 * (i 2).val)
    (hB : ∀ t (o : Fin 2) (j : Fin R) (k : Fin N), B t (ix3 o j k) = G (ix3 (seq t o) j k)) : A = G := by
  funext i
  have hi : i = ix3 (i 0 : Fin 32) (i 1 : Fin R) (i 2 : Fin N) := eq3 rfl rfl rfl
  have l0 : (i 0).val < 32 := (i 0).isLt
  have e : i = f (pt (i 0)) (ix3 (place (i 0)) (i 1 : Fin R) (i 2 : Fin N)) := by
    refine eq3 (Eq.symm ((h0 _ _).trans ?_)) (Eq.symm ((h1 _ _).trans ?_)) (Eq.symm ((h2 _ _).trans ?_))
    · show (i 0).val / 2 * 2 + 1 * ((i 0).val % 2) = (i 0).val
      omega
    · show 0 * R + 1 * (i 1).val = (i 1).val
      omega
    · show 0 * N + 1 * (i 2).val = (i 2).val
      omega
  refine (congrArg A e).trans ((hb _ _).trans ((hB _ _ _ _).trans (congrArg G (Eq.trans ?_ hi.symm))))
  exact congrArg (fun s : Fin 32 => ix3 s (i 1 : Fin R) (i 2 : Fin N)) (seq_eq (i 0))

/-- An array of states whose block at each point holds, sequence by sequence, what `G` does, is `G`. -/
theorem states_of_blocks (A G : S32x8x64x128.Idx → EReal)
    (f : Fin grid0.N → S2x8x64x128.Idx → S32x8x64x128.Idx) (B : Fin grid0.N → S2x8x64x128.Idx → EReal)
    (hb : ∀ t i, A (f t i) = B t i) (h0 : ∀ t i, (f t i 0).val = t.val * 2 + 1 * (i 0).val)
    (h1 : ∀ t i, (f t i 1).val = 0 * 8 + 1 * (i 1).val) (h2 : ∀ t i, (f t i 2).val = 0 * 64 + 1 * (i 2).val)
    (h3 : ∀ t i, (f t i 3).val = 0 * 128 + 1 * (i 3).val)
    (hB : ∀ t (o : Fin 2) (h : Fin 8) (p : Fin 64) (n : Fin 128), B t (ix4 o h p n) = G (ix4 (seq t o) h p n)) : A = G := by
  funext i
  have hi : i = ix4 (i 0 : Fin 32) (i 1 : Fin 8) (i 2 : Fin 64) (i 3 : Fin 128) := eq4 rfl rfl rfl rfl
  have l0 : (i 0).val < 32 := (i 0).isLt
  have e : i = f (pt (i 0)) (ix4 (place (i 0)) (i 1 : Fin 8) (i 2 : Fin 64) (i 3 : Fin 128)) := by
    refine eq4 (Eq.symm ((h0 _ _).trans ?_)) (Eq.symm ((h1 _ _).trans ?_)) (Eq.symm ((h2 _ _).trans ?_)) (Eq.symm ((h3 _ _).trans ?_))
    · show (i 0).val / 2 * 2 + 1 * ((i 0).val % 2) = (i 0).val
      omega
    · show 0 * 8 + 1 * (i 1).val = (i 1).val
      omega
    · show 0 * 64 + 1 * (i 2).val = (i 2).val
      omega
    · show 0 * 128 + 1 * (i 3).val = (i 3).val
      omega
  refine (congrArg A e).trans ((hb _ _).trans ((hB _ _ _ _ _).trans (congrArg G (Eq.trans ?_ hi.symm))))
  exact congrArg (fun s : Fin 32 => ix4 s (i 1 : Fin 8) (i 2 : Fin 64) (i 3 : Fin 128)) (seq_eq (i 0))

/-- What a point leaves in the gated rows. -/
theorem point16 (c : Dev nD) (t : Fin grid0.N) : out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = normed (blocks m c t) :=
  left16 _ _ _ _ _ _ _ _ _ _ _ _ _ _ _ _ (stage15 m c t)

/-- What a point leaves in the pooled rows. -/
theorem point17 (c : Dev nD) (t : Fin grid0.N) : out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = pooled (blocks m c t) :=
  left17 _ _ _ _ _ _ _ _ _ _ _ _ _ _ _ _

/-- What a point leaves in the convolution windows. -/
theorem point18 (c : Dev nD) (t : Fin grid0.N) : out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = kept (blocks m c t) :=
  left18 _ _ _ _ _ _ _ _ _ _ _ _ _ _ _ _

/-- What a point leaves in the new states. -/
theorem point19 (c : Dev nD) (t : Fin grid0.N) : out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = states (blocks m c t) :=
  left19 _ _ _ _ _ _ _ _ _ _ _ _ _ _ _ _ (stage15 m c t)

/-- What a point leaves in the pooling windows. -/
theorem point20 (c : Dev nD) (t : Fin grid0.N) : out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = held (blocks m c t) :=
  left20 _ _ _ _ _ _ _ _ _ _ _ _ _ _ _ _

/-- The gated rows of all sequences. -/
theorem array16 (c : Dev nD) : (dats m 0 c).arrAt 16 cfg0.N = (launched m c).normed := by
  refine whole_of_blocks _ _ (fun t => ((cfg0.win 16).blk t).view.emb) (fun t => (dats m 0 c).flushed 16 t)
    (fun t i => congrFun (Value.blocks16 m c t (flush0_16 t)) i) (fun t i => ?_) (fun t i => ?_) (fun t i => ?_) fun t o j k => ?_
  · show win0_16.index t 0 * 2 + 1 * (i 0).val = _
    rw [(index_at t).2.2.2.2.2.2.2.2.2.2.2.2.2.2.2.2.1.1]
  · show win0_16.index t 1 * 1 + 1 * (i 1).val = _
    rw [(index_at t).2.2.2.2.2.2.2.2.2.2.2.2.2.2.2.2.1.2.1]
  · show win0_16.index t 2 * 512 + 1 * (i 2).val = _
    rw [(index_at t).2.2.2.2.2.2.2.2.2.2.2.2.2.2.2.2.1.2.2]
  · have h := (Value.flushed16_A m c t).trans (congrArg ((cfg0.win 16).cut (grid0.coords t)) (point16 m c t))
    refine (congrFun h (ix3 o j k)).trans ?_
    exact congrArg (fun q => Step.norm q k) (blocks_step m c t o)

/-- The pooled rows of all sequences. -/
theorem array17 (c : Dev nD) : (dats m 0 c).arrAt 17 cfg0.N = (launched m c).pooled := by
  refine whole_of_blocks _ _ (fun t => ((cfg0.win 17).blk t).view.emb) (fun t => (dats m 0 c).flushed 17 t)
    (fun t i => congrFun (Value.blocks17 m c t (flush0_17 t)) i) (fun t i => ?_) (fun t i => ?_) (fun t i => ?_) fun t o j k => ?_
  · show win0_17.index t 0 * 2 + 1 * (i 0).val = _
    rw [(index_at t).2.2.2.2.2.2.2.2.2.2.2.2.2.2.2.2.2.1.1]
  · show win0_17.index t 1 * 1 + 1 * (i 1).val = _
    rw [(index_at t).2.2.2.2.2.2.2.2.2.2.2.2.2.2.2.2.2.1.2.1]
  · show win0_17.index t 2 * 256 + 1 * (i 2).val = _
    rw [(index_at t).2.2.2.2.2.2.2.2.2.2.2.2.2.2.2.2.2.1.2.2]
  · have h := (Value.flushed17_A m c t).trans (congrArg ((cfg0.win 17).cut (grid0.coords t)) (point17 m c t))
    refine (congrFun h (ix3 o j k)).trans ?_
    exact congrArg (fun q => Step.pool q k) (blocks_step m c t o)

/-- The convolution windows of all sequences. -/
theorem array18 (c : Dev nD) : (dats m 0 c).arrAt 18 cfg0.N = (launched m c).kept := by
  refine whole_of_blocks _ _ (fun t => ((cfg0.win 18).blk t).view.emb) (fun t => (dats m 0 c).flushed 18 t)
    (fun t i => congrFun (Value.blocks18 m c t (flush0_18 t)) i) (fun t i => ?_) (fun t i => ?_) (fun t i => ?_) fun t o j k => ?_
  · show win0_18.index t 0 * 2 + 1 * (i 0).val = _
    rw [(index_at t).2.2.2.2.2.2.2.2.2.2.2.2.2.2.2.2.2.2.1.1]
  · show win0_18.index t 1 * 3 + 1 * (i 1).val = _
    rw [(index_at t).2.2.2.2.2.2.2.2.2.2.2.2.2.2.2.2.2.2.1.2.1]
  · show win0_18.index t 2 * 1024 + 1 * (i 2).val = _
    rw [(index_at t).2.2.2.2.2.2.2.2.2.2.2.2.2.2.2.2.2.2.1.2.2]
  · have h := (Value.flushed18_A m c t).trans (congrArg ((cfg0.win 18).cut (grid0.coords t)) (point18 m c t))
    refine (congrFun h (ix3 o j k)).trans ?_
    exact congrArg (fun q => Step.keep q j k) (blocks_step m c t o)

/-- The pooling windows of all sequences. -/
theorem array20 (c : Dev nD) : (dats m 0 c).arrAt 20 cfg0.N = (launched m c).held := by
  refine whole_of_blocks _ _ (fun t => ((cfg0.win 20).blk t).view.emb) (fun t => (dats m 0 c).flushed 20 t)
    (fun t i => congrFun (Value.blocks20 m c t (flush0_20 t)) i) (fun t i => ?_) (fun t i => ?_) (fun t i => ?_) fun t o j k => ?_
  · show win0_20.index t 0 * 2 + 1 * (i 0).val = _
    rw [(index_at t).2.2.2.2.2.2.2.2.2.2.2.2.2.2.2.2.2.2.2.2.1]
  · show win0_20.index t 1 * 15 + 1 * (i 1).val = _
    rw [(index_at t).2.2.2.2.2.2.2.2.2.2.2.2.2.2.2.2.2.2.2.2.2.1]
  · show win0_20.index t 2 * 256 + 1 * (i 2).val = _
    rw [(index_at t).2.2.2.2.2.2.2.2.2.2.2.2.2.2.2.2.2.2.2.2.2.2]
  · have h := (Value.flushed20_A m c t).trans (congrArg ((cfg0.win 20).cut (grid0.coords t)) (point20 m c t))
    refine (congrFun h (ix3 o j k)).trans ?_
    exact congrArg (fun q => Step.hold q j k) (blocks_step m c t o)

/-- The new states of all sequences. -/
theorem array19 (c : Dev nD) : (dats m 0 c).arrAt 19 cfg0.N = (launched m c).states := by
  refine states_of_blocks _ _ (fun t => ((cfg0.win 19).blk t).view.emb) (fun t => (dats m 0 c).flushed 19 t)
    (fun t i => congrFun (Value.blocks19 m c t (flush0_19 t)) i) (fun t i => ?_) (fun t i => ?_) (fun t i => ?_) (fun t i => ?_)
    fun t o a p n => ?_
  · show win0_19.index t 0 * 2 + 1 * (i 0).val = _
    rw [(index_at t).2.2.2.2.2.2.2.2.2.2.2.2.2.2.2.2.2.2.2.1.1]
  · show win0_19.index t 1 * 8 + 1 * (i 1).val = _
    rw [(index_at t).2.2.2.2.2.2.2.2.2.2.2.2.2.2.2.2.2.2.2.1.2.1]
  · show win0_19.index t 2 * 64 + 1 * (i 2).val = _
    rw [(index_at t).2.2.2.2.2.2.2.2.2.2.2.2.2.2.2.2.2.2.2.1.2.2.1]
  · show win0_19.index t 3 * 128 + 1 * (i 3).val = _
    rw [(index_at t).2.2.2.2.2.2.2.2.2.2.2.2.2.2.2.2.2.2.2.1.2.2.2]
  · have h := (Value.flushed19_A m c t).trans (congrArg ((cfg0.win 19).cut (grid0.coords t)) (point19 m c t))
    refine (congrFun h (ix4 o a p n)).trans ?_
    exact congrArg (fun q => Step.new q a p n) (blocks_step m c t o)

end Cert.Sample

end
-- ==== Proof.SampleRef.lean ====
/- The reference's decode step, read entry by entry: every result is the step's of its sequence. -/
module

public import proofs.«01_k».proof.Proof.SampleArray
public import proofs.«01_k».proof.Proof.Gen.Reference4Ideal.Read

@[expose] public section

noncomputable section

namespace Cert.Sample

open Idealize.ShloMosaic Idealize.ShloMosaic.TcCoe Cert.Reference4Ideal Cert.Reference4Ideal.Gen
open Cert.Reference4Ideal.Read

/-- A sum over the entries from place `o` on is a sum over the entries after the first `o`. -/
theorem sum_from (o n : ℕ) (f : Fin (o + n) → EReal) : ∑ j, (if o ≤ j.val then f j else 0) = ∑ x : Fin n, f (Fin.natAdd o x) := by
  rw [Fin.sum_univ_add, Finset.sum_eq_zero fun i _ => if_neg (show ¬ o ≤ (Fin.castAdd n i).val from Nat.not_le.2 i.isLt), zero_add]
  exact Finset.sum_congr rfl fun i _ => if_pos (show o ≤ o + i.val by omega)

/-- The last `n + 1` rows of the pooling window with its new row, summed. -/
theorem Step.window_eq (q : Step) (o n : ℕ) (hn : o + n = 15) (c : Fin 256) :
    (∑ x : Fin (n + 1), if h : o + x.val < 15 then q.pl ⟨o + x.val, h⟩ c else q.u c) = q.window o c := by
  have hs := sum_from o n fun j => q.pl ⟨j.val, by omega⟩ c
  have he : (∑ j : Fin 15, if o ≤ j.val then q.pl j c else 0) = ∑ j : Fin (o + n), if o ≤ j.val then q.pl ⟨j.val, by omega⟩ c else 0 :=
    (Fintype.sum_equiv (finCongr hn) _ _ fun j => rfl).symm
  rw [Fin.sum_univ_castSucc, dif_neg (show ¬ o + (Fin.last n).val < 15 from by rw [Fin.val_last]; omega), add_comm]
  refine congrArg _ (Eq.trans ?_ (hs.symm.trans he.symm))
  exact Finset.sum_congr rfl fun x _ => dif_pos (show o + x.val < 15 by omega)

variable (A : Args)

/-- The convolution window with the new row, read at a row and a column. -/
theorem ref_ext (b : Fin 32) (j : Fin 4) (c : Fin 1024) :
    val_main_v1 A.a1 A.a4 (ix3 b j c) = if h : j.val < 3 then A.a4 (ix3 b ⟨j.val, h⟩ c) else A.a1 (ix2 b c) := by
  pointwise [val_main_v1, val_main_v0]

/-- The pooling window with the new row, read at a row and a column. -/
theorem ref_ext2 (b : Fin 32) (j : Fin 16) (c : Fin 256) :
    val_main_v91 A.a3 A.a6 (ix3 b j c) = if h : j.val < 15 then A.a6 (ix3 b ⟨j.val, h⟩ c) else A.a3 (ix2 b c) := by
  pointwise [val_main_v91, val_main_v90]

/-- The convolved row before its activation. -/
theorem ref_conv (b : Fin 32) (c : Fin 1024) : val_main_v34 A.a1 A.a4 A.a7 A.a8 (ix2 b c) = (A.step b).conv c := by
  have h := ref_ext A b
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34]
  simp only [h]
  show A.a8 (ix2 0 c) + A.a4 (ix3 b 0 c) * A.a7 (ix2 0 c) + A.a4 (ix3 b 1 c) * A.a7 (ix2 1 c) + A.a4 (ix3 b 2 c) * A.a7 (ix2 2 c)
      + A.a1 (ix2 b c) * A.a7 (ix2 3 c)
    = A.a8 (ix2 0 c) + A.a1 (ix2 b c) * A.a7 (ix2 3 c) + A.a4 (ix3 b 0 c) * A.a7 (ix2 0 c) + A.a4 (ix3 b 1 c) * A.a7 (ix2 1 c)
      + A.a4 (ix3 b 2 c) * A.a7 (ix2 2 c)
  rw [add_right_comm _ _ (A.a1 (ix2 b c) * A.a7 (ix2 3 c)), add_right_comm _ _ (A.a1 (ix2 b c) * A.a7 (ix2 3 c)),
    add_right_comm _ _ (A.a1 (ix2 b c) * A.a7 (ix2 3 c))]

/-- The convolved row. -/
theorem ref_mix (b : Fin 32) (c : Fin 1024) : val_main_v35 A.a1 A.a4 A.a7 A.a8 (ix2 b c) = (A.step b).mix c := by
  have h := ref_conv A b
  pointwise [val_main_v35, val_main_call0_v0, val_main_call0_v1, val_main_call0_v2, val_main_call0_v3, val_main_call0_v4, val_main_call0_v5, val_main_call0_cst, val_main_call0_cst_0]
  simp only [h]
  rfl

/-- The step width of a head. -/
theorem ref_width (b : Fin 32) (h : Fin 8) : val_main_v50 A.a2 A.a9 (ix2 b h) = (A.step b).width ⟨h.val, by omega⟩ := by
  pointwise [val_main_v50, val_main_v49, val_main_v48, val_main_v47, val_main_v46, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_cst]
  unfold Step.width
  rw [zero_sub]
  exact if_neg fun e => e rfl

/-- The new state. -/
theorem ref_new (b : Fin 32) (h : Fin 8) (p : Fin 64) (n : Fin 128) :
    val_main_v66 A.a1 A.a2 A.a4 A.a5 A.a7 A.a8 A.a9 A.a10 (ix4 b h p n) = (A.step b).new h p n := by
  have hm := ref_mix A b
  have hw := ref_width A b
  pointwise [val_main_v51, val_main_v52, val_main_v53, val_main_v54, val_main_v55, val_main_v56, val_main_v57, val_main_v58, val_main_v59, val_main_v60, val_main_v61, val_main_v62, val_main_v63, val_main_v64, val_main_v65, val_main_v66, val_main_v36, val_main_v37, val_main_v39, val_main_v40, val_main_v41, val_main_v42]
  simp only [hm, hw]
  have e0 : (⟨h.val * 64 + p.val, by omega⟩ : Fin 1024) = ⟨64 * h.val + p.val, by omega⟩ :=
    Fin.ext (show h.val * 64 + p.val = 64 * h.val + p.val by omega)
  have e1 : (⟨512 + (h.val / 4 * 128 + n.val), by omega⟩ : Fin 1024) = ⟨512 + 128 * (h.val / 4) + n.val, by omega⟩ :=
    Fin.ext (show 512 + (h.val / 4 * 128 + n.val) = 512 + 128 * (h.val / 4) + n.val by omega)
  rw [e0, e1]
  rfl

/-- What the new state gives, with the input's own share. -/
theorem ref_out (b : Fin 32) (c : Fin 512) :
    val_main_v71 A.a1 A.a2 A.a4 A.a5 A.a7 A.a8 A.a9 A.a10 A.a11 (ix2 b c) = (A.step b).out c := by
  have hm := ref_mix A b
  have hn := ref_new A b
  pointwise [val_main_v71, val_main_v70, val_main_v69, val_main_v68, val_main_v67, val_main_v36, val_main_v38, val_main_v43, val_main_v44, val_main_v45]
  simp only [hm, hn]
  have e : ∀ n : Fin 128, (⟨768 + (c.val / 64 / 4 * 128 + n.val), by omega⟩ : Fin 1024) = ⟨768 + 128 * (c.val / 256) + n.val, by omega⟩ :=
    fun n => Fin.ext (show 768 + (c.val / 64 / 4 * 128 + n.val) = 768 + 128 * (c.val / 256) + n.val by omega)
  simp only [e]
  rfl

/-- The gated row. -/
theorem ref_gate (b : Fin 32) (c : Fin 512) :
    val_main_v73 A.a0 A.a1 A.a2 A.a4 A.a5 A.a7 A.a8 A.a9 A.a10 A.a11 (ix2 b c) = (A.step b).gate c := by
  have h := ref_out A b
  pointwise [val_main_v73, val_main_v72, val_main_call2_v0, val_main_call2_v1, val_main_call2_v2, val_main_call2_v3, val_main_call2_v4, val_main_call2_v5, val_main_call2_cst, val_main_call2_cst_0]
  simp only [h]
  rfl

/-- The gated row over the root of its group's mean square, times the gain. -/
theorem ref_norm (b : Fin 32) (c : Fin 512) :
    val_main_v89 A.a0 A.a1 A.a2 A.a4 A.a5 A.a7 A.a8 A.a9 A.a10 A.a11 A.a12 (ix2 b c) = (A.step b).norm c := by
  have h := ref_gate A b
  pointwise [val_main_v74, val_main_v75, val_main_v76, val_main_v77, val_main_v78, val_main_v79, val_main_v80, val_main_v81, val_main_v82, val_main_v83, val_main_v84, val_main_v85, val_main_v86, val_main_v87, val_main_v88, val_main_v89, val_main_cst, val_main_cst_0, val_main_cst_1]
  simp only [h]
  have e : ∀ k : Fin 256, (⟨c.val / 256 * 256 + k.val, by omega⟩ : Fin 512) = ⟨256 * (c.val / 256) + k.val, by omega⟩ :=
    fun k => Fin.ext (show c.val / 256 * 256 + k.val = 256 * (c.val / 256) + k.val by omega)
  simp only [e]
  rfl

/-- The means of the last 2 rows. -/
theorem ref_mean2 (b : Fin 32) (k : Fin 64) :
    val_main_v95 A.a3 A.a6 (ix2 b k) = Ideal.div ((A.step b).window 14 ⟨k.val, by omega⟩) (Ideal.ofBits .f32 0x40000000#32) := by
  have h := ref_ext2 A b
  rw [← (A.step b).window_eq 14 1 rfl]
  pointwise [val_main_v92, val_main_v93, val_main_v94, val_main_v95, val_main_cst_2, val_main_cst_3]
  simp only [h]
  rfl

/-- The means of the last 4 rows. -/
theorem ref_mean4 (b : Fin 32) (k : Fin 64) :
    val_main_v99 A.a3 A.a6 (ix2 b k) = Ideal.div ((A.step b).window 12 ⟨64 + k.val, by omega⟩) (Ideal.ofBits .f32 0x40800000#32) := by
  have h := ref_ext2 A b
  rw [← (A.step b).window_eq 12 3 rfl]
  pointwise [val_main_v96, val_main_v97, val_main_v98, val_main_v99, val_main_cst_4, val_main_cst_5]
  simp only [h]
  rfl

/-- The means of the last 8 rows. -/
theorem ref_mean8 (b : Fin 32) (k : Fin 64) :
    val_main_v103 A.a3 A.a6 (ix2 b k) = Ideal.div ((A.step b).window 8 ⟨128 + k.val, by omega⟩) (Ideal.ofBits .f32 0x41000000#32) := by
  have h := ref_ext2 A b
  rw [← (A.step b).window_eq 8 7 rfl]
  pointwise [val_main_v100, val_main_v101, val_main_v102, val_main_v103, val_main_cst_6, val_main_cst_7]
  simp only [h]
  rfl

/-- The means of the last 16 rows. -/
theorem ref_mean16 (b : Fin 32) (k : Fin 64) :
    val_main_v107 A.a3 A.a6 (ix2 b k) = Ideal.div ((A.step b).window 0 ⟨192 + k.val, by omega⟩) (Ideal.ofBits .f32 0x41800000#32) := by
  have h := ref_ext2 A b
  have w := (A.step b).window_eq 0 15 rfl ⟨192 + k.val, by omega⟩
  simp only [Nat.zero_add] at w
  pointwise [val_main_v104, val_main_v105, val_main_v106, val_main_v107, val_main_cst_8, val_main_cst_9]
  simp only [h]
  exact congrArg (fun s => Ideal.div s (Ideal.ofBits .f32 0x41800000#32)) w

/-- The means, side by side. -/
theorem ref_mean (b : Fin 32) (c : Fin 256) : val_main_v108 A.a3 A.a6 (ix2 b c) = (A.step b).mean c := by
  have g2 := ref_mean2 A b
  have g4 := ref_mean4 A b
  have g8 := ref_mean8 A b
  have g16 := ref_mean16 A b
  pointwise [val_main_v108]
  simp only [g2, g4, g8, g16]
  unfold Step.mean
  by_cases h1 : c.val < 64
  · rw [dif_pos h1, if_pos h1]
  rw [dif_neg h1, if_neg h1]
  by_cases h2 : c.val < 128
  · have e : (⟨64 + (c.val - 64), by omega⟩ : Fin 256) = c := Fin.ext (show 64 + (c.val - 64) = c.val by omega)
    rw [dif_pos (show c.val - 64 < 64 by omega), if_pos h2, e]
  rw [dif_neg (show ¬ c.val - 64 < 64 by omega), if_neg h2]
  by_cases h3 : c.val < 192
  · have e : (⟨128 + (c.val - 64 - 64), by omega⟩ : Fin 256) = c := Fin.ext (show 128 + (c.val - 64 - 64) = c.val by omega)
    rw [dif_pos (show c.val - 64 - 64 < 64 by omega), if_pos h3, e]
  · have e : (⟨192 + (c.val - 64 - 64 - 64), by omega⟩ : Fin 256) = c :=
      Fin.ext (show 192 + (c.val - 64 - 64 - 64) = c.val by omega)
    rw [dif_neg (show ¬ c.val - 64 - 64 < 64 by omega), if_neg h3, e]

/-- The pooled row. -/
theorem ref_pool (b : Fin 32) (c : Fin 256) :
    val_main_v113 A.a3 A.a6 A.a13 A.a14 (ix2 b c) = (A.step b).pool c := by
  have h := ref_mean A b
  pointwise [val_main_v109, val_main_v110, val_main_v111, val_main_v112, val_main_v113]
  simp only [h]
  rfl

/-- The reference's first result. -/
theorem ref114 : val_main_v114 A.a0 A.a1 A.a2 A.a4 A.a5 A.a7 A.a8 A.a9 A.a10 A.a11 A.a12 = A.normed := by
  funext y
  rw [val_main_v114_apply, show idx_main_v114 y = ix2 (y 0 : Fin 32) (y 2 : Fin 512) from eq2 rfl rfl]
  exact ref_norm A (y 0) (y 2)

/-- The reference's second result. -/
theorem ref115 : val_main_v115 A.a3 A.a6 A.a13 A.a14 = A.pooled := by
  funext y
  rw [val_main_v115_apply, show idx_main_v115 y = ix2 (y 0 : Fin 32) (y 2 : Fin 256) from eq2 rfl rfl]
  exact ref_pool A (y 0) (y 2)

/-- The reference's third result. -/
theorem ref116 : val_main_v116 A.a1 A.a4 = A.kept := by
  funext y
  rw [val_main_v116_apply]
  have l1 : (y 1).val < 3 := (y 1).isLt
  refine (congrArg (val_main_v1 A.a1 A.a4) (eq3 (x := idx_main_v116 y) (y := ix3 (y 0 : Fin 32) (⟨1 + (y 1).val, by omega⟩ : Fin 4) (y 2 : Fin 1024)) rfl rfl rfl)).trans ((ref_ext A _ _ _).trans ?_)
  show _ = dite ((y 1).val < 2) _ _
  by_cases hl : (y 1).val < 2
  · rw [dif_pos hl, dif_pos (show 1 + (y 1).val < 3 by omega)]
    exact congrArg A.a4 (eq3 rfl (Nat.add_comm _ _) rfl)
  · rw [dif_neg hl, dif_neg (show ¬ 1 + (y 1).val < 3 by omega)]
    rfl

/-- The reference's fourth result. -/
theorem ref66 : val_main_v66 A.a1 A.a2 A.a4 A.a5 A.a7 A.a8 A.a9 A.a10 = A.states := by
  funext y
  exact (congrArg (val_main_v66 A.a1 A.a2 A.a4 A.a5 A.a7 A.a8 A.a9 A.a10) (eq4 (x := y) (y := ix4 (y 0 : Fin 32) (y 1 : Fin 8) (y 2 : Fin 64) (y 3 : Fin 128)) rfl rfl rfl rfl)).trans (ref_new A _ _ _ _)

/-- The reference's last result. -/
theorem ref117 : val_main_v117 A.a3 A.a6 = A.held := by
  funext y
  rw [val_main_v117_apply]
  have l1 : (y 1).val < 15 := (y 1).isLt
  refine (congrArg (val_main_v91 A.a3 A.a6) (eq3 (x := idx_main_v117 y) (y := ix3 (y 0 : Fin 32) (⟨1 + (y 1).val, by omega⟩ : Fin 16) (y 2 : Fin 256)) rfl rfl rfl)).trans ((ref_ext2 A _ _ _).trans ?_)
  show _ = dite ((y 1).val < 14) _ _
  by_cases hl : (y 1).val < 14
  · rw [dif_pos hl, dif_pos (show 1 + (y 1).val < 15 by omega)]
    exact congrArg A.a6 (eq3 rfl (Nat.add_comm _ _) rfl)
  · rw [dif_neg hl, dif_neg (show ¬ 1 + (y 1).val < 15 by omega)]
    rfl

end Cert.Sample

end
-- ==== Proof.Whole.lean ====
/- Arrays of two axes whose only block is the whole array. -/
module

public import Idealize.ShloMosaic.Lib.Pointwise
public import Idealize.ShloMosaic.Lib.ValueIdx

@[expose] public section

noncomputable section

namespace Cert.Decode

open Idealize.ShloMosaic

/-- An index of two axes is told by its two coordinates. -/
theorem at_eq {a b : ℕ} {i j : (⟨2, ![a, b]⟩ : Shape).Idx} (h0 : (i 0).val = (j 0).val) (h1 : (i 1).val = (j 1).val) : i = j := by
  funext x
  match x with
  | ⟨0, _⟩ => exact Fin.ext h0
  | ⟨1, _⟩ => exact Fin.ext h1

/-- An array of two axes that reads as another one at every pair of coordinates is that array. -/
theorem array_ext {a b : ℕ} {A B : (⟨2, ![a, b]⟩ : Shape).Idx → EReal} (h : ∀ (r : Fin a) (j : Fin b), A (ix2 r j) = B (ix2 r j)) : A = B := by
  funext i
  have e : i = ix2 (i 0) (i 1) := at_eq rfl rfl
  rw [e]
  exact h _ _

/-- An array whose only block, laid at the array's own places, holds `B` is `B`. -/
theorem whole_block {a b : ℕ} {A B : (⟨2, ![a, b]⟩ : Shape).Idx → EReal} (f : (⟨2, ![a, b]⟩ : Shape).Idx → (⟨2, ![a, b]⟩ : Shape).Idx)
    (hb : ∀ i, A (f i) = B i) (h0 : ∀ i, (f i 0).val = 0 * a + 1 * (i 0).val) (h1 : ∀ i, (f i 1).val = 0 * b + 1 * (i 1).val) : A = B := by
  funext i
  have e : f i = i := at_eq ((h0 i).trans (by omega)) ((h1 i).trans (by omega))
  exact (congrArg A e.symm).trans (hb i)

/-- The two zero offsets, as the constant function. -/
theorem zeros : (![0, 0] : Fin 2 → Nat) = fun _ => 0 := funext fun a => by fin_cases a <;> rfl

end Cert.Decode

end
-- ==== Proof.Slots.lean ====
/- The order in which the decoding rows' cross attention keeps the four heads' channels: the first 128 channels of every
   head, then the last 128 of every head. -/
module

public import Idealize.ShloMosaic.Lib.Pipeline.Value
public import Idealize.ShloMosaic.Lib.Pointwise
public import Idealize.ShloMosaic.Lib.ValueIdx

@[expose] public section

noncomputable section

namespace Cert.Decode

open Idealize.ShloMosaic

/-- The channel, heads side by side, that stands at position `j` of the split order. -/
def slot (j : Fin 1024) : Fin 1024 := ⟨j.val % 512 / 128 * 256 + j.val / 512 * 128 + j.val % 128, by omega⟩

/-- The position in the split order of the channel `j` of the heads side by side. -/
def unslot (j : Fin 1024) : Fin 1024 := ⟨j.val % 256 / 128 * 512 + j.val / 256 * 128 + j.val % 128, by omega⟩

/-- The channel of a channel's position is the channel. -/
theorem slot_unslot (j : Fin 1024) : slot (unslot j) = j := by
  refine Fin.ext ?_
  unfold slot unslot
  dsimp only
  omega

/-- The position of a position's channel is the position. -/
theorem unslot_slot (j : Fin 1024) : unslot (slot j) = j := by
  refine Fin.ext ?_
  unfold slot unslot
  dsimp only
  omega

/-- A sum over the channels may be taken in the split order. -/
theorem sum_slot (f : Fin 1024 → EReal) : ∑ k, f (slot k) = ∑ k, f k :=
  Equiv.sum_comp ⟨slot, unslot, unslot_slot, slot_unslot⟩ f

variable {α : Type}

/-- The columns of an array put in the split order. -/
theorem split_cols {n : ℕ} (x : (⟨2, ![n, 1024]⟩ : Shape).Idx → α) (h1 : (⟨2, ![n, 1024]⟩ : Shape).ShapeCasts ⟨4, ![n, 4, 2, 128]⟩)
    (h2 : (⟨4, ![n, 4, 2, 128]⟩ : Shape).Transposes [0, 2, 1, 3] ⟨4, ![n, 2, 4, 128]⟩)
    (h3 : (⟨4, ![n, 2, 4, 128]⟩ : Shape).ShapeCasts ⟨2, ![n, 1024]⟩) (r : Fin n) (j : Fin 1024) :
    shapeCast ⟨2, ![n, 1024]⟩ (transpose ⟨4, ![n, 2, 4, 128]⟩ [0, 2, 1, 3] (shapeCast ⟨4, ![n, 4, 2, 128]⟩ x h1) h2) h3 (ix2 r j)
      = x (ix2 r (slot j)) := by
  refine (shapeCast_apply _ h3 (ix2 r j) (ix4 r (⟨j.val / 512, by omega⟩ : Fin 2) (⟨j.val % 512 / 128, by omega⟩ : Fin 4) (⟨j.val % 128, by omega⟩ : Fin 128)) ?_).trans
    ((transpose_apply _ _ h2 _ (ix4 r (⟨j.val % 512 / 128, by omega⟩ : Fin 4) (⟨j.val / 512, by omega⟩ : Fin 2) (⟨j.val % 128, by omega⟩ : Fin 128)) fun b => ?_).trans
      (shapeCast_apply x h1 _ (ix2 r (slot j)) ?_))
  · rw [Shape.rowMajor_val_two, Shape.rowMajor_val_four]
    show ((r.val * 2 + j.val / 512) * 4 + j.val % 512 / 128) * 128 + j.val % 128 = r.val * 1024 + j.val
    omega
  · match b with
    | ⟨0, _⟩ => rfl
    | ⟨1, _⟩ => rfl
    | ⟨2, _⟩ => rfl
    | ⟨3, _⟩ => rfl
  · rw [Shape.rowMajor_val_two, Shape.rowMajor_val_four]
    show r.val * 1024 + (j.val % 512 / 128 * 256 + j.val / 512 * 128 + j.val % 128)
      = ((r.val * 4 + j.val % 512 / 128) * 2 + j.val / 512) * 128 + j.val % 128
    omega

/-- The columns of an array in the split order put back side by side. -/
theorem join_cols {n : ℕ} (x : (⟨2, ![n, 1024]⟩ : Shape).Idx → α) (h1 : (⟨2, ![n, 1024]⟩ : Shape).ShapeCasts ⟨4, ![n, 2, 4, 128]⟩)
    (h2 : (⟨4, ![n, 2, 4, 128]⟩ : Shape).Transposes [0, 2, 1, 3] ⟨4, ![n, 4, 2, 128]⟩)
    (h3 : (⟨4, ![n, 4, 2, 128]⟩ : Shape).ShapeCasts ⟨2, ![n, 1024]⟩) (r : Fin n) (j : Fin 1024) :
    shapeCast ⟨2, ![n, 1024]⟩ (transpose ⟨4, ![n, 4, 2, 128]⟩ [0, 2, 1, 3] (shapeCast ⟨4, ![n, 2, 4, 128]⟩ x h1) h2) h3 (ix2 r j)
      = x (ix2 r (unslot j)) := by
  refine (shapeCast_apply _ h3 (ix2 r j) (ix4 r (⟨j.val / 256, by omega⟩ : Fin 4) (⟨j.val % 256 / 128, by omega⟩ : Fin 2) (⟨j.val % 128, by omega⟩ : Fin 128)) ?_).trans
    ((transpose_apply _ _ h2 _ (ix4 r (⟨j.val % 256 / 128, by omega⟩ : Fin 2) (⟨j.val / 256, by omega⟩ : Fin 4) (⟨j.val % 128, by omega⟩ : Fin 128)) fun b => ?_).trans
      (shapeCast_apply x h1 _ (ix2 r (unslot j)) ?_))
  · rw [Shape.rowMajor_val_two, Shape.rowMajor_val_four]
    show ((r.val * 4 + j.val / 256) * 2 + j.val % 256 / 128) * 128 + j.val % 128 = r.val * 1024 + j.val
    omega
  · match b with
    | ⟨0, _⟩ => rfl
    | ⟨1, _⟩ => rfl
    | ⟨2, _⟩ => rfl
    | ⟨3, _⟩ => rfl
  · rw [Shape.rowMajor_val_two, Shape.rowMajor_val_four]
    show r.val * 1024 + (j.val % 256 / 128 * 512 + j.val / 256 * 128 + j.val % 128)
      = ((r.val * 2 + j.val % 256 / 128) * 4 + j.val / 256) * 128 + j.val % 128
    omega

/-- The rows of an array put in the split order. -/
theorem split_rows {n : ℕ} (x : (⟨2, ![1024, n]⟩ : Shape).Idx → α) (h1 : (⟨2, ![1024, n]⟩ : Shape).ShapeCasts ⟨4, ![4, 2, 128, n]⟩)
    (h2 : (⟨4, ![4, 2, 128, n]⟩ : Shape).Transposes [1, 0, 2, 3] ⟨4, ![2, 4, 128, n]⟩)
    (h3 : (⟨4, ![2, 4, 128, n]⟩ : Shape).ShapeCasts ⟨2, ![1024, n]⟩) (j : Fin 1024) (c : Fin n) :
    shapeCast ⟨2, ![1024, n]⟩ (transpose ⟨4, ![2, 4, 128, n]⟩ [1, 0, 2, 3] (shapeCast ⟨4, ![4, 2, 128, n]⟩ x h1) h2) h3 (ix2 j c)
      = x (ix2 (slot j) c) := by
  refine (shapeCast_apply _ h3 (ix2 j c) (ix4 (⟨j.val / 512, by omega⟩ : Fin 2) (⟨j.val % 512 / 128, by omega⟩ : Fin 4) (⟨j.val % 128, by omega⟩ : Fin 128) c) ?_).trans
    ((transpose_apply _ _ h2 _ (ix4 (⟨j.val % 512 / 128, by omega⟩ : Fin 4) (⟨j.val / 512, by omega⟩ : Fin 2) (⟨j.val % 128, by omega⟩ : Fin 128) c) fun b => ?_).trans
      (shapeCast_apply x h1 _ (ix2 (slot j) c) ?_))
  · rw [Shape.rowMajor_val_two, Shape.rowMajor_val_four]
    show ((j.val / 512 * 4 + j.val % 512 / 128) * 128 + j.val % 128) * n + c.val = j.val * n + c.val
    rw [show (j.val / 512 * 4 + j.val % 512 / 128) * 128 + j.val % 128 = j.val by omega]
  · match b with
    | ⟨0, _⟩ => rfl
    | ⟨1, _⟩ => rfl
    | ⟨2, _⟩ => rfl
    | ⟨3, _⟩ => rfl
  · rw [Shape.rowMajor_val_two, Shape.rowMajor_val_four]
    show (j.val % 512 / 128 * 256 + j.val / 512 * 128 + j.val % 128) * n + c.val
      = ((j.val % 512 / 128 * 2 + j.val / 512) * 128 + j.val % 128) * n + c.val
    rw [show j.val % 512 / 128 * 256 + j.val / 512 * 128 + j.val % 128 = (j.val % 512 / 128 * 2 + j.val / 512) * 128 + j.val % 128 by omega]

end Cert.Decode

end
-- ==== Proof.DecodeIn.lean ====
/- The input projection of the decoding rows: every one of its seven arrays is its part of the normed rows times the
   joined weight, in the kernel and in the reference. -/
module

public import proofs.«01_k».proof.Proof.Gen.Kernel5Ideal.Value
public import proofs.«01_k».proof.Proof.Gen.Reference5Ideal.Read
public import proofs.«01_k».proof.Proof.Row
public import proofs.«01_k».proof.Proof.Whole

@[expose] public section

noncomputable section

namespace Cert.Decode

open Idealize.ShloMosaic Idealize.ShloMosaic.TcCoe Idealize.SL.Sem Cert.Kernel5Ideal Cert.Kernel5Ideal.Gen Cert.Tail

/-- The row of gains as one row of a block, read at a column. -/
theorem row_apply (x : Vec Ideal S1024 .f32) (k : Fin 1024) : shapeCast S1x1024 x shapeCasts_S1024_S1x1024 (ix2 0 k) = x (ix1 k) := by
  pointwise []

/-- The `n` columns from column `o` on of the normed rows times the weight. -/
def part (x : Vec Ideal S32x1024 .f32) (g : Fin 1024 → EReal) (w : Vec Ideal S1024x2688 .bf16) (n o : ℕ) (h : o + n ≤ 2688)
    (i : (⟨2, ![32, n]⟩ : Shape).Idx) : EReal :=
  lin (rms (fun k => x (ix2 (i 0) k)) g) (fun k j => w (ix2 k j)) ⟨o + (i 1).val, by have : (i 1).val < n := (i 1).isLt; omega⟩

section Body

variable (x0 : Vec Ideal S32x1024 .f32) (x1 : Vec Ideal S1x1024 .f32) (x2 : Vec Ideal S1024x2688 .bf16)

/-- The normed row of the block. -/
theorem norm_apply (r : Fin 32) (k : Fin 1024) :
    k0_pay4 x0 x1 (ix2 r k) = rms (fun k => x0 (ix2 r k)) (fun k => x1 (ix2 0 k)) k := by
  pointwise [k0_pay4]
  rfl

/-- What the body leaves in the first output block. -/
theorem out3 : out0_3 x0 x1 x2 = part x0 (fun k => x1 (ix2 0 k)) x2 512 0 (by omega) := by
  refine array_ext fun r j => ?_
  unfold out0_3
  rw [View.canon_cons_unit_zero zeros, View.ld_unit_zero zeros, View.ld_unit_zero zeros]
  pointwise [k0_pay5]
  simp only [norm_apply]
  exact congrArg (lin (rms (fun k => x0 (ix2 r k)) fun k => x1 (ix2 0 k)) fun k j => x2 (ix2 k j))
    (Fin.ext (Nat.zero_add j.val).symm : (⟨j.val, by omega⟩ : Fin 2688) = ⟨0 + j.val, by omega⟩)

/-- What the body leaves in the second output block. -/
theorem out4 : out0_4 x0 x1 x2 = part x0 (fun k => x1 (ix2 0 k)) x2 1024 512 (by omega) := by
  refine array_ext fun r j => ?_
  unfold out0_4
  rw [View.canon_cons_unit_zero zeros, View.ld_unit_zero zeros, View.ld_unit_zero zeros]
  pointwise [k0_pay6]
  simp only [norm_apply]
  rfl

/-- What the body leaves in the third output block. -/
theorem out5 : out0_5 x0 x1 x2 = part x0 (fun k => x1 (ix2 0 k)) x2 128 1536 (by omega) := by
  refine array_ext fun r j => ?_
  unfold out0_5
  rw [View.canon_cons_unit_zero zeros, View.ld_unit_zero zeros, View.ld_unit_zero zeros]
  pointwise [k0_pay7]
  simp only [norm_apply]
  rfl

/-- What the body leaves in the fourth output block. -/
theorem out6 : out0_6 x0 x1 x2 = part x0 (fun k => x1 (ix2 0 k)) x2 256 1664 (by omega) := by
  refine array_ext fun r j => ?_
  unfold out0_6
  rw [View.canon_cons_unit_zero zeros, View.ld_unit_zero zeros, View.ld_unit_zero zeros]
  pointwise [k0_pay8]
  simp only [norm_apply]
  rfl

/-- What the body leaves in the fifth output block. -/
theorem out7 : out0_7 x0 x1 x2 = part x0 (fun k => x1 (ix2 0 k)) x2 256 1920 (by omega) := by
  refine array_ext fun r j => ?_
  unfold out0_7 k0_pay9
  rw [View.canon_cons_unit_zero zeros, View.ld_unit_zero zeros, View.ld_unit_zero zeros]
  pointwise [k0_pay1]
  simp only [norm_apply]
  rfl

/-- What the body leaves in the sixth output block. -/
theorem out8 : out0_8 x0 x1 x2 = part x0 (fun k => x1 (ix2 0 k)) x2 256 2176 (by omega) := by
  refine array_ext fun r j => ?_
  unfold out0_8 k0_pay9
  rw [View.canon_cons_unit_zero zeros, View.ld_unit_zero zeros, View.ld_unit_zero zeros]
  pointwise [k0_pay2]
  simp only [norm_apply]
  rfl

/-- What the body leaves in the last output block. -/
theorem out9 : out0_9 x0 x1 x2 = part x0 (fun k => x1 (ix2 0 k)) x2 256 2432 (by omega) := by
  refine array_ext fun r j => ?_
  unfold out0_9 k0_pay9
  rw [View.canon_cons_unit_zero zeros, View.ld_unit_zero zeros, View.ld_unit_zero zeros]
  pointwise [k0_pay3]
  simp only [norm_apply]
  rfl

end Body

variable (m : (ℓ : Loc nD τ sig) → Buf (Elt Ideal) ℓ)

/-- Every window has one block, the first. -/
theorem index_at : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) := by
  decide +kernel

/-- The only point of the grid. -/
def pt : Fin grid0.N := ⟨0, show 0 < 1 by omega⟩

/-- The norm's weights as the region finds them: the argument as one row. -/
theorem V_gain (c : Dev nD) : V m c main_v0 = shapeCast S1x1024 (m ((c : Thread nD τ).loc main_arg1)) shapeCasts_S1024_S1x1024 := by
  unfold V
  after_results
  rfl

/-- The decoding rows are staged whole. -/
theorem stage0 (c : Dev nD) : iblk m c 0 pt = m ((c : Thread nD τ).loc main_arg0) :=
  (whole_block (B := iblk m c 0 pt) ((cfg0.win 0).blk pt).view.emb (fun _ => rfl)
    (fun i => by show win0_0.index pt 0 * 32 + 1 * (i 0).val = _; rw [(index_at pt).1.1])
    fun i => by show win0_0.index pt 1 * 1024 + 1 * (i 1).val = _; rw [(index_at pt).1.2]).symm.trans (V_main_arg0 m c)

/-- The gain is staged whole. -/
theorem stage1 (c : Dev nD) (k : Fin 1024) : iblk m c 1 pt (ix2 0 k) = m ((c : Thread nD τ).loc main_arg1) (ix1 k) :=
  (congrFun ((whole_block (B := iblk m c 1 pt) ((cfg0.win 1).blk pt).view.emb (fun _ => rfl)
    (fun i => by show win0_1.index pt 0 * 1 + 1 * (i 0).val = _; rw [(index_at pt).2.1.1])
    fun i => by show win0_1.index pt 1 * 1024 + 1 * (i 1).val = _; rw [(index_at pt).2.1.2]).symm.trans (V_gain m c)) _).trans (row_apply _ k)

/-- The weight is staged whole. -/
theorem stage2 (c : Dev nD) : iblk m c 2 pt = m ((c : Thread nD τ).loc main_arg2) :=
  (whole_block (B := iblk m c 2 pt) ((cfg0.win 2).blk pt).view.emb (fun _ => rfl)
    (fun i => by show win0_2.index pt 0 * 1024 + 1 * (i 0).val = _; rw [(index_at pt).2.2.1.1])
    fun i => by show win0_2.index pt 1 * 2688 + 1 * (i 1).val = _; rw [(index_at pt).2.2.1.2]).symm.trans (V_main_arg2 m c)

/-- `part` of the arguments as launched. -/
abbrev launched (c : Dev nD) (n o : ℕ) (h : o + n ≤ 2688) : (⟨2, ![32, n]⟩ : Shape).Idx → EReal :=
  part (m ((c : Thread nD τ).loc main_arg0)) (fun k => m ((c : Thread nD τ).loc main_arg1) (ix1 k)) (m ((c : Thread nD τ).loc main_arg2)) n o h

/-- `part` of the blocks is `part` of the arguments. -/
theorem part_eq (c : Dev nD) (n o : ℕ) (h : o + n ≤ 2688) :
    part (iblk m c 0 pt) (fun k => iblk m c 1 pt (ix2 0 k)) (iblk m c 2 pt) n o h = launched m c n o h := by
  rw [stage0, stage2]
  exact congrArg (fun g => part _ g _ n o h) (funext (stage1 m c))

/-- The first result. -/
theorem array3 (c : Dev nD) : (dats m 0 c).arrAt 3 cfg0.N = launched m c 512 0 (by omega) := by
  refine (whole_block ((cfg0.win 3).blk pt).view.emb (congrFun (Value.blocks3 m c pt (flush0_3 pt))) (fun i => ?_) fun i => ?_).trans
    (((Value.flushed3 m c pt).trans (out3 _ _ _)).trans (part_eq m c 512 0 _))
  · show win0_3.index pt 0 * 32 + 1 * (i 0).val = _
    rw [(index_at pt).2.2.2.1.1]
  · show win0_3.index pt 1 * 512 + 1 * (i 1).val = _
    rw [(index_at pt).2.2.2.1.2]

/-- The second result. -/
theorem array4 (c : Dev nD) : (dats m 0 c).arrAt 4 cfg0.N = launched m c 1024 512 (by omega) := by
  refine (whole_block ((cfg0.win 4).blk pt).view.emb (congrFun (Value.blocks4 m c pt (flush0_4 pt))) (fun i => ?_) fun i => ?_).trans
    (((Value.flushed4 m c pt).trans (out4 _ _ _)).trans (part_eq m c 1024 512 _))
  · show win0_4.index pt 0 * 32 + 1 * (i 0).val = _
    rw [(index_at pt).2.2.2.2.1.1]
  · show win0_4.index pt 1 * 1024 + 1 * (i 1).val = _
    rw [(index_at pt).2.2.2.2.1.2]

/-- The third result. -/
theorem array5 (c : Dev nD) : (dats m 0 c).arrAt 5 cfg0.N = launched m c 128 1536 (by omega) := by
  refine (whole_block ((cfg0.win 5).blk pt).view.emb (congrFun (Value.blocks5 m c pt (flush0_5 pt))) (fun i => ?_) fun i => ?_).trans
    (((Value.flushed5 m c pt).trans (out5 _ _ _)).trans (part_eq m c 128 1536 _))
  · show win0_5.index pt 0 * 32 + 1 * (i 0).val = _
    rw [(index_at pt).2.2.2.2.2.1.1]
  · show win0_5.index pt 1 * 128 + 1 * (i 1).val = _
    rw [(index_at pt).2.2.2.2.2.1.2]

/-- The fourth result. -/
theorem array6 (c : Dev nD) : (dats m 0 c).arrAt 6 cfg0.N = launched m c 256 1664 (by omega) := by
  refine (whole_block ((cfg0.win 6).blk pt).view.emb (congrFun (Value.blocks6 m c pt (flush0_6 pt))) (fun i => ?_) fun i => ?_).trans
    (((Value.flushed6 m c pt).trans (out6 _ _ _)).trans (part_eq m c 256 1664 _))
  · show win0_6.index pt 0 * 32 + 1 * (i 0).val = _
    rw [(index_at pt).2.2.2.2.2.2.1.1]
  · show win0_6.index pt 1 * 256 + 1 * (i 1).val = _
    rw [(index_at pt).2.2.2.2.2.2.1.2]

/-- The fifth result. -/
theorem array7 (c : Dev nD) : (dats m 0 c).arrAt 7 cfg0.N = launched m c 256 1920 (by omega) := by
  refine (whole_block ((cfg0.win 7).blk pt).view.emb (congrFun (Value.blocks7 m c pt (flush0_7 pt))) (fun i => ?_) fun i => ?_).trans
    (((Value.flushed7 m c pt).trans (out7 _ _ _)).trans (part_eq m c 256 1920 _))
  · show win0_7.index pt 0 * 32 + 1 * (i 0).val = _
    rw [(index_at pt).2.2.2.2.2.2.2.1.1]
  · show win0_7.index pt 1 * 256 + 1 * (i 1).val = _
    rw [(index_at pt).2.2.2.2.2.2.2.1.2]

/-- The sixth result. -/
theorem array8 (c : Dev nD) : (dats m 0 c).arrAt 8 cfg0.N = launched m c 256 2176 (by omega) := by
  refine (whole_block ((cfg0.win 8).blk pt).view.emb (congrFun (Value.blocks8 m c pt (flush0_8 pt))) (fun i => ?_) fun i => ?_).trans
    (((Value.flushed8 m c pt).trans (out8 _ _ _)).trans (part_eq m c 256 2176 _))
  · show win0_8.index pt 0 * 32 + 1 * (i 0).val = _
    rw [(index_at pt).2.2.2.2.2.2.2.2.1.1]
  · show win0_8.index pt 1 * 256 + 1 * (i 1).val = _
    rw [(index_at pt).2.2.2.2.2.2.2.2.1.2]

/-- The last result. -/
theorem array9 (c : Dev nD) : (dats m 0 c).arrAt 9 cfg0.N = launched m c 256 2432 (by omega) := by
  refine (whole_block ((cfg0.win 9).blk pt).view.emb (congrFun (Value.blocks9 m c pt (flush0_9 pt))) (fun i => ?_) fun i => ?_).trans
    (((Value.flushed9 m c pt).trans (out9 _ _ _)).trans (part_eq m c 256 2432 _))
  · show win0_9.index pt 0 * 32 + 1 * (i 0).val = _
    rw [(index_at pt).2.2.2.2.2.2.2.2.2.1]
  · show win0_9.index pt 1 * 256 + 1 * (i 1).val = _
    rw [(index_at pt).2.2.2.2.2.2.2.2.2.2]

end Cert.Decode

end
-- ==== Proof.DecodeInRef.lean ====
/- The reference's input projection of the decoding rows: every result is its part of the normed rows times the
   joined weight. -/
module

public import proofs.«01_k».proof.Proof.DecodeIn

@[expose] public section

noncomputable section

namespace Cert.Decode

open Idealize.ShloMosaic Idealize.ShloMosaic.TcCoe Idealize.SL.Sem Cert.Reference5Ideal Cert.Reference5Ideal.Gen
open Cert.Reference5Ideal.Read Cert.Tail

variable (x0 : (⟨S32x1024, .f32⟩ : BufTy).Contents (Elt Ideal)) (x1 : (⟨S1024, .f32⟩ : BufTy).Contents (Elt Ideal))
  (x2 : (⟨S1024x2688, .bf16⟩ : BufTy).Contents (Elt Ideal))

/-- The reference's whole projection. -/
theorem ref_proj : val_main_v14 x0 x1 x2 = part x0 (fun k => x1 (ix1 k)) x2 2688 0 (by omega) := by
  refine array_ext fun r j => ?_
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  exact congrArg (lin (rms (fun k => x0 (ix2 r k)) fun k => x1 (ix1 k)) fun k j => x2 (ix2 k j))
    (Fin.ext (Nat.zero_add j.val).symm : j = ⟨0 + j.val, by omega⟩)

/-- A slice of the whole projection is its part. -/
theorem slice_eq (n o : ℕ) (h : o + n ≤ 2688) (A : (⟨2, ![32, n]⟩ : Shape).Idx → EReal) (f : (⟨2, ![32, n]⟩ : Shape).Idx → S32x2688.Idx)
    (hA : ∀ i, A i = val_main_v14 x0 x1 x2 (f i)) (h0 : ∀ i, (f i 0).val = (i 0).val) (h1 : ∀ i, (f i 1).val = o + (i 1).val) :
    A = part x0 (fun k => x1 (ix1 k)) x2 n o h := by
  funext i
  rw [hA, ref_proj]
  have e0 : f i 0 = i 0 := Fin.ext (h0 i)
  unfold part
  rw [e0]
  exact congrArg (lin (rms (fun k => x0 (ix2 (i 0) k)) fun k => x1 (ix1 k)) fun k j => x2 (ix2 k j)) (Fin.ext ((Nat.zero_add _).trans (h1 i)))

/-- The reference's first result. -/
theorem ref15 : val_main_v15 x0 x1 x2 = part x0 (fun k => x1 (ix1 k)) x2 512 0 (by omega) :=
  slice_eq x0 x1 x2 512 0 _ _ _ (val_main_v15_apply x0 x1 x2) (fun _ => rfl) fun _ => (Nat.zero_add _).symm

/-- The reference's second result. -/
theorem ref16 : val_main_v16 x0 x1 x2 = part x0 (fun k => x1 (ix1 k)) x2 1024 512 (by omega) :=
  slice_eq x0 x1 x2 1024 512 _ _ _ (val_main_v16_apply x0 x1 x2) (fun _ => rfl) fun _ => rfl

/-- The reference's third result. -/
theorem ref17 : val_main_v17 x0 x1 x2 = part x0 (fun k => x1 (ix1 k)) x2 128 1536 (by omega) :=
  slice_eq x0 x1 x2 128 1536 _ _ _ (val_main_v17_apply x0 x1 x2) (fun _ => rfl) fun _ => rfl

/-- The reference's fourth result. -/
theorem ref18 : val_main_v18 x0 x1 x2 = part x0 (fun k => x1 (ix1 k)) x2 256 1664 (by omega) :=
  slice_eq x0 x1 x2 256 1664 _ _ _ (val_main_v18_apply x0 x1 x2) (fun _ => rfl) fun _ => rfl

/-- The reference's fifth result. -/
theorem ref19 : val_main_v19 x0 x1 x2 = part x0 (fun k => x1 (ix1 k)) x2 256 1920 (by omega) :=
  slice_eq x0 x1 x2 256 1920 _ _ _ (val_main_v19_apply x0 x1 x2) (fun _ => rfl) fun _ => rfl

/-- The reference's sixth result. -/
theorem ref20 : val_main_v20 x0 x1 x2 = part x0 (fun k => x1 (ix1 k)) x2 256 2176 (by omega) :=
  slice_eq x0 x1 x2 256 2176 _ _ _ (val_main_v20_apply x0 x1 x2) (fun _ => rfl) fun _ => rfl

/-- The reference's last result. -/
theorem ref21 : val_main_v21 x0 x1 x2 = part x0 (fun k => x1 (ix1 k)) x2 256 2432 (by omega) :=
  slice_eq x0 x1 x2 256 2432 _ _ _ (val_main_v21_apply x0 x1 x2) (fun _ => rfl) fun _ => rfl

end Cert.Decode

end
-- ==== Proof.DecodeMix.lean ====
/- The mixers' output projection of the decoding rows: the residual rows plus the joined mixers' rows times the weight, in
   the kernel and in the reference. -/
module

public import proofs.«01_k».proof.Proof.Gen.Kernel6Ideal.Value
public import proofs.«01_k».proof.Proof.Gen.Reference6Ideal.Read
public import proofs.«01_k».proof.Proof.Row
public import proofs.«01_k».proof.Proof.Whole

@[expose] public section

noncomputable section

namespace Cert.Decode

open Idealize.ShloMosaic Idealize.ShloMosaic.TcCoe Idealize.SL.Sem Cert.Tail

namespace Mix

open Cert.Kernel6Ideal Cert.Kernel6Ideal.Gen

/-- The residual rows after the mixers' output projection. -/
def mix (x : Vec Ideal S32x1024 .f32) (y : Vec Ideal S32x512 .f32) (p a : Vec Ideal S32x256 .f32) (w : Vec Ideal S1024x1024 .bf16)
    (i : S32x1024.Idx) : EReal :=
  mixed (fun k => x (ix2 (i 0) k)) (fun k => y (ix2 (i 0) k)) (fun k => p (ix2 (i 0) k)) (fun k => a (ix2 (i 0) k))
    (fun k c => w (ix2 k c)) (i 1)

/-- What the body leaves in the output block, when the three weight blocks are the weight's first 512, next 256 and last 256 rows. -/
theorem out7 (x0 : Vec Ideal S32x1024 .f32) (x1 : Vec Ideal S32x512 .f32) (x2 x3 : Vec Ideal S32x256 .f32)
    (x4 : Vec Ideal S512x1024 .bf16) (x5 x6 : Vec Ideal S256x1024 .bf16) (w : Vec Ideal S1024x1024 .bf16)
    (h4 : ∀ (k : Fin 512) c, x4 (ix2 k c) = w (ix2 ⟨k.val, by omega⟩ c))
    (h5 : ∀ (k : Fin 256) c, x5 (ix2 k c) = w (ix2 ⟨512 + k.val, by omega⟩ c))
    (h6 : ∀ (k : Fin 256) c, x6 (ix2 k c) = w (ix2 ⟨768 + k.val, by omega⟩ c)) :
    out0_7 x0 x1 x2 x3 x4 x5 x6 = mix x0 x1 x2 x3 w := by
  refine array_ext fun r c => ?_
  show _ = mixed (fun k => x0 (ix2 r k)) (fun k => x1 (ix2 r k)) (fun k => x2 (ix2 r k)) (fun k => x3 (ix2 r k)) (fun k c => w (ix2 k c)) c
  rw [mixed_eq]
  unfold out0_7
  rw [View.canon_cons_unit_zero zeros, View.ld_unit_zero zeros, View.ld_unit_zero zeros, View.ld_unit_zero zeros, View.ld_unit_zero zeros,
    View.ld_unit_zero zeros, View.ld_unit_zero zeros, View.ld_unit_zero zeros]
  pointwise [k0_pay1]
  simp only [h4, h5, h6]
  rfl

variable (m : (ℓ : Loc nD τ sig) → Buf (Elt Ideal) ℓ)

/-- Every window has one block, the first, except the weight's second and third, which start at rows 512 and 768. -/
theorem index_at : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 2 ∧ win0_5.index t 1 = 0)
    ∧ (win0_6.index t 0 = 3 ∧ win0_6.index t 1 = 0) ∧ (win0_7.index t 0 = 0 ∧ win0_7.index t 1 = 0) := by
  decide +kernel

/-- The only point of the grid. -/
def pt : Fin grid0.N := ⟨0, show 0 < 1 by omega⟩

/-- The residual rows are staged whole. -/
theorem stage0 (c : Dev nD) : iblk m c 0 pt = m ((c : Thread nD τ).loc main_arg0) :=
  (whole_block (B := iblk m c 0 pt) ((cfg0.win 0).blk pt).view.emb (fun _ => rfl)
    (fun i => by show win0_0.index pt 0 * 32 + 1 * (i 0).val = _; rw [(index_at pt).1.1])
    fun i => by show win0_0.index pt 1 * 1024 + 1 * (i 1).val = _; rw [(index_at pt).1.2]).symm.trans (V_main_arg0 m c)

/-- The first mixer's rows are staged whole. -/
theorem stage1 (c : Dev nD) : iblk m c 1 pt = m ((c : Thread nD τ).loc main_arg1) :=
  (whole_block (B := iblk m c 1 pt) ((cfg0.win 1).blk pt).view.emb (fun _ => rfl)
    (fun i => by show win0_1.index pt 0 * 32 + 1 * (i 0).val = _; rw [(index_at pt).2.1.1])
    fun i => by show win0_1.index pt 1 * 512 + 1 * (i 1).val = _; rw [(index_at pt).2.1.2]).symm.trans (V_main_arg1 m c)

/-- The second mixer's rows are staged whole. -/
theorem stage2 (c : Dev nD) : iblk m c 2 pt = m ((c : Thread nD τ).loc main_arg2) :=
  (whole_block (B := iblk m c 2 pt) ((cfg0.win 2).blk pt).view.emb (fun _ => rfl)
    (fun i => by show win0_2.index pt 0 * 32 + 1 * (i 0).val = _; rw [(index_at pt).2.2.1.1])
    fun i => by show win0_2.index pt 1 * 256 + 1 * (i 1).val = _; rw [(index_at pt).2.2.1.2]).symm.trans (V_main_arg2 m c)

/-- The third mixer's rows are staged whole. -/
theorem stage3 (c : Dev nD) : iblk m c 3 pt = m ((c : Thread nD τ).loc main_arg3) :=
  (whole_block (B := iblk m c 3 pt) ((cfg0.win 3).blk pt).view.emb (fun _ => rfl)
    (fun i => by show win0_3.index pt 0 * 32 + 1 * (i 0).val = _; rw [(index_at pt).2.2.2.1.1])
    fun i => by show win0_3.index pt 1 * 256 + 1 * (i 1).val = _; rw [(index_at pt).2.2.2.1.2]).symm.trans (V_main_arg3 m c)

/-- The weight's rows from row 0 on are staged. -/
theorem stage4 (c : Dev nD) (k : Fin 512) (j : Fin 1024) :
    iblk m c 4 pt (ix2 k j) = m ((c : Thread nD τ).loc main_arg4) (ix2 ⟨k.val, by omega⟩ j) := by
  refine Eq.trans (congrArg (V m c main_arg4) (at_eq ?_ ?_)) (congrFun (V_main_arg4 m c) _)
  · show win0_4.index pt 0 * 512 + 1 * k.val = k.val
    rw [(index_at pt).2.2.2.2.1.1]; omega
  · show win0_4.index pt 1 * 1024 + 1 * j.val = j.val
    rw [(index_at pt).2.2.2.2.1.2]; omega

/-- The weight's rows from row 512 on are staged. -/
theorem stage5 (c : Dev nD) (k : Fin 256) (j : Fin 1024) :
    iblk m c 5 pt (ix2 k j) = m ((c : Thread nD τ).loc main_arg4) (ix2 ⟨512 + k.val, by omega⟩ j) := by
  refine Eq.trans (congrArg (V m c main_arg4) (at_eq ?_ ?_)) (congrFun (V_main_arg4 m c) _)
  · show win0_5.index pt 0 * 256 + 1 * k.val = 512 + k.val
    rw [(index_at pt).2.2.2.2.2.1.1]; omega
  · show win0_5.index pt 1 * 1024 + 1 * j.val = j.val
    rw [(index_at pt).2.2.2.2.2.1.2]; omega

/-- The weight's rows from row 768 on are staged. -/
theorem stage6 (c : Dev nD) (k : Fin 256) (j : Fin 1024) :
    iblk m c 6 pt (ix2 k j) = m ((c : Thread nD τ).loc main_arg4) (ix2 ⟨768 + k.val, by omega⟩ j) := by
  refine Eq.trans (congrArg (V m c main_arg4) (at_eq ?_ ?_)) (congrFun (V_main_arg4 m c) _)
  · show win0_6.index pt 0 * 256 + 1 * k.val = 768 + k.val
    rw [(index_at pt).2.2.2.2.2.2.1.1]; omega
  · show win0_6.index pt 1 * 1024 + 1 * j.val = j.val
    rw [(index_at pt).2.2.2.2.2.2.1.2]; omega

/-- `mix` of the arguments as launched. -/
abbrev launched (c : Dev nD) : S32x1024.Idx → EReal :=
  mix (m ((c : Thread nD τ).loc main_arg0)) (m ((c : Thread nD τ).loc main_arg1)) (m ((c : Thread nD τ).loc main_arg2))
    (m ((c : Thread nD τ).loc main_arg3)) (m ((c : Thread nD τ).loc main_arg4))

/-- The result of the kernel. -/
theorem array7 (c : Dev nD) : (dats m 0 c).arrAt 7 cfg0.N = launched m c := by
  refine (whole_block ((cfg0.win 7).blk pt).view.emb (congrFun (Value.blocks7 m c pt (flush0_7 pt))) (fun i => ?_) fun i => ?_).trans
    (((Value.flushed7 m c pt).trans (out7 _ _ _ _ _ _ _ _ (stage4 m c) (stage5 m c) (stage6 m c))).trans ?_)
  · show win0_7.index pt 0 * 32 + 1 * (i 0).val = _
    rw [(index_at pt).2.2.2.2.2.2.2.1]
  · show win0_7.index pt 1 * 1024 + 1 * (i 1).val = _
    rw [(index_at pt).2.2.2.2.2.2.2.2]
  · rw [stage0, stage1, stage2, stage3]

end Mix

section Reference

open Cert.Reference6Ideal Cert.Reference6Ideal.Read

variable (x0 : (⟨S32x1024, .f32⟩ : BufTy).Contents (Elt Ideal)) (x1 : (⟨S32x512, .f32⟩ : BufTy).Contents (Elt Ideal))
  (x2 x3 : (⟨S32x256, .f32⟩ : BufTy).Contents (Elt Ideal)) (x4 : (⟨S1024x1024, .bf16⟩ : BufTy).Contents (Elt Ideal))

/-- The reference's joined row. -/
theorem ref_join (t : Fin 32) (k : Fin 1024) :
    val_main_v0 x1 x2 x3 (ix2 t k) = join (fun k => x1 (ix2 t k)) (fun k => x2 (ix2 t k)) (fun k => x3 (ix2 t k)) k := by
  pointwise [val_main_v0]
  unfold join
  split
  · rfl
  · rename_i h
    by_cases h' : k.val < 768
    · rw [dif_pos (by omega), dif_pos h']
    · rw [dif_neg (by omega), dif_neg h']
      exact congrArg x3 (congrArg (ix2 t) (Fin.ext (show k.val - 512 - 256 = k.val - 768 by omega)))

/-- The reference's result. -/
theorem ref_mix : val_main_v3 x0 x1 x2 x3 x4 = Mix.mix x0 x1 x2 x3 x4 := by
  refine array_ext fun r c => ?_
  pointwise [val_main_v3, val_main_v2, val_main_v1]
  simp only [ref_join]
  rfl

end Reference

end Cert.Decode

end
-- ==== Proof.DecodeFfn.lean ====
/- The feed-forward step and the closing norm of the decoding rows, in the kernel and in the reference. -/
module

public import proofs.«01_k».proof.Proof.Gen.Kernel7Ideal.Value
public import proofs.«01_k».proof.Proof.Gen.Reference7Ideal.Read
public import proofs.«01_k».proof.Proof.Row
public import proofs.«01_k».proof.Proof.Whole

@[expose] public section

noncomputable section

namespace Cert.Decode

open Idealize.ShloMosaic Idealize.ShloMosaic.TcCoe Idealize.SL.Sem Cert.Tail

namespace Ffn

open Cert.Kernel7Ideal Cert.Kernel7Ideal.Gen

/-- The rows after the feed-forward step and the closing norm: the gate's and the other half's weights, the gains as functions of the column. -/
def fed (x : Vec Ideal S32x1024 .f32) (g : Fin 1024 → EReal) (wg wu : Fin 1024 → Fin 2816 → EReal) (wd : Vec Ideal S2816x1024 .bf16)
    (go : Fin 1024 → EReal) (i : S32x1024.Idx) : EReal :=
  ffn (fun k => x (ix2 (i 0) k)) g wg wu (fun j c => wd (ix2 j c)) go (i 1)

/-- The output block from the staged blocks: the norm, the gated step added to the rows, the closing norm. -/
def step (x0 : Vec Ideal S32x1024 .f32) (x1 : Vec Ideal S1x1024 .f32) (x2 x3 : Vec Ideal S1024x2816 .bf16)
    (x4 : Vec Ideal S2816x1024 .bf16) (x5 : Vec Ideal S1x1024 .f32) : FVec Ideal S32x1024 .f32 :=
  k0_pay4 (k0_pay3 (k0_pay1 x0 x1) x2 x3 (k0_pay2 x0) x4) x5

/-- The output block is the feed-forward step and the closing norm of its rows. -/
theorem step_eq (x0 : Vec Ideal S32x1024 .f32) (x1 : Vec Ideal S1x1024 .f32) (x2 x3 : Vec Ideal S1024x2816 .bf16)
    (x4 : Vec Ideal S2816x1024 .bf16) (x5 : Vec Ideal S1x1024 .f32) :
    step x0 x1 x2 x3 x4 x5
      = fed x0 (fun k => x1 (ix2 0 k)) (fun k j => x2 (ix2 k j)) (fun k j => x3 (ix2 k j)) x4 fun k => x5 (ix2 0 k) := by
  refine array_ext fun r c => ?_
  pointwise [step, k0_pay4, k0_pay3, k0_pay2, k0_pay1]
  rfl

variable (m : (ℓ : Loc nD τ sig) → Buf (Elt Ideal) ℓ)

/-- What the body leaves in the output's staging buffer. -/
theorem outsAt0_eq (c : Dev nD) (t : Fin cfg0.N) :
    outsAt0 m c t = step (iblk m c 0 t) (iblk m c 1 t) (iblk m c 2 t) (iblk m c 3 t) (iblk m c 4 t) (iblk m c 5 t) := by
  unfold outsAt0 out0_A_6
  rw [View.read_writes_eq_canon _ _ _ (cover0_A_6 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, View.readCov_cons_toLoadRect]
  rw [View.canon_cons_unit_zero zeros]
  have h0 := View.ld_unit_zero zeros inb_S32x1024_S32x1024_0_0 (iblk m c 0 t)
  have h1 := View.ld_unit_zero zeros inb_S1x1024_S1x1024_0_0 (iblk m c 1 t)
  have h2 := View.ld_unit_zero zeros inb_S1024x2816_S1024x2816_0_0 (iblk m c 2 t)
  have h3 := View.ld_unit_zero zeros inb_S1024x2816_S1024x2816_0_0 (iblk m c 3 t)
  have h4 := View.ld_unit_zero zeros inb_S2816x1024_S2816x1024_0_0 (iblk m c 4 t)
  have h5 := View.ld_unit_zero zeros inb_S1x1024_S1x1024_0_0 (iblk m c 5 t)
  unfold step
  conv_rhs => rw [← h0, ← h1, ← h2, ← h3, ← h4, ← h5]
  rfl

/-- Every window has one block, the first, except the weight's other half, which is the second block of columns. -/
theorem index_at : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 1)
    ∧ (win0_4.index t 0 = 0 ∧ win0_4.index t 1 = 0) ∧ (win0_5.index t 0 = 0 ∧ win0_5.index t 1 = 0)
    ∧ (win0_6.index t 0 = 0 ∧ win0_6.index t 1 = 0) := by
  decide +kernel

/-- The only point of the grid. -/
def pt : Fin grid0.N := ⟨0, show 0 < 1 by omega⟩

/-- The row of gains as one row of a block, read at a column. -/
theorem row_apply (x : Vec Ideal S1024 .f32) (k : Fin 1024) : shapeCast S1x1024 x shapeCasts_S1024_S1x1024 (ix2 0 k) = x (ix1 k) := by
  pointwise []

/-- The first norm's weights as the region finds them: the argument as one row. -/
theorem V_gain (c : Dev nD) : V m c main_v0 = shapeCast S1x1024 (m ((c : Thread nD τ).loc main_arg1)) shapeCasts_S1024_S1x1024 := by
  unfold V
  after_results
  rfl

/-- The closing norm's weights as the region finds them: the argument as one row. -/
theorem V_last (c : Dev nD) : V m c main_v1 = shapeCast S1x1024 (m ((c : Thread nD τ).loc main_arg4)) shapeCasts_S1024_S1x1024 := by
  unfold V
  after_results
  rfl

/-- The rows are staged whole. -/
theorem stage0 (c : Dev nD) : iblk m c 0 pt = m ((c : Thread nD τ).loc main_arg0) :=
  (whole_block (B := iblk m c 0 pt) ((cfg0.win 0).blk pt).view.emb (fun _ => rfl)
    (fun i => by show win0_0.index pt 0 * 32 + 1 * (i 0).val = _; rw [(index_at pt).1.1])
    fun i => by show win0_0.index pt 1 * 1024 + 1 * (i 1).val = _; rw [(index_at pt).1.2]).symm.trans (V_main_arg0 m c)

/-- The second weight is staged whole. -/
theorem stage4 (c : Dev nD) : iblk m c 4 pt = m ((c : Thread nD τ).loc main_arg3) :=
  (whole_block (B := iblk m c 4 pt) ((cfg0.win 4).blk pt).view.emb (fun _ => rfl)
    (fun i => by show win0_4.index pt 0 * 2816 + 1 * (i 0).val = _; rw [(index_at pt).2.2.2.2.1.1])
    fun i => by show win0_4.index pt 1 * 1024 + 1 * (i 1).val = _; rw [(index_at pt).2.2.2.2.1.2]).symm.trans (V_main_arg3 m c)

/-- The first norm's weights are staged whole. -/
theorem stage1 (c : Dev nD) (k : Fin 1024) : iblk m c 1 pt (ix2 0 k) = m ((c : Thread nD τ).loc main_arg1) (ix1 k) :=
  (congrFun ((whole_block (B := iblk m c 1 pt) ((cfg0.win 1).blk pt).view.emb (fun _ => rfl)
    (fun i => by show win0_1.index pt 0 * 1 + 1 * (i 0).val = _; rw [(index_at pt).2.1.1])
    fun i => by show win0_1.index pt 1 * 1024 + 1 * (i 1).val = _; rw [(index_at pt).2.1.2]).symm.trans (V_gain m c)) _).trans (row_apply _ k)

/-- The closing norm's weights are staged whole. -/
theorem stage5 (c : Dev nD) (k : Fin 1024) : iblk m c 5 pt (ix2 0 k) = m ((c : Thread nD τ).loc main_arg4) (ix1 k) :=
  (congrFun ((whole_block (B := iblk m c 5 pt) ((cfg0.win 5).blk pt).view.emb (fun _ => rfl)
    (fun i => by show win0_5.index pt 0 * 1 + 1 * (i 0).val = _; rw [(index_at pt).2.2.2.2.2.1.1])
    fun i => by show win0_5.index pt 1 * 1024 + 1 * (i 1).val = _; rw [(index_at pt).2.2.2.2.2.1.2]).symm.trans (V_last m c)) _).trans (row_apply _ k)

/-- The gate's half of the first weight is staged. -/
theorem stage2 (c : Dev nD) (k : Fin 1024) (j : Fin 2816) :
    iblk m c 2 pt (ix2 k j) = m ((c : Thread nD τ).loc main_arg2) (ix2 k ⟨j.val, by omega⟩) := by
  refine Eq.trans (congrArg (V m c main_arg2) (at_eq ?_ ?_)) (congrFun (V_main_arg2 m c) _)
  · show win0_2.index pt 0 * 1024 + 1 * k.val = k.val
    rw [(index_at pt).2.2.1.1]; omega
  · show win0_2.index pt 1 * 2816 + 1 * j.val = j.val
    rw [(index_at pt).2.2.1.2]; omega

/-- The other half of the first weight is staged. -/
theorem stage3 (c : Dev nD) (k : Fin 1024) (j : Fin 2816) :
    iblk m c 3 pt (ix2 k j) = m ((c : Thread nD τ).loc main_arg2) (ix2 k ⟨2816 + j.val, by omega⟩) := by
  refine Eq.trans (congrArg (V m c main_arg2) (at_eq ?_ ?_)) (congrFun (V_main_arg2 m c) _)
  · show win0_3.index pt 0 * 1024 + 1 * k.val = k.val
    rw [(index_at pt).2.2.2.1.1]; omega
  · show win0_3.index pt 1 * 2816 + 1 * j.val = 2816 + j.val
    rw [(index_at pt).2.2.2.1.2]; omega

/-- `fed` of the arguments: the gate's weights are the first half of the columns, the other weights the second. -/
def fedArgs (x : Vec Ideal S32x1024 .f32) (g : Vec Ideal S1024 .f32) (w : Vec Ideal S1024x5632 .bf16) (wd : Vec Ideal S2816x1024 .bf16)
    (go : Vec Ideal S1024 .f32) : S32x1024.Idx → EReal :=
  fed x (fun k => g (ix1 k)) (fun k j => w (ix2 k ⟨j.val, by omega⟩)) (fun k j => w (ix2 k ⟨2816 + j.val, by omega⟩)) wd fun k => go (ix1 k)

/-- `fedArgs` of the arguments as launched. -/
abbrev launched (c : Dev nD) : S32x1024.Idx → EReal :=
  fedArgs (m ((c : Thread nD τ).loc main_arg0)) (m ((c : Thread nD τ).loc main_arg1)) (m ((c : Thread nD τ).loc main_arg2))
    (m ((c : Thread nD τ).loc main_arg3)) (m ((c : Thread nD τ).loc main_arg4))

/-- The result of the kernel. -/
theorem array6 (c : Dev nD) : (dats m 0 c).arrAt 6 cfg0.N = launched m c := by
  refine (whole_block ((cfg0.win 6).blk pt).view.emb (congrFun (Value.blocks6 m c pt (flush0_6 pt))) (fun i => ?_) fun i => ?_).trans
    ((Value.flushed6 m c pt).trans (((outsAt0_eq m c pt).trans (step_eq _ _ _ _ _ _)).trans ?_))
  · show win0_6.index pt 0 * 32 + 1 * (i 0).val = _
    rw [(index_at pt).2.2.2.2.2.2.1]
  · show win0_6.index pt 1 * 1024 + 1 * (i 1).val = _
    rw [(index_at pt).2.2.2.2.2.2.2]
  · unfold launched fedArgs
    rw [stage0, stage4]
    simp only [stage1, stage2, stage3, stage5]

end Ffn

section Reference

open Cert.Reference7Ideal Cert.Reference7Ideal.Read

variable (x0 : (⟨S32x1024, .f32⟩ : BufTy).Contents (Elt Ideal)) (x1 : (⟨S1024, .f32⟩ : BufTy).Contents (Elt Ideal))
  (x2 : (⟨S1024x5632, .bf16⟩ : BufTy).Contents (Elt Ideal)) (x3 : (⟨S2816x1024, .bf16⟩ : BufTy).Contents (Elt Ideal))
  (x4 : (⟨S1024, .f32⟩ : BufTy).Contents (Elt Ideal))

/-- The reference's normed row. -/
theorem fed_norm (t : Fin 32) (c : Fin 1024) :
    val_main_v12 x0 x1 (ix2 t c) = rms (fun k => x0 (ix2 t k)) (fun k => x1 (ix1 k)) c := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The two halves of the reference's projection, gated. -/
theorem fed_act (t : Fin 32) (j : Fin 2816) :
    val_main_v18 x0 x1 x2 (ix2 t j)
      = act (rms (fun k => x0 (ix2 t k)) fun k => x1 (ix1 k)) (fun k j => x2 (ix2 k ⟨j.val, by omega⟩))
          (fun k j => x2 (ix2 k ⟨2816 + j.val, by omega⟩)) j := by
  pointwise [val_main_v18, val_main_v17, val_main_v16, val_main_v15, val_main_v14, val_main_v13, val_main_call0_v5, val_main_call0_v4,
    val_main_call0_v3, val_main_call0_v2, val_main_call0_v1, val_main_call0_v0, val_main_call0_cst, val_main_call0_cst_0]
  simp only [fed_norm]
  rfl

/-- The reference's rows after the feed-forward step, before the closing norm. -/
theorem fed_sum (t : Fin 32) (c : Fin 1024) :
    val_main_v21 x0 x1 x2 x3 (ix2 t c)
      = x0 (ix2 t c) + lin (act (rms (fun k => x0 (ix2 t k)) fun k => x1 (ix1 k)) (fun k j => x2 (ix2 k ⟨j.val, by omega⟩))
          fun k j => x2 (ix2 k ⟨2816 + j.val, by omega⟩)) (fun j c => x3 (ix2 j c)) c := by
  pointwise [val_main_v21, val_main_v20, val_main_v19]
  simp only [fed_act]
  rfl

/-- The reference's result. -/
theorem ref_fed : val_main_v34 x0 x1 x2 x3 x4 = Ffn.fedArgs x0 x1 x2 x3 x4 := by
  refine array_ext fun r c => ?_
  pointwise [val_main_v34, val_main_v33, val_main_v32, val_main_v31, val_main_v30, val_main_v29, val_main_v28, val_main_v27,
    val_main_v26, val_main_v25, val_main_v24, val_main_v23, val_main_v22, val_main_cst_2, val_main_cst_3, val_main_cst_4]
  simp only [fed_sum]
  rfl

end Reference

end Cert.Decode

end
-- ==== Proof.DecodeQuery.lean ====
/- The decoding rows' query projection for the memory: the normed rows times the weight, its columns in the split order, in
   the kernel and in the reference. -/
module

public import proofs.«01_k».proof.Proof.Gen.Kernel8Ideal.Value
public import proofs.«01_k».proof.Proof.Gen.Reference8Ideal.Read
public import proofs.«01_k».proof.Proof.Row
public import proofs.«01_k».proof.Proof.Whole
public import proofs.«01_k».proof.Proof.Slots

@[expose] public section

noncomputable section

namespace Cert.Decode

open Idealize.ShloMosaic Idealize.ShloMosaic.TcCoe Idealize.SL.Sem Cert.Tail

namespace Query

open Cert.Kernel8Ideal Cert.Kernel8Ideal.Gen

/-- The row of gains as one row of a block, read at a column. -/
theorem row_apply (x : Vec Ideal S1024 .f32) (k : Fin 1024) : shapeCast S1x1024 x shapeCasts_S1024_S1x1024 (ix2 0 k) = x (ix1 k) := by
  pointwise []

/-- The normed rows times the weight, the columns in the split order. -/
def asked (x : Vec Ideal S32x1024 .f32) (g : Fin 1024 → EReal) (w : Vec Ideal S1024x1024 .bf16) (i : S32x1024.Idx) : EReal :=
  lin (rms (fun k => x (ix2 (i 0) k)) g) (fun k j => w (ix2 k j)) (slot (i 1))

/-- What the body leaves in the output block, when the weight's block has the columns of `w` in the split order. -/
theorem out3 (x0 : Vec Ideal S32x1024 .f32) (x1 : Vec Ideal S1x1024 .f32) (x2 w : Vec Ideal S1024x1024 .bf16)
    (h2 : ∀ k j, x2 (ix2 k j) = w (ix2 k (slot j))) : out0_3 x0 x1 x2 = asked x0 (fun k => x1 (ix2 0 k)) w := by
  refine array_ext fun r c => ?_
  unfold out0_3
  rw [View.canon_cons_unit_zero zeros, View.ld_unit_zero zeros, View.ld_unit_zero zeros, View.ld_unit_zero zeros]
  pointwise [k0_pay1]
  simp only [h2]
  rfl

variable (m : (ℓ : Loc nD τ sig) → Buf (Elt Ideal) ℓ)

/-- Every window has one block, the first. -/
theorem index_at : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) := by
  decide +kernel

/-- The only point of the grid. -/
def pt : Fin grid0.N := ⟨0, show 0 < 1 by omega⟩

/-- The norm's weights as the region finds them: the argument as one row. -/
theorem V_gain (c : Dev nD) : V m c main_v3 = shapeCast S1x1024 (m ((c : Thread nD τ).loc main_arg1)) shapeCasts_S1024_S1x1024 := by
  unfold V
  after_results
  rfl

/-- The weight as the region finds it: its columns in the split order. -/
theorem V_weight (c : Dev nD) (k j : Fin 1024) :
    V m c main_v2 (ix2 k j) = m ((c : Thread nD τ).loc main_arg2) (ix2 k (slot j)) := by
  have e : V m c main_v2 = shapeCast S1024x1024 (transpose S1024x2x4x128 [0, 2, 1, 3]
      (shapeCast S1024x4x2x128 (m ((c : Thread nD τ).loc main_arg2)) shapeCasts_S1024x1024_S1024x4x2x128)
      transposes_S1024x4x2x128_S1024x2x4x128_0_2_1_3) shapeCasts_S1024x2x4x128_S1024x1024 := by
    unfold V
    after_results
    rfl
  rw [e]
  exact split_cols _ _ _ _ k j

/-- The decoding rows are staged whole. -/
theorem stage0 (c : Dev nD) : iblk m c 0 pt = m ((c : Thread nD τ).loc main_arg0) :=
  (whole_block (B := iblk m c 0 pt) ((cfg0.win 0).blk pt).view.emb (fun _ => rfl)
    (fun i => by show win0_0.index pt 0 * 32 + 1 * (i 0).val = _; rw [(index_at pt).1.1])
    fun i => by show win0_0.index pt 1 * 1024 + 1 * (i 1).val = _; rw [(index_at pt).1.2]).symm.trans (V_main_arg0 m c)

/-- The gain is staged whole. -/
theorem stage1 (c : Dev nD) (k : Fin 1024) : iblk m c 1 pt (ix2 0 k) = m ((c : Thread nD τ).loc main_arg1) (ix1 k) :=
  (congrFun ((whole_block (B := iblk m c 1 pt) ((cfg0.win 1).blk pt).view.emb (fun _ => rfl)
    (fun i => by show win0_1.index pt 0 * 1 + 1 * (i 0).val = _; rw [(index_at pt).2.1.1])
    fun i => by show win0_1.index pt 1 * 1024 + 1 * (i 1).val = _; rw [(index_at pt).2.1.2]).symm.trans (V_gain m c)) _).trans (row_apply _ k)

/-- The weight is staged with its columns in the split order. -/
theorem stage2 (c : Dev nD) (k j : Fin 1024) : iblk m c 2 pt (ix2 k j) = m ((c : Thread nD τ).loc main_arg2) (ix2 k (slot j)) :=
  (congrFun (whole_block (B := iblk m c 2 pt) ((cfg0.win 2).blk pt).view.emb (fun _ => rfl)
    (fun i => by show win0_2.index pt 0 * 1024 + 1 * (i 0).val = _; rw [(index_at pt).2.2.1.1])
    fun i => by show win0_2.index pt 1 * 1024 + 1 * (i 1).val = _; rw [(index_at pt).2.2.1.2]).symm _).trans (V_weight m c k j)

/-- `asked` of the arguments as launched. -/
abbrev launched (c : Dev nD) : S32x1024.Idx → EReal :=
  asked (m ((c : Thread nD τ).loc main_arg0)) (fun k => m ((c : Thread nD τ).loc main_arg1) (ix1 k)) (m ((c : Thread nD τ).loc main_arg2))

/-- The result of the kernel. -/
theorem array3 (c : Dev nD) : (dats m 0 c).arrAt 3 cfg0.N = launched m c := by
  refine (whole_block ((cfg0.win 3).blk pt).view.emb (congrFun (Value.blocks3 m c pt (flush0_3 pt))) (fun i => ?_) fun i => ?_).trans
    (((Value.flushed3 m c pt).trans (out3 _ _ _ _ (stage2 m c))).trans ?_)
  · show win0_3.index pt 0 * 32 + 1 * (i 0).val = _
    rw [(index_at pt).2.2.2.1]
  · show win0_3.index pt 1 * 1024 + 1 * (i 1).val = _
    rw [(index_at pt).2.2.2.2]
  · rw [stage0]
    exact congrArg (fun g => asked _ g _) (funext (stage1 m c))

end Query

section Reference

open Cert.Reference8Ideal Cert.Reference8Ideal.Read

variable (x0 : (⟨S32x1024, .f32⟩ : BufTy).Contents (Elt Ideal)) (x1 : (⟨S1024, .f32⟩ : BufTy).Contents (Elt Ideal))
  (x2 : (⟨S1024x1024, .bf16⟩ : BufTy).Contents (Elt Ideal))

/-- The reference's projection, the heads side by side. -/
theorem ref_asked (r : Fin 32) (j : Fin 1024) :
    val_main_v14 x0 x1 x2 (ix2 r j) = lin (rms (fun k => x0 (ix2 r k)) fun k => x1 (ix1 k)) (fun k j => x2 (ix2 k j)) j := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  rfl

/-- The reference's result. -/
theorem ref_query : val_main_v17 x0 x1 x2 = Query.asked x0 (fun k => x1 (ix1 k)) x2 := by
  refine array_ext fun r j => ?_
  unfold val_main_v17 val_main_v16 val_main_v15
  exact (split_cols _ _ _ _ r j).trans (ref_asked x0 x1 x2 r (slot j))

end Reference

end Cert.Decode

end
-- ==== Proof.Blend.lean ====
/- A softmax-weighted sum taken with the division after the sum, and its agreement with the division before the sum when the
   scores are finite. -/
module

public import proofs.«01_k».proof.Proof.Row
public import Idealize.ShloMosaic.PureOps.Ideal.Laws

@[expose] public section

noncomputable section

namespace Cert.Decode

open Idealize.ShloMosaic Cert.Tail

/-- The exponentials' weighted sum over the exponentials' sum. -/
def blend (s v : Fin 256 → EReal) : EReal :=
  Ideal.div (∑ j, Ideal.exp (s j - peak s) * v j) (∑ j, Ideal.exp (s j - peak s))

/-- A real number, as an extended real. -/
def Finite (x : EReal) : Prop := ∃ r : ℝ, x = (r : EReal)

/-- The product of two real numbers is one. -/
theorem Finite.mul {x y : EReal} (hx : Finite x) (hy : Finite y) : Finite (x * y) := by
  obtain ⟨a, rfl⟩ := hx
  obtain ⟨b, rfl⟩ := hy
  exact ⟨a * b, (EReal.coe_mul a b).symm⟩

/-- The sum of two real numbers is one. -/
theorem Finite.add {x y : EReal} (hx : Finite x) (hy : Finite y) : Finite (x + y) := by
  obtain ⟨a, rfl⟩ := hx
  obtain ⟨b, rfl⟩ := hy
  exact ⟨a + b, (EReal.coe_add a b).symm⟩

/-- The sum of finitely many real numbers is one. -/
theorem Finite.sum {n : ℕ} {f : Fin n → EReal} (h : ∀ i, Finite (f i)) : Finite (∑ i, f i) :=
  Finset.sum_induction f Finite (fun _ _ => Finite.add) ⟨0, rfl⟩ fun i _ => h i

/-- An extended real whose absolute value is below infinity is a real number. -/
theorem finite_of_abs {x : EReal} (h : max x (-x) < ⊤) : Finite x := by
  induction x with
  | bot => simp at h
  | top => simp at h
  | coe r => exact ⟨r, rfl⟩

/-- The scale of the scores is one sixteenth. -/
theorem scale_finite : Finite (Ideal.ofBits .f32 0x3D800000#32) :=
  ⟨1 / 16, by simp [Ideal.ofBits, Ideal.ieee, -EReal.coe_mul]; norm_num⟩

/-- The scores of a finite query against finite keys are finite. -/
theorem logits_finite {q : Fin 256 → EReal} {mk : Fin 256 → Fin 256 → EReal} (hq : ∀ d, Finite (q d)) (hk : ∀ j d, Finite (mk j d))
    (j : Fin 256) : Finite (logits q mk j) :=
  Finite.mul (Finite.sum fun d => (hq d).mul (hk j d)) scale_finite

/-- The pattern the largest score starts from is minus infinity. -/
theorem bottom : Ideal.ofBits .f32 0xFF800000#32 = ⊥ := by
  simp [Ideal.ofBits, Ideal.ieee]

/-- The largest of finite scores is finite. -/
theorem peak_finite {s : Fin 256 → EReal} (h : ∀ j, Finite (s j)) : Finite (peak s) := by
  have hlt : peak s < ⊤ := by
    refine (Finset.fold_max_lt _).mpr ⟨by rw [bottom]; exact bot_lt_top, fun j _ => ?_⟩
    obtain ⟨r, e⟩ := h j
    rw [e]
    exact EReal.coe_lt_top r
  have hgt : ⊥ < peak s := by
    refine (Finset.lt_fold_max _).mpr (Or.inr ⟨0, Finset.mem_univ _, ?_⟩)
    obtain ⟨r, e⟩ := h 0
    rw [e]
    exact EReal.bot_lt_coe r
  exact ⟨(peak s).toReal, (EReal.coe_toReal hlt.ne hgt.ne').symm⟩

/-- A nonnegative real factor may be taken into a sum. -/
theorem sum_scaled {n : ℕ} (f : Fin n → EReal) (a : ℝ) (ha : 0 ≤ a) : (∑ j, f j) * (a : EReal) = ∑ j, f j * (a : EReal) := by
  induction n with
  | zero => simp
  | succ n ih =>
    rw [Fin.sum_univ_succ, Fin.sum_univ_succ, ← ih, mul_comm,
      EReal.left_distrib_of_nonneg_of_ne_top (EReal.coe_nonneg.mpr ha) (EReal.coe_ne_top a), mul_comm, mul_comm (a : EReal)]

/-- A sum of real numbers, as extended reals. -/
theorem sum_real {n : ℕ} (f : Fin n → ℝ) : ((∑ j, f j : ℝ) : EReal) = ∑ j, (f j : EReal) := by
  induction n with
  | zero => simp
  | succ n ih => rw [Fin.sum_univ_succ, Fin.sum_univ_succ, EReal.coe_add, ih]

/-- With finite scores the division may be taken before the sum: the blend is the sum of the values with softmax weights. -/
theorem blend_soft {s v : Fin 256 → EReal} (h : ∀ j, Finite (s j)) : blend s v = ∑ j, soft s j * v j := by
  obtain ⟨p, hp⟩ := peak_finite h
  choose r hr using h
  have he : ∀ j, Ideal.exp (s j - peak s) = ((Real.exp (r j - p) : ℝ) : EReal) := by
    intro j
    rw [hp, hr j, ← EReal.coe_sub]
    exact Ideal.exp_coe _
  have hs : ∑ j, Ideal.exp (s j - peak s) = ((∑ j, Real.exp (r j - p) : ℝ) : EReal) := by
    rw [sum_real]
    exact Finset.sum_congr rfl fun j _ => he j
  have hpos : 0 < ∑ j, Real.exp (r j - p) := Finset.sum_pos (fun j _ => Real.exp_pos _) ⟨0, Finset.mem_univ _⟩
  have hd : ∀ x : EReal, Ideal.div x ((∑ j, Real.exp (r j - p) : ℝ) : EReal) = x * (((∑ j, Real.exp (r j - p))⁻¹ : ℝ) : EReal) := by
    intro x
    unfold Ideal.div
    rw [if_neg (by simpa using hpos.ne'), EReal.coe_inv]
  unfold blend soft
  rw [hs, hd, sum_scaled _ _ (inv_nonneg.mpr hpos.le)]
  refine Finset.sum_congr rfl fun j _ => ?_
  rw [hd, mul_right_comm]

end Cert.Decode

end
-- ==== Proof.DecodeCross.lean ====
/- The decoding rows' reading of the memory: four heads, each a softmax over the memory's 256 rows, with the heads' channels
   in the split order, in the kernel and in the reference. -/
module

public import proofs.«01_k».proof.Proof.Gen.Kernel9Ideal.Value
public import proofs.«01_k».proof.Proof.Gen.Reference9Ideal.Read
public import proofs.«01_k».proof.Proof.Row
public import proofs.«01_k».proof.Proof.Whole
public import proofs.«01_k».proof.Proof.Slots
public import proofs.«01_k».proof.Proof.Blend

@[expose] public section

noncomputable section

namespace Cert.Decode

open Idealize.ShloMosaic Idealize.ShloMosaic.TcCoe Idealize.SL.Sem Cert.Tail

namespace Cross

/-- The head whose half a row of eight holds. -/
def headOf (r : Fin 8) : Fin 4 := ⟨r.val % 4, by omega⟩

/-- The channel of its head that stands at a row of eight and a lane. -/
def chanOf (r : Fin 8) (l : Fin 128) : Fin 256 := ⟨r.val / 4 * 128 + l.val, by omega⟩

/-- The sum over one half of a head's channels. -/
def half (f : Fin 4 → Fin 256 → EReal) (r : Fin 8) : EReal := ∑ l : Fin 128, f (headOf r) (chanOf r l)

/-- The two halves of a head's channels, at a row and at the row four below it, are all its channels. -/
theorem halves (f : Fin 4 → Fin 256 → EReal) (r : Fin 8) :
    half f r + (if h : r.val < 4 then half f ⟨4 + r.val, by omega⟩ else half f ⟨r.val - 4, by omega⟩) = ∑ d, f (headOf r) d := by
  have hsum : ∀ g : Fin 256 → EReal, ∑ d, g d
      = (∑ l : Fin 128, g ⟨0 + l.val, by omega⟩) + ∑ l : Fin 128, g ⟨128 + l.val, by omega⟩ := by
    intro g
    refine (Fin.sum_univ_add (a := 128) (b := 128) g).trans (congrArg₂ (· + ·) ?_ ?_)
    · exact Finset.sum_congr rfl fun l _ => congrArg g (Fin.ext (show l.val = 0 + l.val by omega))
    · exact Finset.sum_congr rfl fun l _ => rfl
  have hh : ∀ (r r' : Fin 8) (o : ℕ) (ho : o ≤ 128), r'.val % 4 = r.val % 4 → r'.val / 4 * 128 = o →
      half f r' = ∑ l : Fin 128, f (headOf r) ⟨o + l.val, by omega⟩ := by
    intro r r' o ho h1 h2
    refine Finset.sum_congr rfl fun l _ => congrArg₂ f (Fin.ext h1) (Fin.ext ?_)
    show r'.val / 4 * 128 + l.val = o + l.val
    omega
  rw [hsum]
  by_cases h : r.val < 4
  · rw [dif_pos h, hh r r 0 (by omega) rfl (by omega),
      hh r ⟨4 + r.val, by omega⟩ 128 (by omega) (by show (4 + r.val) % 4 = _; omega) (by show (4 + r.val) / 4 * 128 = 128; omega)]
  · rw [dif_neg h, hh r r 128 (by omega) rfl (by omega),
      hh r ⟨r.val - 4, by omega⟩ 0 (by omega) (by show (r.val - 4) % 4 = _; omega) (by show (r.val - 4) / 4 * 128 = 0; omega), add_comm]

open Cert.Kernel9Ideal Cert.Kernel9Ideal.Gen

/-- What the body leaves at a row and a lane, when the blocks hold the heads' channels in the split order. -/
theorem pay_apply (k : Vec Ideal S1x1x256x8x128 .f32) (q : Vec Ideal S1x8x128 .f32) (v : Vec Ideal S1x1x256x8x128 .f32)
    (Q : Fin 4 → Fin 256 → EReal) (K W : Fin 256 → Fin 4 → Fin 256 → EReal)
    (hq : ∀ r l, q (ix3 0 r l) = Q (headOf r) (chanOf r l)) (hk : ∀ j r l, k (ix5 0 0 j r l) = K j (headOf r) (chanOf r l))
    (hv : ∀ j r l, v (ix5 0 0 j r l) = W j (headOf r) (chanOf r l)) (r : Fin 8) (l : Fin 128) :
    k0_pay1 k q v (ix3 0 r l)
      = blend (logits (Q (headOf r)) fun j => K j (headOf r)) (fun j => W j (headOf r) (chanOf r l)) := by
  have hs : ∀ j, logits (Q (headOf r)) (fun j => K j (headOf r)) j
      = (half (fun h d => K j h d * Q h d) r
          + (if h : r.val < 4 then half (fun h d => K j h d * Q h d) ⟨4 + r.val, by omega⟩
              else half (fun h d => K j h d * Q h d) ⟨r.val - 4, by omega⟩)) * Ideal.ofBits .f32 0x3D800000#32 := by
    intro j
    rw [halves]
    unfold logits
    exact congrArg (· * _) (Finset.sum_congr rfl fun d _ => mul_comm _ _)
  pointwise [k0_pay1]
  simp only [hq, hk, hv]
  unfold blend peak
  simp only [hs]
  rfl

/-- What a decoding row reads from the memory, at the row of eight and the lane of the split order, divided after the sum. -/
def gathered (q : Vec Ideal S32x1024 .f32) (mk mv : Vec Ideal S2x32x256x4x256 .f32) (i : S32x8x128.Idx) : EReal :=
  blend (logits (fun d => q (ix2 (i 0) (unslot (at4 (headOf (i 1)) d)))) fun j d => mk (ix5 1 (i 0) j (headOf (i 1)) d))
    (fun j => mv (ix5 1 (i 0) j (headOf (i 1)) (chanOf (i 1) (i 2))))

/-- The same as softmax weights' sums. -/
def read (q : Vec Ideal S32x1024 .f32) (mk mv : Vec Ideal S2x32x256x4x256 .f32) (i : S32x8x128.Idx) : EReal :=
  head (fun d => q (ix2 (i 0) (unslot (at4 (headOf (i 1)) d)))) (fun j d => mk (ix5 1 (i 0) j (headOf (i 1)) d))
    (fun j d => mv (ix5 1 (i 0) j (headOf (i 1)) d)) (chanOf (i 1) (i 2))

/-- With finite queries and keys the two are one. -/
theorem gathered_read {q : Vec Ideal S32x1024 .f32} {mk : Vec Ideal S2x32x256x4x256 .f32} (mv : Vec Ideal S2x32x256x4x256 .f32)
    (hq : ∀ i, Finite (q i)) (hk : ∀ i, Finite (mk i)) : gathered q mk mv = read q mk mv :=
  funext fun _ => blend_soft (logits_finite (fun _ => hq _) fun _ _ => hk _)

variable (m : (ℓ : Loc nD τ sig) → Buf (Elt Ideal) ℓ)

/-- The block of every window at a point of the grid. -/
theorem index_at : ∀ t : Fin grid0.N, (win0_0.index t 0 = t.val ∧ win0_0.index t 1 = 0 ∧ win0_0.index t 2 = 0)
    ∧ (win0_1.index t 0 = 1 ∧ win0_1.index t 1 = t.val ∧ win0_1.index t 2 = 0 ∧ win0_1.index t 3 = 0 ∧ win0_1.index t 4 = 0)
    ∧ (win0_2.index t 0 = 1 ∧ win0_2.index t 1 = t.val ∧ win0_2.index t 2 = 0 ∧ win0_2.index t 3 = 0 ∧ win0_2.index t 4 = 0)
    ∧ (win0_3.index t 0 = t.val ∧ win0_3.index t 1 = 0 ∧ win0_3.index t 2 = 0) := by
  decide +kernel

/-- The memory in the split order, read at a place. -/
theorem split_view (x : Vec Ideal S2x32x256x4x256 .f32) (a : Fin 2) (b : Fin 32) (j : Fin 256) (r : Fin 8) (l : Fin 128) :
    shapeCast S2x32x256x8x128 (transpose S2x32x256x2x4x128 [0, 1, 2, 4, 3, 5]
      (shapeCast S2x32x256x4x2x128 x shapeCasts_S2x32x256x4x256_S2x32x256x4x2x128)
      transposes_S2x32x256x4x2x128_S2x32x256x2x4x128_0_1_2_4_3_5) shapeCasts_S2x32x256x2x4x128_S2x32x256x8x128 (ix5 a b j r l)
      = x (ix5 a b j (headOf r) (chanOf r l)) := by
  refine (shapeCast_apply _ shapeCasts_S2x32x256x2x4x128_S2x32x256x8x128 (ix5 a b j r l) (ix6 a b j (⟨r.val / 4, by omega⟩ : Fin 2) (headOf r) l) ?_).trans
    ((transpose_apply _ _ transposes_S2x32x256x4x2x128_S2x32x256x2x4x128_0_1_2_4_3_5 _ (ix6 a b j (headOf r) (⟨r.val / 4, by omega⟩ : Fin 2) l) fun y => ?_).trans
      (shapeCast_apply x shapeCasts_S2x32x256x4x256_S2x32x256x4x2x128 _ (ix5 a b j (headOf r) (chanOf r l)) ?_))
  · rw [Shape.rowMajor_val_five, Shape.rowMajor_val_six]
    show ((((a.val * 32 + b.val) * 256 + j.val) * 2 + r.val / 4) * 4 + r.val % 4) * 128 + l.val
      = (((a.val * 32 + b.val) * 256 + j.val) * 8 + r.val) * 128 + l.val
    omega
  · match y with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_five, Shape.rowMajor_val_six]
    show (((a.val * 32 + b.val) * 256 + j.val) * 4 + r.val % 4) * 256 + (r.val / 4 * 128 + l.val)
      = ((((a.val * 32 + b.val) * 256 + j.val) * 4 + r.val % 4) * 2 + r.val / 4) * 128 + l.val
    omega

/-- The queries in rows of eight, read at a place. -/
theorem query_view (x : Vec Ideal S32x1024 .f32) (b : Fin 32) (r : Fin 8) (l : Fin 128) (h : S32x1024.ShapeCasts S32x8x128) :
    shapeCast S32x8x128 x h (ix3 b r l) = x (ix2 b (unslot (at4 (headOf r) (chanOf r l)))) := by
  refine shapeCast_apply x h _ _ ?_
  rw [Shape.rowMajor_val_two, Shape.rowMajor_val_three]
  show b.val * 1024 + ((256 * (r.val % 4) + (r.val / 4 * 128 + l.val)) % 256 / 128 * 512
    + (256 * (r.val % 4) + (r.val / 4 * 128 + l.val)) / 256 * 128 + (256 * (r.val % 4) + (r.val / 4 * 128 + l.val)) % 128)
    = (b.val * 8 + r.val) * 128 + l.val
  omega

/-- The queries as the region finds them. -/
theorem V_query (c : Dev nD) (b : Fin 32) (r : Fin 8) (l : Fin 128) :
    V m c main_v6 (ix3 b r l) = m ((c : Thread nD τ).loc main_arg0) (ix2 b (unslot (at4 (headOf r) (chanOf r l)))) := by
  have e : V m c main_v6 = shapeCast S32x8x128 (m ((c : Thread nD τ).loc main_arg0)) shapeCasts_S32x1024_S32x8x128 := by
    unfold V
    after_results
    rfl
  rw [e]
  exact query_view _ _ _ _ _

/-- The memory's keys as the region finds them. -/
theorem V_key (c : Dev nD) (a : Fin 2) (b : Fin 32) (j : Fin 256) (r : Fin 8) (l : Fin 128) :
    V m c main_v2 (ix5 a b j r l) = m ((c : Thread nD τ).loc main_arg1) (ix5 a b j (headOf r) (chanOf r l)) := by
  have e : V m c main_v2 = shapeCast S2x32x256x8x128 (transpose S2x32x256x2x4x128 [0, 1, 2, 4, 3, 5]
      (shapeCast S2x32x256x4x2x128 (m ((c : Thread nD τ).loc main_arg1)) shapeCasts_S2x32x256x4x256_S2x32x256x4x2x128)
      transposes_S2x32x256x4x2x128_S2x32x256x2x4x128_0_1_2_4_3_5) shapeCasts_S2x32x256x2x4x128_S2x32x256x8x128 := by
    unfold V
    after_results
    rfl
  rw [e]
  exact split_view _ _ _ _ _ _

/-- The memory's values as the region finds them. -/
theorem V_value (c : Dev nD) (a : Fin 2) (b : Fin 32) (j : Fin 256) (r : Fin 8) (l : Fin 128) :
    V m c main_v5 (ix5 a b j r l) = m ((c : Thread nD τ).loc main_arg2) (ix5 a b j (headOf r) (chanOf r l)) := by
  have e : V m c main_v5 = shapeCast S2x32x256x8x128 (transpose S2x32x256x2x4x128 [0, 1, 2, 4, 3, 5]
      (shapeCast S2x32x256x4x2x128 (m ((c : Thread nD τ).loc main_arg2)) shapeCasts_S2x32x256x4x256_S2x32x256x4x2x128)
      transposes_S2x32x256x4x2x128_S2x32x256x2x4x128_0_1_2_4_3_5) shapeCasts_S2x32x256x2x4x128_S2x32x256x8x128 := by
    unfold V
    after_results
    rfl
  rw [e]
  exact split_view _ _ _ _ _ _

/-- The sequence a point of the grid reads. -/
def row (t : Fin grid0.N) : Fin 32 := ⟨t.val, t.isLt⟩

/-- An index of three axes is told by its three coordinates. -/
theorem at_eq3 {a b d : ℕ} {i j : (⟨3, ![a, b, d]⟩ : Shape).Idx} (h0 : (i 0).val = (j 0).val) (h1 : (i 1).val = (j 1).val)
    (h2 : (i 2).val = (j 2).val) : i = j := by
  funext x
  match x with
  | ⟨0, _⟩ => exact Fin.ext h0
  | ⟨1, _⟩ => exact Fin.ext h1
  | ⟨2, _⟩ => exact Fin.ext h2

/-- An index of five axes is told by its five coordinates. -/
theorem at_eq5 {a b d e g : ℕ} {i j : (⟨5, ![a, b, d, e, g]⟩ : Shape).Idx} (h0 : (i 0).val = (j 0).val) (h1 : (i 1).val = (j 1).val)
    (h2 : (i 2).val = (j 2).val) (h3 : (i 3).val = (j 3).val) (h4 : (i 4).val = (j 4).val) : i = j := by
  funext x
  match x with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-- The staged queries of a sequence. -/
theorem stage0 (c : Dev nD) (t : Fin grid0.N) (r : Fin 8) (l : Fin 128) : iblk m c 0 t (ix3 0 r l)
    = m ((c : Thread nD τ).loc main_arg0) (ix2 (row t) (unslot (at4 (headOf r) (chanOf r l)))) := by
  refine Eq.trans (congrArg (V m c main_v6) (at_eq3 (j := ix3 (row t) r l) ?_ ?_ ?_)) (V_query m c _ _ _)
  · show win0_0.index t 0 * 1 + 1 * 0 = t.val
    rw [(index_at t).1.1]; omega
  · show win0_0.index t 1 * 8 + 1 * r.val = r.val
    rw [(index_at t).1.2.1]; omega
  · show win0_0.index t 2 * 128 + 1 * l.val = l.val
    rw [(index_at t).1.2.2]; omega

/-- The staged keys of a sequence. -/
theorem stage1 (c : Dev nD) (t : Fin grid0.N) (j : Fin 256) (r : Fin 8) (l : Fin 128) : iblk m c 1 t (ix5 0 0 j r l)
    = m ((c : Thread nD τ).loc main_arg1) (ix5 1 (row t) j (headOf r) (chanOf r l)) := by
  refine Eq.trans (congrArg (V m c main_v2) (at_eq5 (j := ix5 1 (row t) j r l) ?_ ?_ ?_ ?_ ?_)) (V_key m c _ _ _ _ _)
  · show win0_1.index t 0 * 1 + 1 * 0 = 1
    rw [(index_at t).2.1.1]
  · show win0_1.index t 1 * 1 + 1 * 0 = t.val
    rw [(index_at t).2.1.2.1]; omega
  · show win0_1.index t 2 * 256 + 1 * j.val = j.val
    rw [(index_at t).2.1.2.2.1]; omega
  · show win0_1.index t 3 * 8 + 1 * r.val = r.val
    rw [(index_at t).2.1.2.2.2.1]; omega
  · show win0_1.index t 4 * 128 + 1 * l.val = l.val
    rw [(index_at t).2.1.2.2.2.2]; omega

/-- The staged values of a sequence. -/
theorem stage2 (c : Dev nD) (t : Fin grid0.N) (j : Fin 256) (r : Fin 8) (l : Fin 128) : iblk m c 2 t (ix5 0 0 j r l)
    = m ((c : Thread nD τ).loc main_arg2) (ix5 1 (row t) j (headOf r) (chanOf r l)) := by
  refine Eq.trans (congrArg (V m c main_v5) (at_eq5 (j := ix5 1 (row t) j r l) ?_ ?_ ?_ ?_ ?_)) (V_value m c _ _ _ _ _)
  · show win0_2.index t 0 * 1 + 1 * 0 = 1
    rw [(index_at t).2.2.1.1]
  · show win0_2.index t 1 * 1 + 1 * 0 = t.val
    rw [(index_at t).2.2.1.2.1]; omega
  · show win0_2.index t 2 * 256 + 1 * j.val = j.val
    rw [(index_at t).2.2.1.2.2.1]; omega
  · show win0_2.index t 3 * 8 + 1 * r.val = r.val
    rw [(index_at t).2.2.1.2.2.2.1]; omega
  · show win0_2.index t 4 * 128 + 1 * l.val = l.val
    rw [(index_at t).2.2.1.2.2.2.2]; omega

/-- The three zero offsets, as the constant function. -/
theorem zeros3 : (![0, 0, 0] : Fin 3 → Nat) = fun _ => 0 := funext fun a => by fin_cases a <;> rfl

/-- The five zero offsets, as the constant function. -/
theorem zeros5 : (![0, 0, 0, 0, 0] : Fin 5 → Nat) = fun _ => 0 := funext fun a => by fin_cases a <;> rfl

/-- What a point of the grid leaves in its output block. -/
theorem out3 (c : Dev nD) (t : Fin grid0.N) (r : Fin 8) (l : Fin 128) : out0_3 (iblk m c 0 t) (iblk m c 1 t) (iblk m c 2 t) (ix3 0 r l)
    = gathered (m ((c : Thread nD τ).loc main_arg0)) (m ((c : Thread nD τ).loc main_arg1)) (m ((c : Thread nD τ).loc main_arg2))
        (ix3 (row t) r l) := by
  unfold out0_3
  rw [View.canon_cons_unit_zero zeros3, View.ld_unit_zero zeros5, View.ld_unit_zero zeros3, View.ld_unit_zero zeros5]
  exact pay_apply _ _ _ (fun h d => m ((c : Thread nD τ).loc main_arg0) (ix2 (row t) (unslot (at4 h d))))
    (fun j h d => m ((c : Thread nD τ).loc main_arg1) (ix5 1 (row t) j h d)) (fun j h d => m ((c : Thread nD τ).loc main_arg2) (ix5 1 (row t) j h d))
    (stage0 m c t) (stage1 m c t) (stage2 m c t) r l

/-- `read` of the arguments as launched. -/
abbrev launched (c : Dev nD) : S32x8x128.Idx → EReal :=
  read (m ((c : Thread nD τ).loc main_arg0)) (m ((c : Thread nD τ).loc main_arg1)) (m ((c : Thread nD τ).loc main_arg2))

/-- The place in the result of a place in a point's output block. -/
theorem place (i : S32x8x128.Idx) : ((cfg0.win 3).blk (i 0)).view.emb (ix3 0 (i 1) (i 2)) = i := by
  refine at_eq3 ?_ ?_ ?_
  · show win0_3.index (i 0) 0 * 1 + 1 * 0 = (i 0).val
    rw [(index_at (i 0)).2.2.2.1]; omega
  · show win0_3.index (i 0) 1 * 8 + 1 * (i 1).val = (i 1).val
    rw [(index_at (i 0)).2.2.2.2.1]; omega
  · show win0_3.index (i 0) 2 * 128 + 1 * (i 2).val = (i 2).val
    rw [(index_at (i 0)).2.2.2.2.2]; omega

/-- The result of the kernel, with the division after the sums. -/
theorem array_gathered (c : Dev nD) : (dats m 0 c).arrAt 3 cfg0.N
    = gathered (m ((c : Thread nD τ).loc main_arg0)) (m ((c : Thread nD τ).loc main_arg1)) (m ((c : Thread nD τ).loc main_arg2)) := by
  funext i
  refine (congrArg ((dats m 0 c).arrAt 3 cfg0.N) (place i).symm).trans ?_
  refine (congrFun (Value.blocks3 m c (i 0) (flush0_3 (i 0))) (ix3 0 (i 1) (i 2))).trans ?_
  refine (congrFun (Value.flushed3 m c (i 0)) (ix3 0 (i 1) (i 2))).trans ?_
  refine (out3 m c (i 0) (i 1) (i 2)).trans (congrArg _ ?_)
  exact at_eq3 rfl rfl rfl

/-- The result of the kernel, when the queries and the keys are finite. -/
theorem array3 (c : Dev nD) (hq : ∀ i, Finite (m ((c : Thread nD τ).loc main_arg0) i))
    (hk : ∀ i, Finite (m ((c : Thread nD τ).loc main_arg1) i)) : (dats m 0 c).arrAt 3 cfg0.N = launched m c :=
  (array_gathered m c).trans (gathered_read _ hq hk)

end Cross

end Cert.Decode

end
-- ==== Proof.DecodeCrossRef.lean ====
/- The reference of the decoding rows' reading of the memory, read at a place, and what the precondition says. -/
module

public import proofs.«01_k».proof.Pre_finite9
public import proofs.«01_k».proof.Proof.DecodeCross
public import Idealize.ShloMosaic.Lib.KernelVsHost

@[expose] public section

noncomputable section

namespace Cert.Decode

open Idealize.ShloMosaic Idealize.ShloMosaic.TcCoe Idealize.SL.Sem Cert.Tail

namespace Cross

/-- The pattern of infinity. -/
theorem infinity : Ideal.ofBits .f32 0x7F800000#32 = ⊤ := by
  simp [Ideal.ofBits, Ideal.ieee]

/-- An ordered comparison of an absolute value with infinity that holds says the value is finite. -/
theorem finite_of_cmp {x : EReal} (h : Ideal.cmp .olt (max x (-x)) (Ideal.ofBits .f32 0x7F800000#32) = 1#1) : Finite x := by
  refine finite_of_abs ?_
  rw [infinity] at h
  by_contra hn
  simp [Ideal.cmp, hn] at h

/-- The precondition: the queries and the keys are finite. -/
theorem finite_args [Cert.Pre_finite9.Facts] {q : FVec Ideal Cert.Pre_finite9.S32x1024 .f32}
    {mk mv : FVec Ideal Cert.Pre_finite9.S2x32x256x4x256 .f32}
    (h : (Cert.Pre_finite9.fn q mk mv).1 = (fun _ => 1#1) ∧ (Cert.Pre_finite9.fn q mk mv).2 = (fun _ => 1#1)) :
    (∀ i, Finite (q i)) ∧ ∀ i, Finite (mk i) :=
  ⟨fun i => finite_of_cmp (congrFun h.1 i), fun i => finite_of_cmp (congrFun h.2 i)⟩

end Cross

section Reference

open Cert.Reference9Ideal Cert.Reference9Ideal.Gen Cert.Reference9Ideal.Read

variable (x0 : (⟨S32x1024, .f32⟩ : BufTy).Contents (Elt Ideal)) (x1 x2 : (⟨S2x32x256x4x256, .f32⟩ : BufTy).Contents (Elt Ideal))

/-- The reference's queries, the heads side by side. -/
theorem cross_query (b : Fin 32) (h : Fin 4) (d : Fin 256) : val_main_v2 x0 (ix3 b h d) = x0 (ix2 b (unslot (at4 h d))) := by
  have h2 : idx_main_v1 (idx_main_v2 (ix3 b h d)) = ix4 b (⟨d.val / 128, by omega⟩ : Fin 2) h (⟨d.val % 128, by omega⟩ : Fin 128) := by
    funext a
    match a with
    | ⟨0, _⟩ => exact Fin.ext (show ((b.val * 4 + h.val) * 256 + d.val) / 1024 = b.val by omega)
    | ⟨1, _⟩ => exact Fin.ext (show ((b.val * 4 + h.val) * 256 + d.val) / 128 % 2 = d.val / 128 by omega)
    | ⟨2, _⟩ => exact Fin.ext (show ((b.val * 4 + h.val) * 256 + d.val) / 256 % 4 = h.val by omega)
    | ⟨3, _⟩ => exact Fin.ext (show ((b.val * 4 + h.val) * 256 + d.val) % 128 = d.val % 128 by omega)
  rw [val_main_v2_apply, val_main_v1_apply, h2, val_main_v0_apply]
  refine congrArg x0 (at_eq ?_ ?_)
  · show (((b.val * 2 + d.val / 128) * 4 + h.val) * 128 + d.val % 128) / 1024 = b.val
    omega
  · show (((b.val * 2 + d.val / 128) * 4 + h.val) * 128 + d.val % 128) % 1024
      = (256 * h.val + d.val) % 256 / 128 * 512 + (256 * h.val + d.val) / 256 * 128 + (256 * h.val + d.val) % 128
    omega

/-- The second layer's memory, read at a place. -/
theorem layer_view (x : (⟨S2x32x256x4x256, .f32⟩ : BufTy).Contents (Elt Ideal)) (b : Fin 32) (j : Fin 256) (h : Fin 4) (d : Fin 256) :
    val_main_v4 x (ix4 b j h d) = x (ix5 1 b j h d) := by
  rw [val_main_v4_apply, val_main_v3_apply]
  refine congrArg x (Cross.at_eq5 rfl ?_ ?_ ?_ ?_)
  · show (((b.val * 256 + j.val) * 4 + h.val) * 256 + d.val) / 262144 % 32 = b.val
    omega
  · show (((b.val * 256 + j.val) * 4 + h.val) * 256 + d.val) / 1024 % 256 = j.val
    omega
  · show (((b.val * 256 + j.val) * 4 + h.val) * 256 + d.val) / 256 % 4 = h.val
    omega
  · show (((b.val * 256 + j.val) * 4 + h.val) * 256 + d.val) % 256 = d.val
    omega

/-- The reference's scores of one head. -/
abbrev cross_logits (b : Fin 32) (h : Fin 4) : Fin 256 → EReal :=
  logits (fun d => x0 (ix2 b (unslot (at4 h d)))) fun j d => x1 (ix5 1 b j h d)

/-- The reference's scaled products. -/
theorem cross_scores (b : Fin 32) (h : Fin 4) (j : Fin 256) : val_main_v7 x0 x1 (ix3 b h j) = cross_logits x0 x1 b h j := by
  rw [val_main_v7_apply, val_main_v5_apply, val_main_v6_apply, val_main_cst_apply]
  refine congrArg (· * _) (Finset.sum_congr rfl fun d _ => ?_)
  have hl : lidx_main_v5 (ix3 b h j) d = ix3 b h d := Cross.at_eq3 rfl rfl rfl
  have hr : ridx_main_v5 (ix3 b h j) d = ix4 b j h d := by
    funext a
    match a with
    | ⟨0, _⟩ => rfl
    | ⟨1, _⟩ => rfl
    | ⟨2, _⟩ => rfl
    | ⟨3, _⟩ => rfl
  rw [hl, hr, cross_query, layer_view]

/-- A maximum over the last axis, read at a row and a head. -/
theorem cross_fold (z : FVec Ideal S32x4x256 .f32) (b : Fin 32) (h : Fin 4) :
    Host.reduce FloatOps.maximumf z (constant (F := Ideal) S_ .f32 0xFF800000#32) reducesTo_S32x4x256_S32x4_d2 h_S_ (ix2 b h)
      = peak fun j => z (ix3 b h j) := by
  have hr : S32x4x256.Reduces [2] S32x4 := by decide
  refine ((congrFun (hostReduce_maximumf_eq_multiReduction (F := Ideal) z 0xFF800000#32 reducesTo_S32x4x256_S32x4_d2 h_S_
    hr (.inl rfl) rfl) (ix2 b h)).trans (Ideal.multiReduction_maximumf_single z 0xFF800000#32 hr (.inl rfl) rfl (ix2 b h))).trans ?_
  refine congrArg (fun f => Finset.univ.fold max (Ideal.ofBits .f32 0xFF800000#32) f) (funext fun k => congrArg z (funext fun a => ?_))
  match a with
  | ⟨0, _⟩ => rfl
  | ⟨1, _⟩ => rfl
  | ⟨2, _⟩ => rfl

/-- The reference's largest score of one head. -/
theorem cross_peak (b : Fin 32) (h : Fin 4) : val_main_v10 x0 x1 (ix2 b h) = peak (cross_logits x0 x1 b h) := by
  rw [val_main_v10_apply, val_main_v9_apply, val_main_cst_1_apply]
  unfold val_main_v8 val_main_cst_0
  rw [cross_fold, funext (cross_scores x0 x1 b h)]
  show max (Ideal.ofBits .f32 0xFF800000#32) _ = _
  rw [bottom]
  exact max_bot_left _

/-- The reference's exponentials. -/
theorem cross_exp (b : Fin 32) (h : Fin 4) (j : Fin 256) : val_main_v14 x0 x1 (ix3 b h j)
    = Ideal.exp (cross_logits x0 x1 b h j - peak (cross_logits x0 x1 b h)) := by
  have hi : idx_main_v11 (idx_main_v12 (ix3 b h j)) = ix2 b h := at_eq rfl rfl
  rw [val_main_v14_apply, val_main_v13_apply, val_main_v12_apply, val_main_v11_apply, hi, cross_peak, cross_scores]
  rfl

/-- The reference's softmax of one head's scores. -/
theorem cross_soft (b : Fin 32) (h : Fin 4) (j : Fin 256) : val_main_v18 x0 x1 (ix3 b h j) = soft (cross_logits x0 x1 b h) j := by
  rw [val_main_v18_apply, val_main_v17_apply, val_main_v16_apply, val_main_v15_apply, val_main_cst_2_apply, cross_exp]
  refine congrArg₂ Ideal.div rfl ?_
  refine Eq.trans (congrArg₂ (· + ·) Ideal.ofBits_zero_f32 (Finset.sum_congr rfl fun k _ => ?_)) (zero_add _)
  rw [← cross_exp]
  refine congrArg _ (funext fun a => ?_)
  match a with
  | ⟨0, _⟩ => rfl
  | ⟨1, _⟩ => rfl
  | ⟨2, _⟩ => rfl

/-- The reference's readings of one head. -/
theorem cross_head (b : Fin 32) (h : Fin 4) (d : Fin 256) : val_main_v21 x0 x1 x2 (ix3 b h d)
    = head (fun d => x0 (ix2 b (unslot (at4 h d)))) (fun j d => x1 (ix5 1 b j h d)) (fun j d => x2 (ix5 1 b j h d)) d := by
  rw [val_main_v21_apply]
  unfold head lin
  refine Finset.sum_congr rfl fun j _ => ?_
  have hl : lidx_main_v21 (ix3 b h d) j = ix3 b h j := Cross.at_eq3 rfl rfl rfl
  have hr : ridx_main_v21 (ix3 b h d) j = ix4 b j h d := by
    funext a
    match a with
    | ⟨0, _⟩ => rfl
    | ⟨1, _⟩ => rfl
    | ⟨2, _⟩ => rfl
    | ⟨3, _⟩ => rfl
  rw [hl, hr, cross_soft]
  exact congrArg (soft (cross_logits x0 x1 b h) j * ·) (layer_view x2 b j h d)

/-- The reference's result. -/
theorem ref_cross : val_main_v24 x0 x1 x2 = Cross.read x0 x1 x2 := by
  funext i
  have h0 : (i 0).val < 32 := (i 0).isLt
  have h1 : (i 1).val < 8 := (i 1).isLt
  have h2 : (i 2).val < 128 := (i 2).isLt
  have e : idx_main_v23 (idx_main_v24 i) = ix4 (⟨(i 0).val, h0⟩ : Fin 32) (Cross.headOf (i 1)) (⟨(i 1).val / 4, by omega⟩ : Fin 2) (⟨(i 2).val, h2⟩ : Fin 128) := by
    funext a
    match a with
    | ⟨0, _⟩ => exact Fin.ext (show (((i 0).val * 8 + (i 1).val) * 128 + (i 2).val) / 1024 = (i 0).val by omega)
    | ⟨1, _⟩ => exact Fin.ext (show (((i 0).val * 8 + (i 1).val) * 128 + (i 2).val) / 128 % 4 = (i 1).val % 4 by omega)
    | ⟨2, _⟩ => exact Fin.ext (show (((i 0).val * 8 + (i 1).val) * 128 + (i 2).val) / 512 % 2 = (i 1).val / 4 by omega)
    | ⟨3, _⟩ => exact Fin.ext (show (((i 0).val * 8 + (i 1).val) * 128 + (i 2).val) % 128 = (i 2).val by omega)
  have e' : ∀ (b : Fin 32) (h : Fin 4) (p : Fin 2) (l : Fin 128), idx_main_v22 (ix4 b h p l) = ix3 b h ⟨p.val * 128 + l.val, by omega⟩ := by
    intro b h p l
    refine Cross.at_eq3 ?_ ?_ ?_
    · show (((b.val * 4 + h.val) * 2 + p.val) * 128 + l.val) / 1024 = b.val
      omega
    · show (((b.val * 4 + h.val) * 2 + p.val) * 128 + l.val) / 256 % 4 = h.val
      omega
    · show (((b.val * 4 + h.val) * 2 + p.val) * 128 + l.val) % 256 = p.val * 128 + l.val
      omega
  rw [val_main_v24_apply, val_main_v23_apply, val_main_v22_apply, e, e', cross_head]
  rfl

end Reference

end Cert.Decode

end
-- ==== Proof.DecodeRead.lean ====
/- The output projection of what the decoding rows read from the memory: the residual rows plus the readings, kept in the
   split order, times the weight, in the kernel and in the reference. -/
module

public import proofs.«01_k».proof.Proof.Gen.Kernel10Ideal.Value
public import proofs.«01_k».proof.Proof.Gen.Reference10Ideal.Read
public import proofs.«01_k».proof.Proof.Row
public import proofs.«01_k».proof.Proof.Whole
public import proofs.«01_k».proof.Proof.Slots

@[expose] public section

noncomputable section

namespace Cert.Decode

open Idealize.ShloMosaic Idealize.ShloMosaic.TcCoe Idealize.SL.Sem Cert.Tail

namespace Recall

open Cert.Kernel10Ideal Cert.Kernel10Ideal.Gen

/-- The residual rows plus the readings times the weight, position by position of the split order. -/
def recalled (x o : Vec Ideal S32x1024 .f32) (w : Vec Ideal S1024x1024 .bf16) (i : S32x1024.Idx) : EReal :=
  x (ix2 (i 0) (i 1)) + ∑ k : Fin 1024, o (ix2 (i 0) k) * w (ix2 (slot k) (i 1))

/-- What the body leaves in the output block, when the weight's block has the rows of `w` in the split order. -/
theorem out3 (x0 x1 : Vec Ideal S32x1024 .f32) (x2 w : Vec Ideal S1024x1024 .bf16) (h2 : ∀ k j, x2 (ix2 k j) = w (ix2 (slot k) j)) :
    out0_3 x0 x1 x2 = recalled x0 x1 w := by
  refine array_ext fun r c => ?_
  unfold out0_3
  rw [View.canon_cons_unit_zero zeros, View.ld_unit_zero zeros, View.ld_unit_zero zeros, View.ld_unit_zero zeros]
  pointwise [k0_pay1]
  simp only [h2]
  rfl

variable (m : (ℓ : Loc nD τ sig) → Buf (Elt Ideal) ℓ)

/-- Every window has one block, the first. -/
theorem index_at : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) := by
  decide +kernel

/-- The only point of the grid. -/
def pt : Fin grid0.N := ⟨0, show 0 < 1 by omega⟩

/-- The weight as the region finds it: its rows in the split order. -/
theorem V_weight (c : Dev nD) (k j : Fin 1024) :
    V m c main_v2 (ix2 k j) = m ((c : Thread nD τ).loc main_arg2) (ix2 (slot k) j) := by
  have e : V m c main_v2 = shapeCast S1024x1024 (transpose S2x4x128x1024 [1, 0, 2, 3]
      (shapeCast S4x2x128x1024 (m ((c : Thread nD τ).loc main_arg2)) shapeCasts_S1024x1024_S4x2x128x1024)
      transposes_S4x2x128x1024_S2x4x128x1024_1_0_2_3) shapeCasts_S2x4x128x1024_S1024x1024 := by
    unfold V
    after_results
    rfl
  rw [e]
  exact split_rows _ _ _ _ k j

/-- The residual rows are staged whole. -/
theorem stage0 (c : Dev nD) : iblk m c 0 pt = m ((c : Thread nD τ).loc main_arg0) :=
  (whole_block (B := iblk m c 0 pt) ((cfg0.win 0).blk pt).view.emb (fun _ => rfl)
    (fun i => by show win0_0.index pt 0 * 32 + 1 * (i 0).val = _; rw [(index_at pt).1.1])
    fun i => by show win0_0.index pt 1 * 1024 + 1 * (i 1).val = _; rw [(index_at pt).1.2]).symm.trans (V_main_arg0 m c)

/-- The readings are staged whole. -/
theorem stage1 (c : Dev nD) : iblk m c 1 pt = m ((c : Thread nD τ).loc main_arg1) :=
  (whole_block (B := iblk m c 1 pt) ((cfg0.win 1).blk pt).view.emb (fun _ => rfl)
    (fun i => by show win0_1.index pt 0 * 32 + 1 * (i 0).val = _; rw [(index_at pt).2.1.1])
    fun i => by show win0_1.index pt 1 * 1024 + 1 * (i 1).val = _; rw [(index_at pt).2.1.2]).symm.trans (V_main_arg1 m c)

/-- The weight is staged with its rows in the split order. -/
theorem stage2 (c : Dev nD) (k j : Fin 1024) : iblk m c 2 pt (ix2 k j) = m ((c : Thread nD τ).loc main_arg2) (ix2 (slot k) j) :=
  (congrFun (whole_block (B := iblk m c 2 pt) ((cfg0.win 2).blk pt).view.emb (fun _ => rfl)
    (fun i => by show win0_2.index pt 0 * 1024 + 1 * (i 0).val = _; rw [(index_at pt).2.2.1.1])
    fun i => by show win0_2.index pt 1 * 1024 + 1 * (i 1).val = _; rw [(index_at pt).2.2.1.2]).symm _).trans (V_weight m c k j)

/-- `recalled` of the arguments as launched. -/
abbrev launched (c : Dev nD) : S32x1024.Idx → EReal :=
  recalled (m ((c : Thread nD τ).loc main_arg0)) (m ((c : Thread nD τ).loc main_arg1)) (m ((c : Thread nD τ).loc main_arg2))

/-- The result of the kernel. -/
theorem array3 (c : Dev nD) : (dats m 0 c).arrAt 3 cfg0.N = launched m c := by
  refine (whole_block ((cfg0.win 3).blk pt).view.emb (congrFun (Value.blocks3 m c pt (flush0_3 pt))) (fun i => ?_) fun i => ?_).trans
    (((Value.flushed3 m c pt).trans (out3 _ _ _ _ (stage2 m c))).trans ?_)
  · show win0_3.index pt 0 * 32 + 1 * (i 0).val = _
    rw [(index_at pt).2.2.2.1]
  · show win0_3.index pt 1 * 1024 + 1 * (i 1).val = _
    rw [(index_at pt).2.2.2.2]
  · rw [stage0, stage1]

end Recall

section Reference

open Cert.Reference10Ideal Cert.Reference10Ideal.Read

variable (x0 x1 : (⟨S32x1024, .f32⟩ : BufTy).Contents (Elt Ideal)) (x2 : (⟨S1024x1024, .bf16⟩ : BufTy).Contents (Elt Ideal))

/-- The reference's readings, the heads side by side. -/
theorem ref_side (r : Fin 32) (k : Fin 1024) : val_main_v2 x1 (ix2 r k) = x1 (ix2 r (unslot k)) := by
  unfold val_main_v2 val_main_v1 val_main_v0
  exact join_cols _ _ _ _ r k

/-- The reference's result. -/
theorem ref_recall : val_main_v5 x0 x1 x2 = Recall.recalled x0 x1 x2 := by
  refine array_ext fun r c => ?_
  pointwise [val_main_v5, val_main_v4, val_main_v3]
  simp only [ref_side]
  unfold Recall.recalled
  refine congrArg (x0 (ix2 r c) + ·) ((sum_slot _).symm.trans (Finset.sum_congr rfl fun k _ => ?_))
  rw [unslot_slot]
  rfl

end Reference

end Cert.Decode

end
-- ==== Proof.FirstLayer.lean ====
/- The same tail without the closing norm, as the first layer runs it: the kernel's result array and the reference's, both
   the rows of the residual stream after the feed-forward step.  The two programs stage the same blocks as the ones with
   the norm and differ from them in the last store only, so the lemmas about those are used as they are. -/
module

public import proofs.«01_k».proof.Proof.Array
public import proofs.«01_k».proof.Proof.Ref
public import proofs.«01_k».proof.Proof.Gen.Kernel11Ideal.Value
public import proofs.«01_k».proof.Proof.Gen.Reference11Ideal.Read

@[expose] public section

noncomputable section

namespace Cert.FirstLayer

open Idealize.ShloMosaic Idealize.ShloMosaic.TcCoe Idealize.SL.Sem Cert.Kernel11Ideal Cert.Kernel11Ideal.Gen Cert.Tail
open Idealize.ShloMosaic.Pipeline (Dat)

/-- The residual row after the feed-forward step of a row `x`. -/
def fed (x gf : Fin 1024 → EReal) (wg wu : Fin 1024 → Fin 2816 → EReal) (wd : Fin 2816 → Fin 1024 → EReal) (c : Fin 1024) : EReal :=
  x c + lin (act (rms x gf) wg wu) wd c

/-- The output block, from the residual block after the cross-attention. -/
def blk (z : FVec Ideal S512x1024 .f32) (x12 : Vec Ideal S1x1024 .f32) (x13 x14 : Vec Ideal S1024x2816 .bf16)
    (x15 : Vec Ideal S2816x1024 .bf16) : FVec Ideal S512x1024 .f32 :=
  k0_pay1 (k0_pay12 z) (k0_pay14 z x12 x13) (k0_pay15 z x12 x14) x15

/-- The feed-forward step of a block, row by row. -/
theorem blk_apply (z : FVec Ideal S512x1024 .f32) (x12 : Vec Ideal S1x1024 .f32) (x13 x14 : Vec Ideal S1024x2816 .bf16)
    (x15 : Vec Ideal S2816x1024 .bf16) (r : Fin 512) (c : Fin 1024) :
    blk z x12 x13 x14 x15 (ix2 r c)
      = fed (fun k => z (ix2 r k)) (fun k => x12 (ix2 0 k)) (fun k j => x13 (ix2 k j)) (fun k j => x14 (ix2 k j))
          (fun j c => x15 (ix2 j c)) c := by
  pointwise [blk, k0_pay1, k0_pay12, k0_pay13, k0_pay14, k0_pay15]
  rfl

variable (m : (ℓ : Loc nD τ sig) → Buf (Elt Ideal) ℓ)

/-- The body's last store through the whole staging buffer leaves the three steps' composition of the staged blocks,
    which are the blocks the program with the norm stages. -/
theorem outsAt0_eq (c : Dev nD) (t : Fin cfg0.N) :
    outsAt0 m c t = blk (blk2 (blk1 (KernelIdeal.Gen.iblk m c 0 t) (KernelIdeal.Gen.iblk m c 1 t) (KernelIdeal.Gen.iblk m c 2 t)
        (KernelIdeal.Gen.iblk m c 3 t) (KernelIdeal.Gen.iblk m c 4 t) (KernelIdeal.Gen.iblk m c 5 t) (KernelIdeal.Gen.iblk m c 6 t))
        (KernelIdeal.Gen.iblk m c 7 t) (KernelIdeal.Gen.iblk m c 8 t) (KernelIdeal.Gen.iblk m c 9 t) (KernelIdeal.Gen.iblk m c 10 t)
        (KernelIdeal.Gen.iblk m c 11 t))
      (KernelIdeal.Gen.iblk m c 12 t) (KernelIdeal.Gen.iblk m c 13 t) (KernelIdeal.Gen.iblk m c 14 t) (KernelIdeal.Gen.iblk m c 15 t) := by
  unfold outsAt0 out0_A_17
  rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (hs0_12 t).read_unread, (hs0_13 t).read_unread,
    (hs0_14 t).read_unread, (hs0_15 t).read_unread, View.readCov_cons_toLoadRect]
  rw [View.canon_cons_unit_zero zeros2]
  rw [View.ld_unit_zero (S := S512x1024) zeros2 inb_S512x1024_S512x1024_0_0, View.ld_unit_zero (S := S512x512) zeros2 inb_S512x512_S512x512_0_0,
    View.ld_unit_zero (S := S512x256) zeros2 inb_S512x256_S512x256_0_0, View.ld_unit_zero (S := S512x256) zeros2 inb_S512x256_S512x256_0_0,
    View.ld_unit_zero (S := S512x1024) zeros2 inb_S512x1024_S512x1024_0_0, View.ld_unit_zero (S := S256x1024) zeros2 inb_S256x1024_S256x1024_0_0,
    View.ld_unit_zero (S := S256x1024) zeros2 inb_S256x1024_S256x1024_0_0, View.ld_unit_zero (S := S1x1024) zeros2 inb_S1x1024_S1x1024_0_0,
    View.ld_unit_zero (S := S1024x1024) zeros2 inb_S1024x1024_S1024x1024_0_0, View.ld_unit_zero (S := S1x1024) zeros2 inb_S1x1024_S1x1024_0_0,
    View.ld_unit_zero (S := S1024x2816) zeros2 inb_S1024x2816_S1024x2816_0_0, View.ld_unit_zero (S := S1024x2816) zeros2 inb_S1024x2816_S1024x2816_0_0,
    View.ld_unit_zero (S := S2816x1024) zeros2 inb_S2816x1024_S2816x1024_0_0]
  rfl

/-- The row of the residual stream the first layer leaves. -/
def result (c : Dev nD) (t : Fin 16384) : Fin 1024 → EReal :=
  fed (crossed (mixed (fun k => m ((c : Thread nD τ).loc main_arg0) (ix2 t k)) (fun k => m ((c : Thread nD τ).loc main_arg1) (ix2 t k))
      (fun k => m ((c : Thread nD τ).loc main_arg2) (ix2 t k)) (fun k => m ((c : Thread nD τ).loc main_arg3) (ix2 t k))
      (fun k c' => m ((c : Thread nD τ).loc main_arg4) (ix2 k c'))) (fun k => m ((c : Thread nD τ).loc main_arg5) (ix1 k))
      (fun k c' => m ((c : Thread nD τ).loc main_arg6) (ix2 k c')) (fun j k => m ((c : Thread nD τ).loc main_arg7) (ix2 j k))
      (fun j k => m ((c : Thread nD τ).loc main_arg8) (ix2 j k)) (fun k c' => m ((c : Thread nD τ).loc main_arg9) (ix2 k c')))
    (fun k => m ((c : Thread nD τ).loc main_arg10) (ix1 k))
    (fun k j => m ((c : Thread nD τ).loc main_arg11) (ix2 k ⟨j.val, by omega⟩))
    (fun k j => m ((c : Thread nD τ).loc main_arg11) (ix2 k ⟨2816 + j.val, by omega⟩))
    (fun j c' => m ((c : Thread nD τ).loc main_arg12) (ix2 j c'))

/-- The block a point leaves in the output's staging buffer, at a row and a column: the result of its row. -/
theorem outsAt0_apply (c : Dev nD) (t : Fin grid0.N) (r : Fin 512) (k : Fin 1024) (h : 512 * t.val + r.val < 16384) :
    outsAt0 m c t (ix2 r k) = result m c ⟨512 * t.val + r.val, h⟩ k := by
  rw [outsAt0_eq, blk_apply]
  have h1 := blk1_apply (KernelIdeal.Gen.iblk m c 0 t) (KernelIdeal.Gen.iblk m c 1 t) (KernelIdeal.Gen.iblk m c 2 t)
    (KernelIdeal.Gen.iblk m c 3 t) (KernelIdeal.Gen.iblk m c 4 t) (KernelIdeal.Gen.iblk m c 5 t) (KernelIdeal.Gen.iblk m c 6 t)
    (fun k c' => m ((c : Thread nD τ).loc main_arg4) (ix2 k c')) (stage4 m c t) (stage5 m c t) (stage6 m c t) r
  simp only [blk2_apply, h1, stage0 m c t r _ h, stage1 m c t r _ h, stage2 m c t r _ h, stage3 m c t r _ h, stage7 m c t,
    stage8 m c t, stage9 m c t, stage10 m c t, stage11 m c t, stage12 m c t, stage13 m c t, stage14 m c t, stage15 m c t]
  rfl

/-- The kernel's result array as one function of the arguments. -/
def final (c : Dev nD) : Buf (Elt Ideal) ((c : Thread nD τ).loc main_v3) := fun i => result m c (i 0) (i 1)

/-- The kernel's result array after the run. -/
theorem array_eq (c : Dev nD) : (dats m 0 c).arrAt 17 cfg0.N = final m c :=
  (dats m 0 c).arrAt_eq_of_cover 17 (final m c)
    (fun t _ => (Value.flushed17 m c t).trans (rows_read (result m c) _ t (outsAt0_apply m c t))) cover

/-- The reference's result, which is what the reference with the norm has before its norm, at a row and a column. -/
theorem ref_apply (x0 : Vec Ideal S16384x1024 .f32) (x1 : Vec Ideal S16384x512 .bf16) (x2 x3 : Vec Ideal S16384x256 .bf16)
    (x4 : Vec Ideal S1024x1024 .bf16) (x5 : Vec Ideal S1024 .f32) (x6 : Vec Ideal S1024x1024 .bf16)
    (x7 x8 : Vec Ideal S256x1024 .bf16) (x9 : Vec Ideal S1024x1024 .bf16) (x10 : Vec Ideal S1024 .f32)
    (x11 : Vec Ideal S1024x5632 .bf16) (x12 : Vec Ideal S2816x1024 .bf16) (t : Fin 16384) (c : Fin 1024) :
    Reference11Ideal.Read.val_main_v68 (F := Ideal) x0 x1 x2 x3 x4 x5 x6 x7 x8 x9 x10 x11 x12 (ix2 t c)
      = fed (crossed (mixed (fun k => x0 (ix2 t k)) (fun k => x1 (ix2 t k)) (fun k => x2 (ix2 t k)) (fun k => x3 (ix2 t k))
            fun k c => x4 (ix2 k c)) (fun k => x5 (ix1 k)) (fun k c => x6 (ix2 k c)) (fun j k => x7 (ix2 j k))
            (fun j k => x8 (ix2 j k)) fun k c => x9 (ix2 k c))
          (fun k => x10 (ix1 k)) (fun k j => x11 (ix2 k ⟨j.val, by omega⟩)) (fun k j => x11 (ix2 k ⟨2816 + j.val, by omega⟩))
          (fun j c => x12 (ix2 j c)) c := by
  refine (ref_fed x0 x1 x2 x3 x4 x5 x6 x7 x8 x9 x10 x11 x12 t c).trans ?_
  simp only [ref_act, ref_norm, ref_crossed, ref_mixed]
  rfl

/-- The reference's result is the kernel's. -/
theorem ref_eq (c : Dev nD) :
    Reference11Ideal.Read.val_main_v68 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) = final m c := by
  funext i
  have e : i = ix2 (i 0) (i 1) := by
    funext a
    match a with
    | ⟨0, _⟩ => rfl
    | ⟨1, _⟩ => rfl
  rw [e]
  exact ref_apply _ _ _ _ _ _ _ _ _ _ _ _ _ _ _

end Cert.FirstLayer

end
-- ==== Proof.FirstFfn.lean ====
/- The feed-forward step of the decoding rows without the closing norm, as the first layer runs it, in the kernel and in the
   reference.  The blocks are those of the program with the norm, and the step is `FirstLayer.fed`. -/
module

public import proofs.«01_k».proof.Proof.DecodeFfn
public import proofs.«01_k».proof.Proof.FirstLayer
public import proofs.«01_k».proof.Proof.Gen.Kernel12Ideal.Value
public import proofs.«01_k».proof.Proof.Gen.Reference12Ideal.Read

@[expose] public section

noncomputable section

namespace Cert.FirstLayer

open Idealize.ShloMosaic Idealize.ShloMosaic.TcCoe Idealize.SL.Sem Cert.Tail Cert.Decode

namespace Ffn

open Cert.Kernel12Ideal Cert.Kernel12Ideal.Gen Cert.Decode.Ffn

/-- The rows after the feed-forward step, from the arguments: the gate's weights are the first half of the columns, the other weights
    the second. -/
def fedArgs (x : Vec Ideal S32x1024 .f32) (g : Vec Ideal S1024 .f32) (w : Vec Ideal S1024x5632 .bf16) (wd : Vec Ideal S2816x1024 .bf16)
    (i : S32x1024.Idx) : EReal :=
  FirstLayer.fed (fun k => x (ix2 (i 0) k)) (fun k => g (ix1 k)) (fun k j => w (ix2 k ⟨j.val, by omega⟩))
    (fun k j => w (ix2 k ⟨2816 + j.val, by omega⟩)) (fun j c => wd (ix2 j c)) (i 1)

/-- The output block from the staged blocks: the norm, and the gated step added to the rows. -/
def step (x0 : Vec Ideal S32x1024 .f32) (x1 : Vec Ideal S1x1024 .f32) (x2 x3 : Vec Ideal S1024x2816 .bf16)
    (x4 : Vec Ideal S2816x1024 .bf16) : FVec Ideal S32x1024 .f32 :=
  k0_pay3 (k0_pay1 x0 x1) x2 x3 (k0_pay2 x0) x4

/-- The output block is the feed-forward step of its rows. -/
theorem step_apply (x0 : Vec Ideal S32x1024 .f32) (x1 : Vec Ideal S1x1024 .f32) (x2 x3 : Vec Ideal S1024x2816 .bf16)
    (x4 : Vec Ideal S2816x1024 .bf16) (r : Fin 32) (c : Fin 1024) :
    step x0 x1 x2 x3 x4 (ix2 r c)
      = FirstLayer.fed (fun k => x0 (ix2 r k)) (fun k => x1 (ix2 0 k)) (fun k j => x2 (ix2 k j)) (fun k j => x3 (ix2 k j))
          (fun j c => x4 (ix2 j c)) c := by
  pointwise [step, k0_pay3, k0_pay2, k0_pay1]
  rfl

variable (m : (ℓ : Loc nD τ sig) → Buf (Elt Ideal) ℓ)

/-- What the body leaves in the output's staging buffer, from the blocks that the program with the norm stages. -/
theorem outsAt0_eq (c : Dev nD) (t : Fin cfg0.N) :
    outsAt0 m c t = step (Kernel7Ideal.Gen.iblk m c 0 t) (Kernel7Ideal.Gen.iblk m c 1 t) (Kernel7Ideal.Gen.iblk m c 2 t)
      (Kernel7Ideal.Gen.iblk m c 3 t) (Kernel7Ideal.Gen.iblk m c 4 t) := by
  unfold outsAt0 out0_A_6
  rw [View.read_writes_eq_canon _ _ _ (cover0_A_6 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, View.readCov_cons_toLoadRect]
  rw [View.canon_cons_unit_zero zeros, View.ld_unit_zero (S := S32x1024) zeros inb_S32x1024_S32x1024_0_0,
    View.ld_unit_zero (S := S1x1024) zeros inb_S1x1024_S1x1024_0_0, View.ld_unit_zero (S := S1024x2816) zeros inb_S1024x2816_S1024x2816_0_0,
    View.ld_unit_zero (S := S1024x2816) zeros inb_S1024x2816_S1024x2816_0_0, View.ld_unit_zero (S := S2816x1024) zeros inb_S2816x1024_S2816x1024_0_0]
  rfl

/-- `fedArgs` of the arguments as launched. -/
abbrev launched (c : Dev nD) : S32x1024.Idx → EReal :=
  fedArgs (m ((c : Thread nD τ).loc main_arg0)) (m ((c : Thread nD τ).loc main_arg1)) (m ((c : Thread nD τ).loc main_arg2))
    (m ((c : Thread nD τ).loc main_arg3))

/-- The result of the kernel. -/
theorem array6 (c : Dev nD) : (dats m 0 c).arrAt 6 cfg0.N = launched m c := by
  refine (whole_block ((cfg0.win 6).blk pt).view.emb (congrFun (Value.blocks6 m c pt (flush0_6 pt))) (fun i => ?_) fun i => ?_).trans
    ((Value.flushed6 m c pt).trans ((outsAt0_eq m c pt).trans (array_ext fun r k => ?_)))
  · show Kernel7Ideal.win0_6.index pt 0 * 32 + 1 * (i 0).val = _
    rw [(index_at pt).2.2.2.2.2.2.1]
  · show Kernel7Ideal.win0_6.index pt 1 * 1024 + 1 * (i 1).val = _
    rw [(index_at pt).2.2.2.2.2.2.2]
  · rw [step_apply, stage0 m c, stage4 m c]
    simp only [stage1 m c, stage2 m c, stage3 m c]
    rfl

end Ffn

/-- The result of the reference, which is what the reference with the norm has before its norm. -/
theorem ref_step (x0 : Vec Ideal Kernel12Ideal.S32x1024 .f32) (x1 : Vec Ideal Kernel12Ideal.S1024 .f32)
    (x2 : Vec Ideal Kernel12Ideal.S1024x5632 .bf16) (x3 : Vec Ideal Kernel12Ideal.S2816x1024 .bf16) :
    Reference12Ideal.Read.val_main_v21 (F := Ideal) x0 x1 x2 x3 = Ffn.fedArgs x0 x1 x2 x3 :=
  array_ext fun r c => fed_sum x0 x1 x2 x3 r c

end Cert.FirstLayer

end
-- ==== Proof.FirstCross.lean ====
/- The decoding rows' reading of the first layer's memory, in the kernel and in the reference: what the programs for the second layer
   do with the two layers' memories swapped. -/
module

public import proofs.«01_k».proof.Proof.DecodeCross
public import proofs.«01_k».proof.Proof.DecodeCrossRef
public import proofs.«01_k».proof.Proof.Gen.Kernel13Ideal.Value
public import proofs.«01_k».proof.Proof.Gen.Reference13Ideal.Read

@[expose] public section

noncomputable section

namespace Cert.FirstLayer

open Idealize.ShloMosaic Idealize.ShloMosaic.TcCoe Idealize.SL.Sem Cert.Tail Cert.Decode

namespace Cross

open Cert.Kernel13Ideal Cert.Kernel13Ideal.Gen Cert.Decode.Cross

/-- The two layers' memories swapped. -/
def swap (x : Vec Ideal S2x32x256x4x256 .f32) : Vec Ideal S2x32x256x4x256 .f32 :=
  fun i => x (ix5 (Fin.rev (i 0)) (i 1) (i 2) (i 3) (i 4))

variable (m : (ℓ : Loc nD τ sig) → Buf (Elt Ideal) ℓ)

/-- The block of the memory's windows at a point of the grid. -/
theorem memory_at : ∀ t : Fin grid0.N, win0_1.index t 0 = 0 ∧ win0_1.index t 1 = t.val ∧ win0_1.index t 2 = 0
    ∧ win0_1.index t 3 = 0 ∧ win0_1.index t 4 = 0 := by
  decide +kernel

/-- The place in the memory of a place in a point's block of it. -/
theorem memory_place (t : Fin grid0.N) (j : Fin 256) (r : Fin 8) (l : Fin 128) :
    ((cfg0.win 1).blk t).view.emb (ix5 0 0 j r l) = ix5 0 (row t) j r l := by
  have e := memory_at t
  refine at_eq5 ?_ ?_ ?_ ?_ ?_
  · show win0_1.index t 0 * 1 + 1 * 0 = 0
    rw [e.1]
  · show win0_1.index t 1 * 1 + 1 * 0 = t.val
    rw [e.2.1]; omega
  · show win0_1.index t 2 * 256 + 1 * j.val = j.val
    rw [e.2.2.1]; omega
  · show win0_1.index t 3 * 8 + 1 * r.val = r.val
    rw [e.2.2.2.1]; omega
  · show win0_1.index t 4 * 128 + 1 * l.val = l.val
    rw [e.2.2.2.2]; omega

/-- What a point of the grid leaves in its output block. -/
theorem out3 (c : Dev nD) (t : Fin grid0.N) (r : Fin 8) (l : Fin 128) : out0_3 (iblk m c 0 t) (iblk m c 1 t) (iblk m c 2 t) (ix3 0 r l)
    = gathered (m ((c : Thread nD τ).loc main_arg0)) (swap (m ((c : Thread nD τ).loc main_arg1))) (swap (m ((c : Thread nD τ).loc main_arg2)))
        (ix3 (row t) r l) := by
  unfold out0_3
  rw [View.canon_cons_unit_zero zeros3, View.ld_unit_zero zeros5, View.ld_unit_zero zeros3, View.ld_unit_zero zeros5]
  exact pay_apply _ _ _ (fun h d => m ((c : Thread nD τ).loc main_arg0) (ix2 (row t) (unslot (at4 h d))))
    (fun j h d => m ((c : Thread nD τ).loc main_arg1) (ix5 0 (row t) j h d)) (fun j h d => m ((c : Thread nD τ).loc main_arg2) (ix5 0 (row t) j h d))
    (Decode.Cross.stage0 m c t)
    (fun j r l => (congrArg (V m c main_v2) (memory_place t j r l)).trans (V_key m c 0 (row t) j r l))
    (fun j r l => (congrArg (V m c main_v5) (memory_place t j r l)).trans (V_value m c 0 (row t) j r l)) r l

/-- `read` of the arguments as launched, the memories swapped. -/
abbrev launched (c : Dev nD) : S32x8x128.Idx → EReal :=
  read (m ((c : Thread nD τ).loc main_arg0)) (swap (m ((c : Thread nD τ).loc main_arg1))) (swap (m ((c : Thread nD τ).loc main_arg2)))

/-- The result of the kernel, when the queries and the keys are finite. -/
theorem array3 (c : Dev nD) (hq : ∀ i, Finite (m ((c : Thread nD τ).loc main_arg0) i))
    (hk : ∀ i, Finite (m ((c : Thread nD τ).loc main_arg1) i)) : (dats m 0 c).arrAt 3 cfg0.N = launched m c := by
  refine Eq.trans (funext fun i => ?_) (gathered_read (swap (m ((c : Thread nD τ).loc main_arg2))) hq fun i => hk _)
  refine (congrArg ((dats m 0 c).arrAt 3 cfg0.N) (place i).symm).trans ?_
  refine (congrFun (Value.blocks3 m c (i 0) (flush0_3 (i 0))) (ix3 0 (i 1) (i 2))).trans ?_
  refine (congrFun (Value.flushed3 m c (i 0)) (ix3 0 (i 1) (i 2))).trans ?_
  refine (out3 m c (i 0) (i 1) (i 2)).trans (congrArg _ ?_)
  exact at_eq3 rfl rfl rfl

end Cross

section Reference

open Cert.Reference13Ideal Cert.Reference13Ideal.Read

variable (x0 : (⟨S32x1024, .f32⟩ : BufTy).Contents (Elt Ideal)) (x1 x2 : (⟨S2x32x256x4x256, .f32⟩ : BufTy).Contents (Elt Ideal))

/-- The first layer's memory is the second layer's of the swapped memories. -/
theorem layer_swap (x : (⟨S2x32x256x4x256, .f32⟩ : BufTy).Contents (Elt Ideal)) :
    val_main_v4 (F := Ideal) x = Reference9Ideal.Read.val_main_v4 (Cross.swap x) := by
  funext i
  rw [val_main_v4_apply, val_main_v3_apply, Reference9Ideal.Read.val_main_v4_apply, Reference9Ideal.Read.val_main_v3_apply]
  exact congrArg x (Decode.Cross.at_eq5 rfl rfl rfl rfl rfl)

/-- The result of the reference. -/
theorem ref_cross : val_main_v24 x0 x1 x2 = Decode.Cross.read x0 (Cross.swap x1) (Cross.swap x2) := by
  refine Eq.trans ?_ (Decode.ref_cross x0 (Cross.swap x1) (Cross.swap x2))
  have hk := layer_swap x1
  have hv : val_main_v20 (F := Ideal) x2 = Reference9Ideal.Read.val_main_v20 (Cross.swap x2) := layer_swap x2
  unfold val_main_v24 val_main_v23 val_main_v22 val_main_v21 val_main_v18 val_main_v17 val_main_v16 val_main_v15 val_main_v14
    val_main_v13 val_main_v12 val_main_v11 val_main_v10 val_main_v8 val_main_v7 val_main_v5
  rw [hk, hv]
  rfl

end Reference

end Cert.FirstLayer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.ReferenceIdeal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite9
public import proofs.«01_k».proof.Proof.Array
public import proofs.«01_k».proof.Proof.Ref
public import proofs.«01_k».proof.Proof.InprojRef
public import proofs.«01_k».proof.Proof.MemkvRef
public import proofs.«01_k».proof.Proof.SampleRun
public import proofs.«01_k».proof.Proof.SampleFrame
public import proofs.«01_k».proof.Proof.SampleValue
public import proofs.«01_k».proof.Proof.SampleArray
public import proofs.«01_k».proof.Proof.SampleRef
public import proofs.«01_k».proof.Proof.Whole
public import proofs.«01_k».proof.Proof.Slots
public import proofs.«01_k».proof.Proof.DecodeIn
public import proofs.«01_k».proof.Proof.DecodeInRef
public import proofs.«01_k».proof.Proof.DecodeMix
public import proofs.«01_k».proof.Proof.DecodeFfn
public import proofs.«01_k».proof.Proof.DecodeQuery
public import proofs.«01_k».proof.Proof.Blend
public import proofs.«01_k».proof.Proof.DecodeCross
public import proofs.«01_k».proof.Proof.DecodeCrossRef
public import proofs.«01_k».proof.Proof.DecodeRead
public import Idealize.ShloMosaic.Adequacy
public import Idealize.ShloMosaic.Init
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.FirstLayer
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.FirstFfn
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.FirstCross

@[expose] public section

noncomputable section

namespace Cert.Proof

open Idealize.ShloMosaic Idealize.SL.Sem Cert.Kernel

/-- The reference's result is the kernel's, when the arguments agree. -/
theorem reference_eq (m : (ℓ : Loc KernelIdeal.nD KernelIdeal.τ KernelIdeal.sig) → Buf (Elt Ideal) ℓ) (c : Dev KernelIdeal.nD) :
    ReferenceIdeal.Read.val_main_v81 (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4))
      (m ((c.tc : Thread KernelIdeal.nD KernelIdeal.τ).loc KernelIdeal.main_arg5))
      (m ((c.tc : Thread KernelIdeal.nD KernelIdeal.τ).loc KernelIdeal.main_arg6))
      (m ((c.tc : Thread KernelIdeal.nD KernelIdeal.τ).loc KernelIdeal.main_arg7))
      (m ((c.tc : Thread KernelIdeal.nD KernelIdeal.τ).loc KernelIdeal.main_arg8))
      (m ((c.tc : Thread KernelIdeal.nD KernelIdeal.τ).loc KernelIdeal.main_arg9))
      (m ((c.tc : Thread KernelIdeal.nD KernelIdeal.τ).loc KernelIdeal.main_arg10))
      (m ((c.tc : Thread KernelIdeal.nD KernelIdeal.τ).loc KernelIdeal.main_arg11))
      (m ((c.tc : Thread KernelIdeal.nD KernelIdeal.τ).loc KernelIdeal.main_arg12))
      (m ((c.tc : Thread KernelIdeal.nD KernelIdeal.τ).loc KernelIdeal.main_arg13)) = Tail.final m c := by
  funext i
  have e : i = ix2 (i 0) (i 1) := by
    funext a
    match a with
    | ⟨0, _⟩ => rfl
    | ⟨1, _⟩ => rfl
  rw [e]
  exact Tail.ref_tail _ _ _ _ _ _ _ _ _ _ _ _ _ _ _ _

/-- The idealized kernel and the reference end with the same result from the same arguments. -/
theorem same : Cert.algebraic_KernelIdeal_ReferenceIdeal (hKernelIdeal := KernelIdeal.Gen.facts)
    (hReferenceIdeal := ReferenceIdeal.Gen.facts) := by
  intro m g m' g' _ hagree
  refine ⟨fun c => Tail.final m c, ?_, ?_⟩
  · exact (θ_run _ _ _).mono (fun r h c => ⟨(h c).1.trans (Tail.array_eq m c), (h c).2⟩) (KernelIdeal.Value.run_blocks m g)
  · refine (θ_run _ _ _).mono (fun r h c => ⟨(h c).1.trans ?_, (h c).2⟩) (ReferenceIdeal.Value.run m' g')
    rw [ReferenceIdeal.Read.val_main_v81_eq]
    obtain ⟨h0, h1, h2, h3, h4, h5, h6, h7, h8, h9, h10, h11, h12, h13⟩ := hagree c
    refine Eq.trans ?_ (reference_eq m c)
    rw [← h0, ← h1, ← h2, ← h3, ← h4, ← h5, ← h6, ← h7, ← h8, ← h9, ← h10, ← h11, ← h12, ← h13]

/-- The idealized kernel and the reference of the input projection end with the same results from the same arguments. -/
theorem same2 : Cert.algebraic_Kernel2Ideal_Reference2Ideal (hKernel2Ideal := Kernel2Ideal.Gen.facts)
    (hReference2Ideal := Reference2Ideal.Gen.facts) := by
  intro m g m' g' _ hagree
  refine ⟨fun c => Inproj.launched m c 512 0 (by omega), fun c => Inproj.launched m c 1024 512 (by omega), fun c => Inproj.launched m c 128 1536 (by omega), fun c => Inproj.launched m c 256 1664 (by omega), fun c => Inproj.launched m c 256 1920 (by omega), fun c => Inproj.launched m c 256 2176 (by omega), fun c => Inproj.launched m c 256 2432 (by omega), ?_, ?_⟩
  · exact (θ_run _ _ _).mono (fun r h c => ⟨(h c).1.trans (Inproj.array3 m c), (h c).2.1.trans (Inproj.array4 m c), (h c).2.2.1.trans (Inproj.array5 m c), (h c).2.2.2.1.trans (Inproj.array6 m c), (h c).2.2.2.2.1.trans (Inproj.array7 m c), (h c).2.2.2.2.2.1.trans (Inproj.array8 m c), (h c).2.2.2.2.2.2.1.trans (Inproj.array9 m c),
      (h c).2.2.2.2.2.2.2⟩) (Kernel2Ideal.Value.run_blocks m g)
  · refine (θ_run _ _ _).mono (fun r h c => ?_) (Reference2Ideal.Value.run m' g')
    obtain ⟨h0, h1, h2⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · rw [Reference2Ideal.Read.val_main_v15_eq, h0, h1, h2]
      exact Inproj.ref15 _ _ _
    · rw [Reference2Ideal.Read.val_main_v16_eq, h0, h1, h2]
      exact Inproj.ref16 _ _ _
    · rw [Reference2Ideal.Read.val_main_v17_eq, h0, h1, h2]
      exact Inproj.ref17 _ _ _
    · rw [Reference2Ideal.Read.val_main_v18_eq, h0, h1, h2]
      exact Inproj.ref18 _ _ _
    · rw [Reference2Ideal.Read.val_main_v19_eq, h0, h1, h2]
      exact Inproj.ref19 _ _ _
    · rw [Reference2Ideal.Read.val_main_v20_eq, h0, h1, h2]
      exact Inproj.ref20 _ _ _
    · rw [Reference2Ideal.Read.val_main_v21_eq, h0, h1, h2]
      exact Inproj.ref21 _ _ _

/-- The idealized kernel and the reference of the memory's keys and values end with the same results from the same arguments. -/
theorem same3 : Cert.algebraic_Kernel3Ideal_Reference3Ideal (hKernel3Ideal := Kernel3Ideal.Gen.facts)
    (hReference3Ideal := Reference3Ideal.Gen.facts) := by
  intro m g m' g' _ hagree
  refine ⟨fun c => Memkv.launched m c 0 (by omega), fun c => Memkv.launched m c 1024 (by omega), fun c => Memkv.launched m c 0 (by omega), fun c => Memkv.launched m c 1024 (by omega), ?_, ?_⟩
  · exact (θ_run _ _ _).mono (fun r h c => ⟨(h c).1.trans (Memkv.array3 m c), (h c).2.1.trans (Memkv.array4 m c), (h c).2.2.1.trans (Memkv.array5 m c), (h c).2.2.2.1.trans (Memkv.array6 m c),
      (h c).2.2.2.2⟩) (Kernel3Ideal.Value.run_blocks m g)
  · refine (θ_run _ _ _).mono (fun r h c => ?_) (Reference3Ideal.Value.run m' g')
    obtain ⟨h0, h1, h2⟩ := hagree c
    refine ⟨(h c).1.trans ?_, (h c).2.1.trans ?_, (h c).2.2.1.trans ?_, (h c).2.2.2.1.trans ?_, (h c).2.2.2.2⟩
    · rw [Reference3Ideal.Read.val_main_v15_eq, h0, h1, h2]
      exact Memkv.ref15 _ _ _
    · rw [Reference3Ideal.Read.val_main_v16_eq, h0, h1, h2]
      exact Memkv.ref16 _ _ _
    · rw [Reference3Ideal.Read.val_main_v17_eq, h0, h1, h2]
      exact Memkv.ref17 _ _ _
    · rw [Reference3Ideal.Read.val_main_v18_eq, h0, h1, h2]
      exact Memkv.ref18 _ _ _

/-- The idealized kernel and the reference of the decode step end with the same results from the same arguments. -/
theorem same4 : Cert.algebraic_Kernel4Ideal_Reference4Ideal (hKernel4Ideal := Kernel4Ideal.Gen.facts)
    (hReference4Ideal := Reference4Ideal.Gen.facts) := by
  intro m g m' g' _ hagree
  refine ⟨fun c => (Sample.launched m c).normed, fun c => (Sample.launched m c).pooled, fun c => (Sample.launched m c).kept, fun c => (Sample.launched m c).states, fun c => (Sample.launched m c).held, ?_, ?_⟩
  · exact (θ_run _ _ _).mono (fun r h c => ⟨(h c).1.trans (Sample.array16 m c), (h c).2.1.trans (Sample.array17 m c), (h c).2.2.1.trans (Sample.array18 m c), (h c).2.2.2.1.trans (Sample.array19 m c), (h c).2.2.2.2.1.trans (Sample.array20 m c),
      (h c).2.2.2.2.2⟩) (Kernel4Ideal.Value.run_blocks m g)
  · refine (θ_run _ _ _).mono (fun r h c => ?_) (Reference4Ideal.Value.run m' g')
    obtain ⟨h0, h1, h2, h3, h4, h5, h6, h7, h8, h9, h10, h11, h12, h13, h14⟩ := hagree c
    refine ⟨(h c).1.trans ?_, (h c).2.1.trans ?_, (h c).2.2.1.trans ?_, (h c).2.2.2.1.trans ?_, (h c).2.2.2.2.1.trans ?_, (h c).2.2.2.2.2⟩
    · rw [Reference4Ideal.Read.val_main_v114_eq, h0, h1, h2, h4, h5, h7, h8, h9, h10, h11, h12]
      exact Sample.ref114 (Sample.launched m c)
    · rw [Reference4Ideal.Read.val_main_v115_eq, h3, h6, h13, h14]
      exact Sample.ref115 (Sample.launched m c)
    · rw [Reference4Ideal.Read.val_main_v116_eq, h1, h4]
      exact Sample.ref116 (Sample.launched m c)
    · rw [Reference4Ideal.Read.val_main_v66_eq, h1, h2, h4, h5, h7, h8, h9, h10]
      exact Sample.ref66 (Sample.launched m c)
    · rw [Reference4Ideal.Read.val_main_v117_eq, h3, h6]
      exact Sample.ref117 (Sample.launched m c)

/-- The idealized kernel and the reference of the decoding rows' input projection end with the same results from the same arguments. -/
theorem same5 : Cert.algebraic_Kernel5Ideal_Reference5Ideal (hKernel5Ideal := Kernel5Ideal.Gen.facts)
    (hReference5Ideal := Reference5Ideal.Gen.facts) := by
  intro m g m' g' _ hagree
  refine ⟨fun c => Decode.launched m c 512 0 (by omega), fun c => Decode.launched m c 1024 512 (by omega), fun c => Decode.launched m c 128 1536 (by omega), fun c => Decode.launched m c 256 1664 (by omega), fun c => Decode.launched m c 256 1920 (by omega), fun c => Decode.launched m c 256 2176 (by omega), fun c => Decode.launched m c 256 2432 (by omega), ?_, ?_⟩
  · exact (θ_run _ _ _).mono (fun r h c => ⟨(h c).1.trans (Decode.array3 m c), (h c).2.1.trans (Decode.array4 m c), (h c).2.2.1.trans (Decode.array5 m c), (h c).2.2.2.1.trans (Decode.array6 m c), (h c).2.2.2.2.1.trans (Decode.array7 m c), (h c).2.2.2.2.2.1.trans (Decode.array8 m c), (h c).2.2.2.2.2.2.1.trans (Decode.array9 m c),
      (h c).2.2.2.2.2.2.2⟩) (Kernel5Ideal.Value.run_blocks m g)
  · refine (θ_run _ _ _).mono (fun r h c => ?_) (Reference5Ideal.Value.run m' g')
    obtain ⟨h0, h1, h2⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · rw [Reference5Ideal.Read.val_main_v15_eq, h0, h1, h2]
      exact Decode.ref15 _ _ _
    · rw [Reference5Ideal.Read.val_main_v16_eq, h0, h1, h2]
      exact Decode.ref16 _ _ _
    · rw [Reference5Ideal.Read.val_main_v17_eq, h0, h1, h2]
      exact Decode.ref17 _ _ _
    · rw [Reference5Ideal.Read.val_main_v18_eq, h0, h1, h2]
      exact Decode.ref18 _ _ _
    · rw [Reference5Ideal.Read.val_main_v19_eq, h0, h1, h2]
      exact Decode.ref19 _ _ _
    · rw [Reference5Ideal.Read.val_main_v20_eq, h0, h1, h2]
      exact Decode.ref20 _ _ _
    · rw [Reference5Ideal.Read.val_main_v21_eq, h0, h1, h2]
      exact Decode.ref21 _ _ _

/-- The idealized kernel and the reference of the mixers' output projection of the decoding rows end with the same result from the same arguments. -/
theorem same6 : Cert.algebraic_Kernel6Ideal_Reference6Ideal (hKernel6Ideal := Kernel6Ideal.Gen.facts)
    (hReference6Ideal := Reference6Ideal.Gen.facts) := by
  intro m g m' g' _ hagree
  refine ⟨fun c => Decode.Mix.launched m c, ?_, ?_⟩
  · exact (θ_run _ _ _).mono (fun r h c => ⟨(h c).1.trans (Decode.Mix.array7 m c), (h c).2⟩) (Kernel6Ideal.Value.run_blocks m g)
  · refine (θ_run _ _ _).mono (fun r h c => ⟨(h c).1.trans ?_, (h c).2⟩) (Reference6Ideal.Value.run m' g')
    obtain ⟨h0, h1, h2, h3, h4⟩ := hagree c
    rw [Reference6Ideal.Read.val_main_v3_eq, h0, h1, h2, h3, h4]
    exact Decode.ref_mix _ _ _ _ _

/-- The idealized kernel and the reference of the feed-forward step of the decoding rows end with the same result from the same arguments. -/
theorem same7 : Cert.algebraic_Kernel7Ideal_Reference7Ideal (hKernel7Ideal := Kernel7Ideal.Gen.facts)
    (hReference7Ideal := Reference7Ideal.Gen.facts) := by
  intro m g m' g' _ hagree
  refine ⟨fun c => Decode.Ffn.launched m c, ?_, ?_⟩
  · exact (θ_run _ _ _).mono (fun r h c => ⟨(h c).1.trans (Decode.Ffn.array6 m c), (h c).2⟩) (Kernel7Ideal.Value.run_blocks m g)
  · refine (θ_run _ _ _).mono (fun r h c => ⟨(h c).1.trans ?_, (h c).2⟩) (Reference7Ideal.Value.run m' g')
    obtain ⟨h0, h1, h2, h3, h4⟩ := hagree c
    rw [Reference7Ideal.Read.val_main_v34_eq, h0, h1, h2, h3, h4]
    exact Decode.ref_fed _ _ _ _ _

/-- The idealized kernel and the reference of the decoding rows' query projection end with the same result from the same arguments. -/
theorem same8 : Cert.algebraic_Kernel8Ideal_Reference8Ideal (hKernel8Ideal := Kernel8Ideal.Gen.facts)
    (hReference8Ideal := Reference8Ideal.Gen.facts) := by
  intro m g m' g' _ hagree
  refine ⟨fun c => Decode.Query.launched m c, ?_, ?_⟩
  · exact (θ_run _ _ _).mono (fun r h c => ⟨(h c).1.trans (Decode.Query.array3 m c), (h c).2⟩) (Kernel8Ideal.Value.run_blocks m g)
  · refine (θ_run _ _ _).mono (fun r h c => ⟨(h c).1.trans ?_, (h c).2⟩) (Reference8Ideal.Value.run m' g')
    obtain ⟨h0, h1, h2⟩ := hagree c
    rw [Reference8Ideal.Read.val_main_v17_eq, h0, h1, h2]
    exact Decode.ref_query _ _ _

/-- The idealized kernel and the reference of the decoding rows' reading of the memory end with the same result from the same
    arguments, when the queries and the memory's keys are finite. -/
theorem same9 : Cert.algebraic_Kernel9Ideal_Reference9Ideal_pre_finite9 (hKernel9Ideal := Kernel9Ideal.Gen.facts)
    (hReference9Ideal := Reference9Ideal.Gen.facts) (hPre_finite9 := Pre_finite9.Gen.facts) := by
  intro m g m' g' hpre hagree
  refine ⟨fun c => Decode.Cross.launched m c, ?_, ?_⟩
  · exact (θ_run _ _ _).mono (fun r h c => ⟨(h c).1.trans (Decode.Cross.array3 m c
      (@Decode.Cross.finite_args Pre_finite9.Gen.facts _ _ _ (hpre c)).1 (@Decode.Cross.finite_args Pre_finite9.Gen.facts _ _ _ (hpre c)).2), (h c).2⟩) (Kernel9Ideal.Value.run_blocks m g)
  · refine (θ_run _ _ _).mono (fun r h c => ⟨(h c).1.trans ?_, (h c).2⟩) (Reference9Ideal.Value.run m' g')
    obtain ⟨h0, h1, h2⟩ := hagree c
    rw [Reference9Ideal.Read.val_main_v24_eq, h0, h1, h2]
    exact Decode.ref_cross _ _ _

/-- The idealized kernel and the reference of the memory's output projection of the decoding rows end with the same result from the same arguments. -/
theorem same10 : Cert.algebraic_Kernel10Ideal_Reference10Ideal (hKernel10Ideal := Kernel10Ideal.Gen.facts)
    (hReference10Ideal := Reference10Ideal.Gen.facts) := by
  intro m g m' g' _ hagree
  refine ⟨fun c => Decode.Recall.launched m c, ?_, ?_⟩
  · exact (θ_run _ _ _).mono (fun r h c => ⟨(h c).1.trans (Decode.Recall.array3 m c), (h c).2⟩) (Kernel10Ideal.Value.run_blocks m g)
  · refine (θ_run _ _ _).mono (fun r h c => ⟨(h c).1.trans ?_, (h c).2⟩) (Reference10Ideal.Value.run m' g')
    obtain ⟨h0, h1, h2⟩ := hagree c
    rw [Reference10Ideal.Read.val_main_v5_eq, h0, h1, h2]
    exact Decode.ref_recall _ _ _

/-- The idealized kernel and the reference of the prompt rows' tail without the closing norm end with the same result from the same arguments. -/
theorem same11 : Cert.algebraic_Kernel11Ideal_Reference11Ideal (hKernel11Ideal := Kernel11Ideal.Gen.facts)
    (hReference11Ideal := Reference11Ideal.Gen.facts) := by
  intro m g m' g' _ hagree
  refine ⟨fun c => FirstLayer.final m c, ?_, ?_⟩
  · exact (θ_run _ _ _).mono (fun r h c => ⟨(h c).1.trans (FirstLayer.array_eq m c), (h c).2⟩) (Kernel11Ideal.Value.run_blocks m g)
  · refine (θ_run _ _ _).mono (fun r h c => ⟨(h c).1.trans ?_, (h c).2⟩) (Reference11Ideal.Value.run m' g')
    rw [Reference11Ideal.Read.val_main_v68_eq]
    obtain ⟨h0, h1, h2, h3, h4, h5, h6, h7, h8, h9, h10, h11, h12, _⟩ := hagree c
    refine Eq.trans ?_ (FirstLayer.ref_eq m c)
    rw [← h0, ← h1, ← h2, ← h3, ← h4, ← h5, ← h6, ← h7, ← h8, ← h9, ← h10, ← h11, ← h12]

/-- The idealized kernel and the reference of the decoding rows' feed-forward step without the closing norm end with the same result
    from the same arguments. -/
theorem same12 : Cert.algebraic_Kernel12Ideal_Reference12Ideal (hKernel12Ideal := Kernel12Ideal.Gen.facts)
    (hReference12Ideal := Reference12Ideal.Gen.facts) := by
  intro m g m' g' _ hagree
  refine ⟨fun c => FirstLayer.Ffn.launched m c, ?_, ?_⟩
  · exact (θ_run _ _ _).mono (fun r h c => ⟨(h c).1.trans (FirstLayer.Ffn.array6 m c), (h c).2⟩) (Kernel12Ideal.Value.run_blocks m g)
  · refine (θ_run _ _ _).mono (fun r h c => ⟨(h c).1.trans ?_, (h c).2⟩) (Reference12Ideal.Value.run m' g')
    obtain ⟨h0, h1, h2, h3, _⟩ := hagree c
    rw [Reference12Ideal.Read.val_main_v21_eq, h0, h1, h2, h3]
    exact FirstLayer.ref_step _ _ _ _

/-- The idealized kernel and the reference of the decoding rows' reading of the first layer's memory end with the same result from
    the same arguments, when the queries and the memory's keys are finite. -/
theorem same13 : Cert.algebraic_Kernel13Ideal_Reference13Ideal_pre_finite9 (hKernel13Ideal := Kernel13Ideal.Gen.facts)
    (hReference13Ideal := Reference13Ideal.Gen.facts) (hPre_finite9 := Pre_finite9.Gen.facts) := by
  intro m g m' g' hpre hagree
  refine ⟨fun c => FirstLayer.Cross.launched m c, ?_, ?_⟩
  · exact (θ_run _ _ _).mono (fun r h c => ⟨(h c).1.trans (FirstLayer.Cross.array3 m c
      (@Decode.Cross.finite_args Pre_finite9.Gen.facts _ _ _ (hpre c)).1 (@Decode.Cross.finite_args Pre_finite9.Gen.facts _ _ _ (hpre c)).2), (h c).2⟩) (Kernel13Ideal.Value.run_blocks m g)
  · refine (θ_run _ _ _).mono (fun r h c => ⟨(h c).1.trans ?_, (h c).2⟩) (Reference13Ideal.Value.run m' g')
    obtain ⟨h0, h1, h2⟩ := hagree c
    rw [Reference13Ideal.Read.val_main_v24_eq, h0, h1, h2]
    exact FirstLayer.ref_cross _ _ _

/-- Every claim of the certificate. -/
theorem claim : Cert.Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Pre_finite9.Gen.facts,
  fun m ρ _ => Kernel.Gen.frame m ρ, fun m ρ _ => KernelIdeal.Gen.frame m ρ,
  fun m ρ _ => (θ_run _ _ _).mono (fun r h => ⟨fun c => (h c).2, sem_eq_zero_of_no_sems (by decide) r.2⟩)
    (ReferenceIdeal.Value.run m ρ),
  fun m ρ _ => Kernel2.Gen.frame m ρ, fun m ρ _ => Kernel2Ideal.Gen.frame m ρ,
  fun m ρ _ => (θ_run _ _ _).mono (fun r h => ⟨fun c => (h c).2.2.2.2.2.2.2, sem_eq_zero_of_no_sems (by decide) r.2⟩)
    (Reference2Ideal.Value.run m ρ),
  fun m ρ _ => Kernel3.Gen.frame m ρ, fun m ρ _ => Kernel3Ideal.Gen.frame m ρ,
  fun m ρ _ => (θ_run _ _ _).mono (fun r h => ⟨fun c => (h c).2.2.2.2, sem_eq_zero_of_no_sems (by decide) r.2⟩)
    (Reference3Ideal.Value.run m ρ),
  fun m ρ _ => Kernel4.Gen.frame m ρ, fun m ρ _ => Kernel4Ideal.Gen.frame m ρ,
  fun m ρ _ => (θ_run _ _ _).mono (fun r h => ⟨fun c => (h c).2.2.2.2.2, sem_eq_zero_of_no_sems (by decide) r.2⟩)
    (Reference4Ideal.Value.run m ρ),
  fun m ρ _ => Kernel5.Gen.frame m ρ, fun m ρ _ => Kernel5Ideal.Gen.frame m ρ,
  fun m ρ _ => (θ_run _ _ _).mono (fun r h => ⟨fun c => (h c).2.2.2.2.2.2.2, sem_eq_zero_of_no_sems (by decide) r.2⟩)
    (Reference5Ideal.Value.run m ρ),
  fun m ρ _ => Kernel6.Gen.frame m ρ, fun m ρ _ => Kernel6Ideal.Gen.frame m ρ,
  fun m ρ _ => (θ_run _ _ _).mono (fun r h => ⟨fun c => (h c).2, sem_eq_zero_of_no_sems (by decide) r.2⟩)
    (Reference6Ideal.Value.run m ρ),
  fun m ρ _ => Kernel7.Gen.frame m ρ, fun m ρ _ => Kernel7Ideal.Gen.frame m ρ,
  fun m ρ _ => (θ_run _ _ _).mono (fun r h => ⟨fun c => (h c).2, sem_eq_zero_of_no_sems (by decide) r.2⟩)
    (Reference7Ideal.Value.run m ρ),
  fun m ρ _ => Kernel8.Gen.frame m ρ, fun m ρ _ => Kernel8Ideal.Gen.frame m ρ,
  fun m ρ _ => (θ_run _ _ _).mono (fun r h => ⟨fun c => (h c).2, sem_eq_zero_of_no_sems (by decide) r.2⟩)
    (Reference8Ideal.Value.run m ρ),
  fun m ρ _ => Kernel9.Gen.frame m ρ, fun m ρ _ => Kernel9Ideal.Gen.frame m ρ, fun m ρ _ => Kernel9Ideal.Gen.frame m ρ,
  fun m ρ _ => (θ_run _ _ _).mono (fun r h => ⟨fun c => (h c).2, sem_eq_zero_of_no_sems (by decide) r.2⟩)
    (Reference9Ideal.Value.run m ρ),
  fun m ρ _ => (θ_run _ _ _).mono (fun r h => ⟨fun c => (h c).2, sem_eq_zero_of_no_sems (by decide) r.2⟩)
    (Reference9Ideal.Value.run m ρ),
  fun m ρ _ => Kernel10.Gen.frame m ρ, fun m ρ _ => Kernel10Ideal.Gen.frame m ρ,
  fun m ρ _ => (θ_run _ _ _).mono (fun r h => ⟨fun c => (h c).2, sem_eq_zero_of_no_sems (by decide) r.2⟩)
    (Reference10Ideal.Value.run m ρ),
  fun m ρ _ => Kernel11.Gen.frame m ρ, fun m ρ _ => Kernel11Ideal.Gen.frame m ρ,
  fun m ρ _ => (θ_run _ _ _).mono (fun r h => ⟨fun c => (h c).2, sem_eq_zero_of_no_sems (by decide) r.2⟩)
    (Reference11Ideal.Value.run m ρ),
  fun m ρ _ => Kernel12.Gen.frame m ρ, fun m ρ _ => Kernel12Ideal.Gen.frame m ρ,
  fun m ρ _ => (θ_run _ _ _).mono (fun r h => ⟨fun c => (h c).2, sem_eq_zero_of_no_sems (by decide) r.2⟩)
    (Reference12Ideal.Value.run m ρ),
  fun m ρ _ => Kernel13.Gen.frame m ρ, fun m ρ _ => Kernel13Ideal.Gen.frame m ρ, fun m ρ _ => Kernel13Ideal.Gen.frame m ρ,
  fun m ρ _ => (θ_run _ _ _).mono (fun r h => ⟨fun c => (h c).2, sem_eq_zero_of_no_sems (by decide) r.2⟩)
    (Reference13Ideal.Value.run m ρ),
  fun m ρ _ => (θ_run _ _ _).mono (fun r h => ⟨fun c => (h c).2, sem_eq_zero_of_no_sems (by decide) r.2⟩)
    (Reference13Ideal.Value.run m ρ),
  trivial, same, trivial, same2, trivial, same3, trivial, same4, trivial, same5, trivial, same6, trivial, same7, trivial, same8, trivial, same9, trivial, same10, trivial, same11, trivial, same12, trivial, same13⟩

end Cert.Proof

end
